-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def preserves_Kernel_KernelIdeal : Prop :=
  True

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)) (v3 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_v1_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v64) = v2 c
          ∧ r.2.mem ((c.tc : Thread Cert.ReferenceIdeal.nD Cert.ReferenceIdeal.τ).loc Cert.ReferenceIdeal.main_v63) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)) (v4 : (c : Dev Cert.Kernel2Ideal.nD) → Buf (Elt Ideal) ((c.tc : Thread Cert.Kernel2Ideal.nD Cert.Kernel2Ideal.τ).loc Cert.Kernel2Ideal.main_v0_4)) (v5 : (c : Dev Cert.Kernel2Ideal.nD) → Buf (Elt Ideal) ((c.tc : Thread Cert.Kernel2Ideal.nD Cert.Kernel2Ideal.τ).loc Cert.Kernel2Ideal.main_v0_5)) (v6 : (c : Dev Cert.Kernel2Ideal.nD) → Buf (Elt Ideal) ((c.tc : Thread Cert.Kernel2Ideal.nD Cert.Kernel2Ideal.τ).loc Cert.Kernel2Ideal.main_v0_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_v0_4) = v4 c
          ∧ r.2.mem ((c.tc : Thread Cert.Kernel2Ideal.nD Cert.Kernel2Ideal.τ).loc Cert.Kernel2Ideal.main_v0_5) = v5 c
          ∧ r.2.mem ((c.tc : Thread Cert.Kernel2Ideal.nD Cert.Kernel2Ideal.τ).loc Cert.Kernel2Ideal.main_v0_6) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_v40) = v1 c
          ∧ r.2.mem ((c.tc : Thread Cert.Reference2Ideal.nD Cert.Reference2Ideal.τ).loc Cert.Reference2Ideal.main_v42) = v2 c
          ∧ r.2.mem ((c.tc : Thread Cert.Reference2Ideal.nD Cert.Reference2Ideal.τ).loc Cert.Reference2Ideal.main_v44) = v3 c
          ∧ r.2.mem ((c.tc : Thread Cert.Reference2Ideal.nD Cert.Reference2Ideal.τ).loc Cert.Reference2Ideal.main_v46) = v4 c
          ∧ r.2.mem ((c.tc : Thread Cert.Reference2Ideal.nD Cert.Reference2Ideal.τ).loc Cert.Reference2Ideal.main_v47) = v5 c
          ∧ r.2.mem ((c.tc : Thread Cert.Reference2Ideal.nD Cert.Reference2Ideal.τ).loc Cert.Reference2Ideal.main_v48) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v0)) (v1 : (c : Dev Cert.Kernel3Ideal.nD) → Buf (Elt Ideal) ((c.tc : Thread Cert.Kernel3Ideal.nD Cert.Kernel3Ideal.τ).loc Cert.Kernel3Ideal.main_v1)) (v2 : (c : Dev Cert.Kernel3Ideal.nD) → Buf (Elt Ideal) ((c.tc : Thread Cert.Kernel3Ideal.nD Cert.Kernel3Ideal.τ).loc Cert.Kernel3Ideal.main_v2)) (v3 : (c : Dev Cert.Kernel3Ideal.nD) → Buf (Elt Ideal) ((c.tc : Thread Cert.Kernel3Ideal.nD Cert.Kernel3Ideal.τ).loc Cert.Kernel3Ideal.main_v3)) (v4 : (c : Dev Cert.Kernel3Ideal.nD) → Buf (Elt Ideal) ((c.tc : Thread Cert.Kernel3Ideal.nD Cert.Kernel3Ideal.τ).loc Cert.Kernel3Ideal.main_v5)) (v5 : (c : Dev Cert.Kernel3Ideal.nD) → Buf (Elt Ideal) ((c.tc : Thread Cert.Kernel3Ideal.nD Cert.Kernel3Ideal.τ).loc Cert.Kernel3Ideal.main_v7)) (v6 : (c : Dev Cert.Kernel3Ideal.nD) → Buf (Elt Ideal) ((c.tc : Thread Cert.Kernel3Ideal.nD Cert.Kernel3Ideal.τ).loc Cert.Kernel3Ideal.main_v9)) (v7 : (c : Dev Cert.Kernel3Ideal.nD) → Buf (Elt Ideal) ((c.tc : Thread Cert.Kernel3Ideal.nD Cert.Kernel3Ideal.τ).loc Cert.Kernel3Ideal.main_v10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_v1) = v1 c
          ∧ r.2.mem ((c.tc : Thread Cert.Kernel3Ideal.nD Cert.Kernel3Ideal.τ).loc Cert.Kernel3Ideal.main_v2) = v2 c
          ∧ r.2.mem ((c.tc : Thread Cert.Kernel3Ideal.nD Cert.Kernel3Ideal.τ).loc Cert.Kernel3Ideal.main_v3) = v3 c
          ∧ r.2.mem ((c.tc : Thread Cert.Kernel3Ideal.nD Cert.Kernel3Ideal.τ).loc Cert.Kernel3Ideal.main_v5) = v4 c
          ∧ r.2.mem ((c.tc : Thread Cert.Kernel3Ideal.nD Cert.Kernel3Ideal.τ).loc Cert.Kernel3Ideal.main_v7) = v5 c
          ∧ r.2.mem ((c.tc : Thread Cert.Kernel3Ideal.nD Cert.Kernel3Ideal.τ).loc Cert.Kernel3Ideal.main_v9) = v6 c
          ∧ r.2.mem ((c.tc : Thread Cert.Kernel3Ideal.nD Cert.Kernel3Ideal.τ).loc Cert.Kernel3Ideal.main_v10) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_v14) = v1 c
          ∧ r.2.mem ((c.tc : Thread Cert.Reference3Ideal.nD Cert.Reference3Ideal.τ).loc Cert.Reference3Ideal.main_v19) = v2 c
          ∧ r.2.mem ((c.tc : Thread Cert.Reference3Ideal.nD Cert.Reference3Ideal.τ).loc Cert.Reference3Ideal.main_v24) = v3 c
          ∧ r.2.mem ((c.tc : Thread Cert.Reference3Ideal.nD Cert.Reference3Ideal.τ).loc Cert.Reference3Ideal.main_v29) = v4 c
          ∧ r.2.mem ((c.tc : Thread Cert.Reference3Ideal.nD Cert.Reference3Ideal.τ).loc Cert.Reference3Ideal.main_v34) = v5 c
          ∧ r.2.mem ((c.tc : Thread Cert.Reference3Ideal.nD Cert.Reference3Ideal.τ).loc Cert.Reference3Ideal.main_v39) = v6 c
          ∧ r.2.mem ((c.tc : Thread Cert.Reference3Ideal.nD Cert.Reference3Ideal.τ).loc Cert.Reference3Ideal.main_v45) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v38) = v0 c
          ∧ r.2.mem ((c.tc : Thread Cert.Reference4Ideal.nD Cert.Reference4Ideal.τ).loc Cert.Reference4Ideal.main_v21) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v20) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v23) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)) (v4 : (c : Dev Cert.Kernel7Ideal.nD) → Buf (Elt Ideal) ((c.tc : Thread Cert.Kernel7Ideal.nD Cert.Kernel7Ideal.τ).loc Cert.Kernel7Ideal.main_v0_4)) (v5 : (c : Dev Cert.Kernel7Ideal.nD) → Buf (Elt Ideal) ((c.tc : Thread Cert.Kernel7Ideal.nD Cert.Kernel7Ideal.τ).loc Cert.Kernel7Ideal.main_v0_5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_v0_4) = v4 c
          ∧ r.2.mem ((c.tc : Thread Cert.Kernel7Ideal.nD Cert.Kernel7Ideal.τ).loc Cert.Kernel7Ideal.main_v0_5) = v5 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v51) = v0 c
          ∧ r.2.mem ((c.tc : Thread Cert.Reference7Ideal.nD Cert.Reference7Ideal.τ).loc Cert.Reference7Ideal.main_v34) = v1 c
          ∧ r.2.mem ((c.tc : Thread Cert.Reference7Ideal.nD Cert.Reference7Ideal.τ).loc Cert.Reference7Ideal.main_v52) = v2 c
          ∧ r.2.mem ((c.tc : Thread Cert.Reference7Ideal.nD Cert.Reference7Ideal.τ).loc Cert.Reference7Ideal.main_v53) = v3 c
          ∧ r.2.mem ((c.tc : Thread Cert.Reference7Ideal.nD Cert.Reference7Ideal.τ).loc Cert.Reference7Ideal.main_v54) = v4 c
          ∧ r.2.mem ((c.tc : Thread Cert.Reference7Ideal.nD Cert.Reference7Ideal.τ).loc Cert.Reference7Ideal.main_v55) = v5 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v13) = v0 c
          ∧ r.2.mem ((c.tc : Thread Cert.Reference8Ideal.nD Cert.Reference8Ideal.τ).loc Cert.Reference8Ideal.main_v14) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_all_finite : Cert.Pre_all_finite.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_all_finite (hKernelIdeal := hKernelIdeal) (hReferenceIdeal := hReferenceIdeal) (hPre_all_finite := hPre_all_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_all_finite.lean ====
abbrev S8192x1024 : Shape := ⟨2, ![8192, 1024]⟩
abbrev S8192x512 : Shape := ⟨2, ![8192, 512]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S8192x512 : S_.BroadcastsInDim S8192x512 (![] : Fin 0 → Fin S8192x512.rank)

variable [Facts]

def fn {F : FTy → Type} [FloatOps F] (main_arg0 : FVec F S8192x1024 .bf16) (main_arg1 : FVec F S8192x1024 .bf16) (main_arg2 : FVec F S8192x512 .bf16) (main_arg3 : FVec F S8192x512 .f32) : IVec S8192x1024 1 × IVec S8192x1024 1 × IVec S8192x512 1 × IVec S8192x512 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S8192x1024 .f32 := (extf .f32 · bitsLt_bf16_f32) main_arg1
  let main_v5 : FVec F S8192x1024 .f32 := Host.absf main_v4
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  let main_v8 : FVec F S8192x512 .f32 := (extf .f32 · bitsLt_bf16_f32) main_arg2
  let main_v9 : FVec F S8192x512 .f32 := Host.absf main_v8
  let main_cst_1 : FVec F S_ .f32 := constant S_ .f32 0x7F800000#32
  let main_v10 : FVec F S8192x512 .f32 := broadcastInDim S8192x512 ![] bcast_S_S8192x512 main_cst_1
  let main_v11 : IVec S8192x512 1 := cmpf .olt main_v9 main_v10
  let main_v12 : FVec F S8192x512 .f32 := Host.absf main_arg3
  let main_cst_2 : FVec F S_ .f32 := constant S_ .f32 0x7F800000#32
  let main_v13 : FVec F S8192x512 .f32 := broadcastInDim S8192x512 ![] bcast_S_S8192x512 main_cst_2
  let main_v14 : IVec S8192x512 1 := cmpf .olt main_v12 main_v13
  (main_v3, main_v7, main_v11, main_v14)
-- ==== Kernel.lean ====
abbrev S8192x1024 : Shape := ⟨2, ![8192, 1024]⟩
abbrev S8192x512 : Shape := ⟨2, ![8192, 512]⟩
abbrev S256x256 : Shape := ⟨2, ![256, 256]⟩
abbrev S2048x256 : Shape := ⟨2, ![2048, 256]⟩
abbrev S2048x128 : Shape := ⟨2, ![2048, 128]⟩
abbrev S256x128 : Shape := ⟨2, ![256, 128]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 28
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x512, .bf16⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x1024, .f32⟩
  | .hbm, ⟨7, _⟩ => ⟨S8192x1024, .f32⟩
  | .hbm, ⟨8, _⟩ => ⟨S8192x512, .f32⟩
  | .local _ .vmem, ⟨0, _⟩ => ⟨S256x256, .bf16⟩
  | .local _ .vmem, ⟨1, _⟩ => ⟨S256x256, .bf16⟩
  | .local _ .vmem, ⟨2, _⟩ => ⟨S2048x256, .bf16⟩
  | .local _ .vmem, ⟨3, _⟩ => ⟨S2048x256, .bf16⟩
  | .local _ .vmem, ⟨4, _⟩ => ⟨S2048x128, .bf16⟩
  | .local _ .vmem, ⟨5, _⟩ => ⟨S2048x128, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x256, .bf16⟩
  | .local _ .vmem, ⟨11, _⟩ => ⟨S256x256, .bf16⟩
  | .local _ .vmem, ⟨12, _⟩ => ⟨S2048x256, .bf16⟩
  | .local _ .vmem, ⟨13, _⟩ => ⟨S2048x256, .bf16⟩
  | .local _ .vmem, ⟨14, _⟩ => ⟨S2048x128, .bf16⟩
  | .local _ .vmem, ⟨15, _⟩ => ⟨S2048x128, .bf16⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S256x256, .f32⟩
  | .local _ .vmem, ⟨23, _⟩ => ⟨S256x256, .f32⟩
  | .local _ .vmem, ⟨24, _⟩ => ⟨S2048x256, .f32⟩
  | .local _ .vmem, ⟨25, _⟩ => ⟨S2048x256, .f32⟩
  | .local _ .vmem, ⟨26, _⟩ => ⟨S2048x128, .f32⟩
  | .local _ .vmem, ⟨27, _⟩ => ⟨S2048x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev grid1 : Pipeline.Grid := ⟨3, ![4, 4, 8], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_8 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S256x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S256x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev stage1_5 : Fin 2 → Memref sig .tc .vmem S256x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]

abbrev stage1_6 : Fin 2 → Memref sig .tc .vmem S256x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, true]

abbrev stage1_7 : Fin 2 → Memref sig .tc .vmem S2048x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, false]

abbrev stage1_8 : Fin 2 → Memref sig .tc .vmem S2048x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true, false]
-- ==== ReferenceIdeal.lean ====
abbrev S8192x1024 : Shape := ⟨2, ![8192, 1024]⟩
abbrev S8192x512 : Shape := ⟨2, ![8192, 512]⟩
abbrev S4x2048x8x128 : Shape := ⟨4, ![4, 2048, 8, 128]⟩
abbrev S4x2048x8x64 : Shape := ⟨4, ![4, 2048, 8, 64]⟩
abbrev S4x8x2048x2048 : Shape := ⟨4, ![4, 8, 2048, 2048]⟩
abbrev S_ : Shape := ⟨0, ![]⟩
abbrev S4x8x2048 : Shape := ⟨3, ![4, 8, 2048]⟩
abbrev S4x8x2048x1 : Shape := ⟨4, ![4, 8, 2048, 1]⟩
abbrev S4x8x64x2048 : Shape := ⟨4, ![4, 8, 64, 2048]⟩
abbrev S4x8x2048x128 : Shape := ⟨4, ![4, 8, 2048, 128]⟩

abbrev nBuf : Space → Nat
  | .hbm => 84
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x512, .bf16⟩
  | .hbm, ⟨3, _⟩ => ⟨S8192x512, .f32⟩
  | .hbm, ⟨4, _⟩ => ⟨S8192x1024, .f32⟩
  | .hbm, ⟨5, _⟩ => ⟨S8192x1024, .f32⟩
  | .hbm, ⟨6, _⟩ => ⟨S8192x512, .f32⟩
  | .hbm, ⟨7, _⟩ => ⟨S4x2048x8x128, .f32⟩
  | .hbm, ⟨8, _⟩ => ⟨S4x2048x8x128, .f32⟩
  | .hbm, ⟨9, _⟩ => ⟨S4x2048x8x64, .f32⟩
  | .hbm, ⟨10, _⟩ => ⟨S4x8x2048x2048, .f32⟩
  | .hbm, ⟨11, _⟩ => ⟨S_, .f32⟩
  | .hbm, ⟨12, _⟩ => ⟨S4x8x2048x2048, .f32⟩
  | .hbm, ⟨13, _⟩ => ⟨S4x8x2048x2048, .f32⟩
  | .hbm, ⟨14, _⟩ => ⟨S_, .f32⟩
  | .hbm, ⟨15, _⟩ => ⟨S4x8x2048, .f32⟩
  | .hbm, ⟨16, _⟩ => ⟨S4x8x2048x1, .f32⟩
  | .hbm, ⟨17, _⟩ => ⟨S4x8x2048x2048, .f32⟩
  | .hbm, ⟨18, _⟩ => ⟨S4x8x2048x2048, .i1⟩
  | .hbm, ⟨19, _⟩ => ⟨S4x8x2048x2048, .f32⟩
  | .hbm, ⟨20, _⟩ => ⟨S_, .f32⟩
  | .hbm, ⟨21, _⟩ => ⟨S4x8x2048, .f32⟩
  | .hbm, ⟨22, _⟩ => ⟨S_, .f32⟩
  | .hbm, ⟨23, _⟩ => ⟨S4x8x2048, .f32⟩
  | .hbm, ⟨24, _⟩ => ⟨S4x8x2048, .f32⟩
  | .hbm, ⟨25, _⟩ => ⟨S_, .f32⟩
  | .hbm, ⟨26, _⟩ => ⟨S4x8x2048, .f32⟩
  | .hbm, ⟨27, _⟩ => ⟨S4x8x2048, .i1⟩
  | .hbm, ⟨28, _⟩ => ⟨S_, .f32⟩
  | .hbm, ⟨29, _⟩ => ⟨S4x8x2048, .f32⟩
  | .hbm, ⟨30, _⟩ => ⟨S4x8x2048, .i1⟩
  | .hbm, ⟨31, _⟩ => ⟨S_, .f32⟩
  | .hbm, ⟨32, _⟩ => ⟨S4x8x2048, .f32⟩
  | .hbm, ⟨33, _⟩ => ⟨S_, .f32⟩
  | .hbm, ⟨34, _⟩ => ⟨S4x8x2048, .f32⟩
  | .hbm, ⟨35, _⟩ => ⟨S_, .f32⟩
  | .hbm, ⟨36, _⟩ => ⟨S4x8x2048, .f32⟩
  | .hbm, ⟨37, _⟩ => ⟨S4x8x2048, .f32⟩
  | .hbm, ⟨38, _⟩ => ⟨S4x8x2048, .f32⟩
  | .hbm, ⟨39, _⟩ => ⟨S4x8x2048x1, .f32⟩
  | .hbm, ⟨40, _⟩ => ⟨S4x8x2048x2048, .f32⟩
  | .hbm, ⟨41, _⟩ => ⟨S4x8x2048x2048, .f32⟩
  | .hbm, ⟨42, _⟩ => ⟨S4x8x2048x2048, .f32⟩
  | .hbm, ⟨43, _⟩ => ⟨S_, .f32⟩
  | .hbm, ⟨44, _⟩ => ⟨S4x8x2048, .f32⟩
  | .hbm, ⟨45, _⟩ => ⟨S4x8x2048x1, .f32⟩
  | .hbm, ⟨46, _⟩ => ⟨S4x8x2048x2048, .f32⟩
  | .hbm, ⟨47, _⟩ => ⟨S4x8x2048x2048, .f32⟩
  | .hbm, ⟨48, _⟩ => ⟨S4x8x2048x1, .f32⟩
  | .hbm, ⟨49, _⟩ => ⟨S_, .f32⟩
  | .hbm, ⟨50, _⟩ => ⟨S4x8x2048x1, .f32⟩
  | .hbm, ⟨51, _⟩ => ⟨S4x8x2048x1, .f32⟩
  | .hbm, ⟨52, _⟩ => ⟨S4x8x64x2048, .f32⟩
  | .hbm, ⟨53, _⟩ => ⟨S4x2048x8x64, .f32⟩
  | .hbm, ⟨54, _⟩ => ⟨S8192x512, .f32⟩
  | .hbm, ⟨55, _⟩ => ⟨S4x2048x8x64, .f32⟩
  | .hbm, ⟨56, _⟩ => ⟨S4x8x64x2048, .f32⟩
  | .hbm, ⟨57, _⟩ => ⟨S4x8x2048x2048, .f32⟩
  | .hbm, ⟨58, _⟩ => ⟨S4x8x64x2048, .f32⟩
  | .hbm, ⟨59, _⟩ => ⟨S4x2048x8x64, .f32⟩
  | .hbm, ⟨60, _⟩ => ⟨S4x8x2048x2048, .f32⟩
  | .hbm, ⟨61, _⟩ => ⟨S4x8x2048x2048, .f32⟩
  | .hbm, ⟨62, _⟩ => ⟨S4x8x2048x2048, .f32⟩
  | .hbm, ⟨63, _⟩ => ⟨S_, .f32⟩
  | .hbm, ⟨64, _⟩ => ⟨S4x8x2048, .f32⟩
  | .hbm, ⟨65, _⟩ => ⟨S4x8x2048x1, .f32⟩
  | .hbm, ⟨66, _⟩ => ⟨S4x8x2048x1, .f32⟩
  | .hbm, ⟨67, _⟩ => ⟨S4x8x2048x2048, .f32⟩
  | .hbm, ⟨68, _⟩ => ⟨S4x8x2048x2048, .f32⟩
  | .hbm, ⟨69, _⟩ => ⟨S_, .f32⟩
  | .hbm, ⟨70, _⟩ => ⟨S4x8x2048, .f32⟩
  | .hbm, ⟨71, _⟩ => ⟨S4x8x2048x2048, .f32⟩
  | .hbm, ⟨72, _⟩ => ⟨S4x8x2048x2048, .f32⟩
  | .hbm, ⟨73, _⟩ => ⟨S4x8x2048x2048, .f32⟩
  | .hbm, ⟨74, _⟩ => ⟨S_, .f32⟩
  | .hbm, ⟨75, _⟩ => ⟨S4x8x2048x2048, .f32⟩
  | .hbm, ⟨76, _⟩ => ⟨S4x8x2048x2048, .f32⟩
  | .hbm, ⟨77, _⟩ => ⟨S4x8x2048x128, .f32⟩
  | .hbm, ⟨78, _⟩ => ⟨S4x2048x8x128, .f32⟩
  | .hbm, ⟨79, _⟩ => ⟨S4x8x2048x128, .f32⟩
  | .hbm, ⟨80, _⟩ => ⟨S4x2048x8x128, .f32⟩
  | .hbm, ⟨81, _⟩ => ⟨S8192x512, .f32⟩
  | .hbm, ⟨82, _⟩ => ⟨S8192x1024, .f32⟩
  | .hbm, ⟨83, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_10 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_11 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_12 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩

abbrev nD : Nat := 1
abbrev τ : Topo := Topo.v7x

variable {F : FTy → Type} [FloatOps F]
-- ==== Kernel2.lean ====
abbrev S8192x1024 : Shape := ⟨2, ![8192, 1024]⟩
abbrev S8192x7168 : Shape := ⟨2, ![8192, 7168]⟩
abbrev S8192x512 : Shape := ⟨2, ![8192, 512]⟩
abbrev S1x3072 : Shape := ⟨2, ![1, 3072]⟩
abbrev S3x512x1024 : Shape := ⟨3, ![3, 512, 1024]⟩
abbrev S1024x1024 : Shape := ⟨2, ![1024, 1024]⟩
abbrev S8192x3072 : Shape := ⟨2, ![8192, 3072]⟩
abbrev S256x1024 : Shape := ⟨2, ![256, 1024]⟩
abbrev S256x3072 : Shape := ⟨2, ![256, 3072]⟩
abbrev S256x512 : Shape := ⟨2, ![256, 512]⟩
abbrev S1x512x1024 : Shape := ⟨3, ![1, 512, 1024]⟩
abbrev S512x1024 : Shape := ⟨2, ![512, 1024]⟩
abbrev S3072 : Shape := ⟨1, ![3072]⟩

abbrev nBuf : Space → Nat
  | .hbm => 15
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S8192x7168, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S1x3072, .f32⟩
  | .hbm, ⟨6, _⟩ => ⟨S3x512x1024, .bf16⟩
  | .hbm, ⟨7, _⟩ => ⟨S1024x1024, .bf16⟩
  | .hbm, ⟨8, _⟩ => ⟨S8192x3072, .bf16⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S8192x3072, .bf16⟩
  | .hbm, ⟨13, _⟩ => ⟨S8192x1024, .bf16⟩
  | .hbm, ⟨14, _⟩ => ⟨S1x3072, .f32⟩
  | .local _ .vmem, ⟨0, _⟩ => ⟨S256x1024, .f32⟩
  | .local _ .vmem, ⟨1, _⟩ => ⟨S256x1024, .f32⟩
  | .local _ .vmem, ⟨2, _⟩ => ⟨S256x3072, .f32⟩
  | .local _ .vmem, ⟨3, _⟩ => ⟨S256x3072, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S1x3072, .f32⟩
  | .local _ .vmem, ⟨11, _⟩ => ⟨S3x512x1024, .bf16⟩
  | .local _ .vmem, ⟨12, _⟩ => ⟨S1024x1024, .bf16⟩
  | .local _ .vmem, ⟨13, _⟩ => ⟨S256x3072, .bf16⟩
  | .local _ .vmem, ⟨14, _⟩ => ⟨S256x3072, .bf16⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x3072, .bf16⟩
  | .local _ .vmem, ⟨22, _⟩ => ⟨S256x3072, .bf16⟩
  | .local _ .vmem, ⟨23, _⟩ => ⟨S256x1024, .bf16⟩
  | .local _ .vmem, ⟨24, _⟩ => ⟨S256x1024, .bf16⟩
  | .local _ .vmem, ⟨25, _⟩ => ⟨S1x3072, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v86 : BitVec 1 := Scalar.cmpi .eq arg0 c0_i32
  let v87 : BitVec 32 := Scalar.extui v86
  let c0_i32_57 : BitVec 32 := 0#32
  let v88 : BitVec 1 := Scalar.cmpi .ne v87 c0_i32_57
  v88

def k0_cond2 (i : grid0.Coords) : BitVec 1 :=
  let arg0 : BitVec 32 := BitVec.ofNat 32 (i 0).val
  let c0_i32_58 : BitVec 32 := 0#32
  let v89 : BitVec 1 := Scalar.cmpi .ne arg0 c0_i32_58
  let v90 : BitVec 32 := Scalar.extui v89
  let c0_i32_59 : BitVec 32 := 0#32
  let v91 : BitVec 1 := Scalar.cmpi .ne v90 c0_i32_59
  v91

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x3072 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x3072 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference2Ideal.lean ====
abbrev S8192x1024 : Shape := ⟨2, ![8192, 1024]⟩
abbrev S8192x7168 : Shape := ⟨2, ![8192, 7168]⟩
abbrev S8192x512 : Shape := ⟨2, ![8192, 512]⟩
abbrev S1x3072 : Shape := ⟨2, ![1, 3072]⟩
abbrev S3x512x1024 : Shape := ⟨3, ![3, 512, 1024]⟩
abbrev S1024x1024 : Shape := ⟨2, ![1024, 1024]⟩
abbrev S8192x1x512 : Shape := ⟨3, ![8192, 1, 512]⟩
abbrev S8192x3x512 : Shape := ⟨3, ![8192, 3, 512]⟩
abbrev S3x1024x8192 : Shape := ⟨3, ![3, 1024, 8192]⟩
abbrev S8192x3x1024 : Shape := ⟨3, ![8192, 3, 1024]⟩
abbrev S8192x3072 : Shape := ⟨2, ![8192, 3072]⟩
abbrev S3x1024 : Shape := ⟨2, ![3, 1024]⟩
abbrev S1x3x1024 : Shape := ⟨3, ![1, 3, 1024]⟩
abbrev S_ : Shape := ⟨0, ![]⟩
abbrev S3x8192x512 : Shape := ⟨3, ![3, 8192, 512]⟩

abbrev nBuf : Space → Nat
  | .hbm => 63
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x7168, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S1x3072, .f32⟩
  | .hbm, ⟨6, _⟩ => ⟨S3x512x1024, .bf16⟩
  | .hbm, ⟨7, _⟩ => ⟨S1024x1024, .bf16⟩
  | .hbm, ⟨8, _⟩ => ⟨S8192x1x512, .f32⟩
  | .hbm, ⟨9, _⟩ => ⟨S8192x1x512, .f32⟩
  | .hbm, ⟨10, _⟩ => ⟨S8192x1x512, .f32⟩
  | .hbm, ⟨11, _⟩ => ⟨S8192x3x512, .f32⟩
  | .hbm, ⟨12, _⟩ => ⟨S3x512x1024, .f32⟩
  | .hbm, ⟨13, _⟩ => ⟨S3x1024x8192, .f32⟩
  | .hbm, ⟨14, _⟩ => ⟨S8192x3x1024, .f32⟩
  | .hbm, ⟨15, _⟩ => ⟨S8192x3072, .f32⟩
  | .hbm, ⟨16, _⟩ => ⟨S3x1024, .f32⟩
  | .hbm, ⟨17, _⟩ => ⟨S8192x3x1024, .f32⟩
  | .hbm, ⟨18, _⟩ => ⟨S1x3x1024, .f32⟩
  | .hbm, ⟨19, _⟩ => ⟨S8192x3x1024, .f32⟩
  | .hbm, ⟨20, _⟩ => ⟨S8192x3x1024, .f32⟩
  | .hbm, ⟨21, _⟩ => ⟨S8192x3x1024, .f32⟩
  | .hbm, ⟨22, _⟩ => ⟨S8192x3x1024, .f32⟩
  | .hbm, ⟨23, _⟩ => ⟨S_, .f32⟩
  | .hbm, ⟨24, _⟩ => ⟨S8192x3x1024, .f32⟩
  | .hbm, ⟨25, _⟩ => ⟨S8192x3x1024, .f32⟩
  | .hbm, ⟨26, _⟩ => ⟨S_, .f32⟩
  | .hbm, ⟨27, _⟩ => ⟨S8192x3x1024, .f32⟩
  | .hbm, ⟨28, _⟩ => ⟨S8192x3x1024, .f32⟩
  | .hbm, ⟨29, _⟩ => ⟨S_, .f32⟩
  | .hbm, ⟨30, _⟩ => ⟨S8192x3x1024, .f32⟩
  | .hbm, ⟨31, _⟩ => ⟨S8192x3x1024, .f32⟩
  | .hbm, ⟨32, _⟩ => ⟨S8192x3x1024, .f32⟩
  | .hbm, ⟨33, _⟩ => ⟨S8192x3x1024, .f32⟩
  | .hbm, ⟨34, _⟩ => ⟨S_, .f32⟩
  | .hbm, ⟨35, _⟩ => ⟨S8192x1024, .f32⟩
  | .hbm, ⟨36, _⟩ => ⟨S1024x1024, .f32⟩
  | .hbm, ⟨37, _⟩ => ⟨S8192x1024, .f32⟩
  | .hbm, ⟨38, _⟩ => ⟨S8192x1024, .f32⟩
  | .hbm, ⟨39, _⟩ => ⟨S8192x3x1024, .f32⟩
  | .hbm, ⟨40, _⟩ => ⟨S8192x3x1024, .f32⟩
  | .hbm, ⟨41, _⟩ => ⟨S8192x3x1024, .f32⟩
  | .hbm, ⟨42, _⟩ => ⟨S8192x3x1024, .f32⟩
  | .hbm, ⟨43, _⟩ => ⟨S_, .f32⟩
  | .hbm, ⟨44, _⟩ => ⟨S3x1024, .f32⟩
  | .hbm, ⟨45, _⟩ => ⟨S1x3x1024, .f32⟩
  | .hbm, ⟨46, _⟩ => ⟨S_, .f32⟩
  | .hbm, ⟨47, _⟩ => ⟨S3x1024, .f32⟩
  | .hbm, ⟨48, _⟩ => ⟨S8192x3072, .f32⟩
  | .hbm, ⟨49, _⟩ => ⟨S3x1024x8192, .f32⟩
  | .hbm, ⟨50, _⟩ => ⟨S3x8192x512, .f32⟩
  | .hbm, ⟨51, _⟩ => ⟨S8192x3x512, .f32⟩
  | .hbm, ⟨52, _⟩ => ⟨S8192x3072, .bf16⟩
  | .hbm, ⟨53, _⟩ => ⟨S8192x1x512, .f32⟩
  | .hbm, ⟨54, _⟩ => ⟨S8192x512, .f32⟩
  | .hbm, ⟨55, _⟩ => ⟨S8192x1x512, .f32⟩
  | .hbm, ⟨56, _⟩ => ⟨S8192x512, .f32⟩
  | .hbm, ⟨57, _⟩ => ⟨S8192x1x512, .f32⟩
  | .hbm, ⟨58, _⟩ => ⟨S8192x512, .f32⟩
  | .hbm, ⟨59, _⟩ => ⟨S8192x3072, .f32⟩
  | .hbm, ⟨60, _⟩ => ⟨S8192x3072, .bf16⟩
  | .hbm, ⟨61, _⟩ => ⟨S8192x1024, .bf16⟩
  | .hbm, ⟨62, _⟩ => ⟨S1x3072, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩

abbrev nD : Nat := 1
abbrev τ : Topo := Topo.v7x

variable {F : FTy → Type} [FloatOps F]
-- ==== Kernel3.lean ====
abbrev S8192x1024 : Shape := ⟨2, ![8192, 1024]⟩
abbrev S8192x2816 : Shape := ⟨2, ![8192, 2816]⟩
abbrev S8192x512 : Shape := ⟨2, ![8192, 512]⟩
abbrev S8192x3072 : Shape := ⟨2, ![8192, 3072]⟩
abbrev S8192x7168 : Shape := ⟨2, ![8192, 7168]⟩
abbrev S1024x2816 : Shape := ⟨2, ![1024, 2816]⟩
abbrev S1024x1024 : Shape := ⟨2, ![1024, 1024]⟩
abbrev S1024x1408 : Shape := ⟨2, ![1024, 1408]⟩
abbrev S2816x1024 : Shape := ⟨2, ![2816, 1024]⟩
abbrev S1408x1024 : Shape := ⟨2, ![1408, 1024]⟩
abbrev S512x1024 : Shape := ⟨2, ![512, 1024]⟩
abbrev S1024x512 : Shape := ⟨2, ![1024, 512]⟩
abbrev S1024x7168 : Shape := ⟨2, ![1024, 7168]⟩

abbrev nBuf : Space → Nat
  | .hbm => 24
  | .vmem => 44
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x2816, .bf16⟩
  | .hbm, ⟨3, _⟩ => ⟨S8192x2816, .bf16⟩
  | .hbm, ⟨4, _⟩ => ⟨S8192x1024, .f32⟩
  | .hbm, ⟨5, _⟩ => ⟨S8192x1024, .bf16⟩
  | .hbm, ⟨6, _⟩ => ⟨S8192x1024, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S8192x3072, .bf16⟩
  | .hbm, ⟨11, _⟩ => ⟨S8192x1024, .bf16⟩
  | .hbm, ⟨12, _⟩ => ⟨S8192x7168, .bf16⟩
  | .hbm, ⟨13, _⟩ => ⟨S1024x2816, .f32⟩
  | .hbm, ⟨14, _⟩ => ⟨S1024x2816, .f32⟩
  | .hbm, ⟨15, _⟩ => ⟨S2816x1024, .f32⟩
  | .hbm, ⟨16, _⟩ => ⟨S1024x1024, .f32⟩
  | .hbm, ⟨17, _⟩ => ⟨S8192x1024, .bf16⟩
  | .hbm, ⟨18, _⟩ => ⟨S512x1024, .f32⟩
  | .hbm, ⟨19, _⟩ => ⟨S8192x1024, .bf16⟩
  | .hbm, ⟨20, _⟩ => ⟨S512x1024, .f32⟩
  | .hbm, ⟨21, _⟩ => ⟨S8192x1024, .bf16⟩
  | .hbm, ⟨22, _⟩ => ⟨S512x1024, .f32⟩
  | .hbm, ⟨23, _⟩ => ⟨S1024x7168, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1024, .bf16⟩
  | .local _ .vmem, ⟨7, _⟩ => ⟨S1024x1024, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .f32⟩
  | .local _ .vmem, ⟨11, _⟩ => ⟨S1024x1408, .f32⟩
  | .local _ .vmem, ⟨12, _⟩ => ⟨S1024x1408, .bf16⟩
  | .local _ .vmem, ⟨13, _⟩ => ⟨S1024x1408, .bf16⟩
  | .local _ .vmem, ⟨14, _⟩ => ⟨S1024x1024, .f32⟩
  | .local _ .vmem, ⟨15, _⟩ => ⟨S1024x1024, .f32⟩
  | .local _ .vmem, ⟨16, _⟩ => ⟨S1408x1024, .f32⟩
  | .local _ .vmem, ⟨17, _⟩ => ⟨S1408x1024, .f32⟩
  | .local _ .vmem, ⟨18, _⟩ => ⟨S1024x1024, .bf16⟩
  | .local _ .vmem, ⟨19, _⟩ => ⟨S1024x1024, .bf16⟩
  | .local _ .vmem, ⟨20, _⟩ => ⟨S1024x1024, .f32⟩
  | .local _ .vmem, ⟨21, _⟩ => ⟨S1024x1024, .f32⟩
  | .local _ .vmem, ⟨22, _⟩ => ⟨S1024x1024, .f32⟩
  | .local _ .vmem, ⟨23, _⟩ => ⟨S1024x512, .f32⟩
  | .local _ .vmem, ⟨24, _⟩ => ⟨S1024x512, .f32⟩
  | .local _ .vmem, ⟨25, _⟩ => ⟨S1024x1024, .bf16⟩
  | .local _ .vmem, ⟨26, _⟩ => ⟨S1024x1024, .bf16⟩
  | .local _ .vmem, ⟨27, _⟩ => ⟨S512x1024, .f32⟩
  | .local _ .vmem, ⟨28, _⟩ => ⟨S1024x512, .f32⟩
  | .local _ .vmem, ⟨29, _⟩ => ⟨S1024x512, .f32⟩
  | .local _ .vmem, ⟨30, _⟩ => ⟨S1024x1024, .bf16⟩
  | .local _ .vmem, ⟨31, _⟩ => ⟨S1024x1024, .bf16⟩
  | .local _ .vmem, ⟨32, _⟩ => ⟨S512x1024, .f32⟩
  | .local _ .vmem, ⟨33, _⟩ => ⟨S1024x512, .f32⟩
  | .local _ .vmem, ⟨34, _⟩ => ⟨S1024x512, .f32⟩
  | .local _ .vmem, ⟨35, _⟩ => ⟨S1024x1024, .bf16⟩
  | .local _ .vmem, ⟨36, _⟩ => ⟨S1024x1024, .bf16⟩
  | .local _ .vmem, ⟨37, _⟩ => ⟨S512x1024, .f32⟩
  | .local _ .vmem, ⟨38, _⟩ => ⟨S1024x1024, .bf16⟩
  | .local _ .vmem, ⟨39, _⟩ => ⟨S1024x1024, .bf16⟩
  | .local _ .vmem, ⟨40, _⟩ => ⟨S1024x1024, .bf16⟩
  | .local _ .vmem, ⟨41, _⟩ => ⟨S1024x1024, .bf16⟩
  | .local _ .vmem, ⟨42, _⟩ => ⟨S1024x1024, .f32⟩
  | .local _ .vmem, ⟨43, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg1_1 : Ref sig .tc := ⟨.vmem, 26, rfl⟩
abbrev cc4_stg2_0 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg1_1 : Ref sig .tc := ⟨.vmem, 31, rfl⟩
abbrev cc5_stg2_0 : Ref sig .tc := ⟨.vmem, 32, rfl⟩
abbrev cc6_stg0_0 : Ref sig .tc := ⟨.vmem, 33, rfl⟩
abbrev cc6_stg0_1 : Ref sig .tc := ⟨.vmem, 34, rfl⟩
abbrev cc6_stg1_0 : Ref sig .tc := ⟨.vmem, 35, rfl⟩
abbrev cc6_stg1_1 : Ref sig .tc := ⟨.vmem, 36, rfl⟩
abbrev cc6_stg2_0 : Ref sig .tc := ⟨.vmem, 37, rfl⟩
abbrev cc7_stg0_0 : Ref sig .tc := ⟨.vmem, 38, rfl⟩
abbrev cc7_stg0_1 : Ref sig .tc := ⟨.vmem, 39, rfl⟩
abbrev cc7_stg1_0 : Ref sig .tc := ⟨.vmem, 40, rfl⟩
abbrev cc7_stg1_1 : Ref sig .tc := ⟨.vmem, 41, rfl⟩
abbrev cc7_stg2_0 : Ref sig .tc := ⟨.vmem, 42, rfl⟩
abbrev cc7_stg2_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc4_sem0_0 : DmaSem sig := 23
abbrev cc4_sem0_1 : DmaSem sig := 24
abbrev cc4_sem1_0 : DmaSem sig := 25
abbrev cc4_sem1_1 : DmaSem sig := 26
abbrev cc4_sem2_0 : DmaSem sig := 27
abbrev cc5_sem0_0 : DmaSem sig := 28
abbrev cc5_sem0_1 : DmaSem sig := 29
abbrev cc5_sem1_0 : DmaSem sig := 30
abbrev cc5_sem1_1 : DmaSem sig := 31
abbrev cc5_sem2_0 : DmaSem sig := 32
abbrev cc6_sem0_0 : DmaSem sig := 33
abbrev cc6_sem0_1 : DmaSem sig := 34
abbrev cc6_sem1_0 : DmaSem sig := 35
abbrev cc6_sem1_1 : DmaSem sig := 36
abbrev cc6_sem2_0 : DmaSem sig := 37
abbrev cc7_sem0_0 : DmaSem sig := 38
abbrev cc7_sem0_1 : DmaSem sig := 39
abbrev cc7_sem1_0 : DmaSem sig := 40
abbrev cc7_sem1_1 : DmaSem sig := 41
abbrev cc7_sem2_0 : DmaSem sig := 42
abbrev cc7_sem2_1 : DmaSem sig := 43

abbrev nD : Nat := 1
abbrev τ : Topo := Topo.v7x

variable {F : FTy → Type} [FloatOps F]

abbrev grid0 : Pipeline.Grid := ⟨3, ![1, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![1, 2, 8], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1408 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1408 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 1, 8], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1408 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1408x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![1, 1, 8], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 1 → Memref sig .tc .vmem S1024x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, true, false]

abbrev grid4 : Pipeline.Grid := ⟨3, ![1, 1, 8], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S1024x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 1 → Memref sig .tc .vmem S512x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true, true, false]

abbrev grid5 : Pipeline.Grid := ⟨3, ![1, 1, 8], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1024x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S1024x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 1 → Memref sig .tc .vmem S512x1024 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true, true, false]

abbrev grid6 : Pipeline.Grid := ⟨3, ![1, 1, 8], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S1024x512 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S1024x1024 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 1 → Memref sig .tc .vmem S512x1024 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![true, true, false]

abbrev grid7 : Pipeline.Grid := ⟨3, ![1, 7, 8], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S1024x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S1024x1024 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S1024x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]
-- ==== Reference3Ideal.lean ====
abbrev S8192x1024 : Shape := ⟨2, ![8192, 1024]⟩
abbrev S8192x2816 : Shape := ⟨2, ![8192, 2816]⟩
abbrev S8192x512 : Shape := ⟨2, ![8192, 512]⟩
abbrev S8192x3072 : Shape := ⟨2, ![8192, 3072]⟩
abbrev S8192x7168 : Shape := ⟨2, ![8192, 7168]⟩
abbrev S_ : Shape := ⟨0, ![]⟩
abbrev S1024x2816 : Shape := ⟨2, ![1024, 2816]⟩
abbrev S2816x1024 : Shape := ⟨2, ![2816, 1024]⟩
abbrev S1024x1024 : Shape := ⟨2, ![1024, 1024]⟩
abbrev S512x1024 : Shape := ⟨2, ![512, 1024]⟩
abbrev S1024x512 : Shape := ⟨2, ![1024, 512]⟩
abbrev S1024x7168 : Shape := ⟨2, ![1024, 7168]⟩
abbrev S7168x1024 : Shape := ⟨2, ![7168, 1024]⟩

abbrev nBuf : Space → Nat
  | .hbm => 67
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x2816, .bf16⟩
  | .hbm, ⟨3, _⟩ => ⟨S8192x2816, .bf16⟩
  | .hbm, ⟨4, _⟩ => ⟨S8192x1024, .f32⟩
  | .hbm, ⟨5, _⟩ => ⟨S8192x1024, .bf16⟩
  | .hbm, ⟨6, _⟩ => ⟨S8192x1024, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S8192x3072, .bf16⟩
  | .hbm, ⟨11, _⟩ => ⟨S8192x1024, .bf16⟩
  | .hbm, ⟨12, _⟩ => ⟨S8192x7168, .bf16⟩
  | .hbm, ⟨13, _⟩ => ⟨S8192x1024, .bf16⟩
  | .hbm, ⟨14, _⟩ => ⟨S8192x1024, .bf16⟩
  | .hbm, ⟨15, _⟩ => ⟨S8192x1024, .bf16⟩
  | .hbm, ⟨16, _⟩ => ⟨S_, .f32⟩
  | .hbm, ⟨17, _⟩ => ⟨S1024x2816, .f32⟩
  | .hbm, ⟨18, _⟩ => ⟨S8192x1024, .f32⟩
  | .hbm, ⟨19, _⟩ => ⟨S8192x2816, .f32⟩
  | .hbm, ⟨20, _⟩ => ⟨S8192x2816, .f32⟩
  | .hbm, ⟨21, _⟩ => ⟨S2816x1024, .f32⟩
  | .hbm, ⟨22, _⟩ => ⟨S1024x2816, .f32⟩
  | .hbm, ⟨23, _⟩ => ⟨S_, .f32⟩
  | .hbm, ⟨24, _⟩ => ⟨S1024x2816, .f32⟩
  | .hbm, ⟨25, _⟩ => ⟨S8192x1024, .f32⟩
  | .hbm, ⟨26, _⟩ => ⟨S8192x2816, .f32⟩
  | .hbm, ⟨27, _⟩ => ⟨S8192x2816, .f32⟩
  | .hbm, ⟨28, _⟩ => ⟨S2816x1024, .f32⟩
  | .hbm, ⟨29, _⟩ => ⟨S1024x2816, .f32⟩
  | .hbm, ⟨30, _⟩ => ⟨S_, .f32⟩
  | .hbm, ⟨31, _⟩ => ⟨S2816x1024, .f32⟩
  | .hbm, ⟨32, _⟩ => ⟨S8192x2816, .f32⟩
  | .hbm, ⟨33, _⟩ => ⟨S8192x1024, .f32⟩
  | .hbm, ⟨34, _⟩ => ⟨S1024x2816, .f32⟩
  | .hbm, ⟨35, _⟩ => ⟨S2816x1024, .f32⟩
  | .hbm, ⟨36, _⟩ => ⟨S_, .f32⟩
  | .hbm, ⟨37, _⟩ => ⟨S1024x1024, .f32⟩
  | .hbm, ⟨38, _⟩ => ⟨S8192x1024, .f32⟩
  | .hbm, ⟨39, _⟩ => ⟨S8192x1024, .f32⟩
  | .hbm, ⟨40, _⟩ => ⟨S1024x1024, .f32⟩
  | .hbm, ⟨41, _⟩ => ⟨S1024x1024, .f32⟩
  | .hbm, ⟨42, _⟩ => ⟨S_, .f32⟩
  | .hbm, ⟨43, _⟩ => ⟨S512x1024, .f32⟩
  | .hbm, ⟨44, _⟩ => ⟨S8192x1024, .f32⟩
  | .hbm, ⟨45, _⟩ => ⟨S8192x1024, .f32⟩
  | .hbm, ⟨46, _⟩ => ⟨S1024x512, .f32⟩
  | .hbm, ⟨47, _⟩ => ⟨S512x1024, .f32⟩
  | .hbm, ⟨48, _⟩ => ⟨S_, .f32⟩
  | .hbm, ⟨49, _⟩ => ⟨S512x1024, .f32⟩
  | .hbm, ⟨50, _⟩ => ⟨S8192x1024, .f32⟩
  | .hbm, ⟨51, _⟩ => ⟨S8192x1024, .f32⟩
  | .hbm, ⟨52, _⟩ => ⟨S1024x512, .f32⟩
  | .hbm, ⟨53, _⟩ => ⟨S512x1024, .f32⟩
  | .hbm, ⟨54, _⟩ => ⟨S_, .f32⟩
  | .hbm, ⟨55, _⟩ => ⟨S512x1024, .f32⟩
  | .hbm, ⟨56, _⟩ => ⟨S8192x1024, .f32⟩
  | .hbm, ⟨57, _⟩ => ⟨S8192x1024, .f32⟩
  | .hbm, ⟨58, _⟩ => ⟨S1024x512, .f32⟩
  | .hbm, ⟨59, _⟩ => ⟨S512x1024, .f32⟩
  | .hbm, ⟨60, _⟩ => ⟨S_, .f32⟩
  | .hbm, ⟨61, _⟩ => ⟨S1024x7168, .f32⟩
  | .hbm, ⟨62, _⟩ => ⟨S8192x1024, .f32⟩
  | .hbm, ⟨63, _⟩ => ⟨S8192x7168, .f32⟩
  | .hbm, ⟨64, _⟩ => ⟨S8192x7168, .f32⟩
  | .hbm, ⟨65, _⟩ => ⟨S7168x1024, .f32⟩
  | .hbm, ⟨66, _⟩ => ⟨S1024x7168, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_3 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_6 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩

abbrev nD : Nat := 1
abbrev τ : Topo := Topo.v7x

variable {F : FTy → Type} [FloatOps F]
-- ==== Kernel4.lean ====
abbrev S8192x7168 : Shape := ⟨2, ![8192, 7168]⟩
abbrev S1024x7168 : Shape := ⟨2, ![1024, 7168]⟩
abbrev S8192x1024 : Shape := ⟨2, ![8192, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 13
  | .smem => 0
  | _ => 0

abbrev bufTy : (tb : Table) → Fin (tcTables nBuf tb) → BufTy
  | .hbm, ⟨0, _⟩ => ⟨S8192x7168, .bf16⟩
  | .hbm, ⟨1, _⟩ => ⟨S1024x7168, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 7], ![false, false]⟩

def k0_cond3 (i : grid0.Coords) : BitVec 1 :=
  let arg1 : BitVec 32 := BitVec.ofNat 32 (i 1).val
  let c6_i32 : BitVec 32 := 6#32
  let v16 : BitVec 1 := Scalar.cmpi .eq arg1 c6_i32
  let v17 : BitVec 32 := Scalar.extui v16
  let c0_i32_11 : BitVec 32 := 0#32
  let v18 : BitVec 1 := Scalar.cmpi .ne v17 c0_i32_11
  v18

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference4Ideal.lean ====
abbrev S8192x7168 : Shape := ⟨2, ![8192, 7168]⟩
abbrev S1024x7168 : Shape := ⟨2, ![1024, 7168]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S8192x7168, .bf16⟩
  | .hbm, ⟨1, _⟩ => ⟨S1024x7168, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S1024x7168, .f32⟩
  | .hbm, ⟨25, _⟩ => ⟨S8192x7168, .f32⟩
  | .hbm, ⟨26, _⟩ => ⟨S8192x7168, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | _, _ => ⟨S8192x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel5.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S512x1024 : Shape := ⟨2, ![512, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference5Ideal.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩

abbrev nBuf : Space → Nat
  | .hbm => 37
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S_, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x1024, .f32⟩
  | .hbm, ⟨36, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩

abbrev nD : Nat := 1
abbrev τ : Topo := Topo.v7x

variable {F : FTy → Type} [FloatOps F]
-- ==== Kernel6.lean ====
abbrev S8192x1024 : Shape := ⟨2, ![8192, 1024]⟩
abbrev S8192x7168 : Shape := ⟨2, ![8192, 7168]⟩
abbrev S8192x512 : Shape := ⟨2, ![8192, 512]⟩
abbrev S1x3072 : Shape := ⟨2, ![1, 3072]⟩
abbrev S3x512x1024 : Shape := ⟨3, ![3, 512, 1024]⟩
abbrev S1024x1024 : Shape := ⟨2, ![1024, 1024]⟩
abbrev S256x1024 : Shape := ⟨2, ![256, 1024]⟩
abbrev S256x3072 : Shape := ⟨2, ![256, 3072]⟩
abbrev S256x512 : Shape := ⟨2, ![256, 512]⟩
abbrev S1x512x1024 : Shape := ⟨3, ![1, 512, 1024]⟩
abbrev S512x1024 : Shape := ⟨2, ![512, 1024]⟩

abbrev nBuf : Space → Nat
  | .hbm => 9
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x7168, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S1x3072, .f32⟩
  | .hbm, ⟨6, _⟩ => ⟨S3x512x1024, .bf16⟩
  | .hbm, ⟨7, _⟩ => ⟨S1024x1024, .bf16⟩
  | .hbm, ⟨8, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x3072, .f32⟩
  | .local _ .vmem, ⟨3, _⟩ => ⟨S256x3072, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S1x3072, .f32⟩
  | .local _ .vmem, ⟨11, _⟩ => ⟨S3x512x1024, .bf16⟩
  | .local _ .vmem, ⟨12, _⟩ => ⟨S1024x1024, .bf16⟩
  | .local _ .vmem, ⟨13, _⟩ => ⟨S256x1024, .f32⟩
  | .local _ .vmem, ⟨14, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6Ideal.lean ====
abbrev S8192x1024 : Shape := ⟨2, ![8192, 1024]⟩
abbrev S8192x7168 : Shape := ⟨2, ![8192, 7168]⟩
abbrev S8192x512 : Shape := ⟨2, ![8192, 512]⟩
abbrev S1x3072 : Shape := ⟨2, ![1, 3072]⟩
abbrev S3x512x1024 : Shape := ⟨3, ![3, 512, 1024]⟩
abbrev S1024x1024 : Shape := ⟨2, ![1024, 1024]⟩
abbrev S8192x1x512 : Shape := ⟨3, ![8192, 1, 512]⟩
abbrev S8192x3x512 : Shape := ⟨3, ![8192, 3, 512]⟩
abbrev S3x1024x8192 : Shape := ⟨3, ![3, 1024, 8192]⟩
abbrev S8192x3x1024 : Shape := ⟨3, ![8192, 3, 1024]⟩
abbrev S8192x3072 : Shape := ⟨2, ![8192, 3072]⟩
abbrev S3x1024 : Shape := ⟨2, ![3, 1024]⟩
abbrev S1x3x1024 : Shape := ⟨3, ![1, 3, 1024]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x7168, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S1x3072, .f32⟩
  | .hbm, ⟨6, _⟩ => ⟨S3x512x1024, .bf16⟩
  | .hbm, ⟨7, _⟩ => ⟨S1024x1024, .bf16⟩
  | .hbm, ⟨8, _⟩ => ⟨S8192x1x512, .f32⟩
  | .hbm, ⟨9, _⟩ => ⟨S8192x1x512, .f32⟩
  | .hbm, ⟨10, _⟩ => ⟨S8192x1x512, .f32⟩
  | .hbm, ⟨11, _⟩ => ⟨S8192x3x512, .f32⟩
  | .hbm, ⟨12, _⟩ => ⟨S3x512x1024, .f32⟩
  | .hbm, ⟨13, _⟩ => ⟨S3x1024x8192, .f32⟩
  | .hbm, ⟨14, _⟩ => ⟨S8192x3x1024, .f32⟩
  | .hbm, ⟨15, _⟩ => ⟨S8192x3072, .f32⟩
  | .hbm, ⟨16, _⟩ => ⟨S3x1024, .f32⟩
  | .hbm, ⟨17, _⟩ => ⟨S8192x3x1024, .f32⟩
  | .hbm, ⟨18, _⟩ => ⟨S1x3x1024, .f32⟩
  | .hbm, ⟨19, _⟩ => ⟨S8192x3x1024, .f32⟩
  | .hbm, ⟨20, _⟩ => ⟨S8192x3x1024, .f32⟩
  | .hbm, ⟨21, _⟩ => ⟨S8192x3x1024, .f32⟩
  | .hbm, ⟨22, _⟩ => ⟨S8192x3x1024, .f32⟩
  | .hbm, ⟨23, _⟩ => ⟨S_, .f32⟩
  | .hbm, ⟨24, _⟩ => ⟨S8192x3x1024, .f32⟩
  | .hbm, ⟨25, _⟩ => ⟨S8192x3x1024, .f32⟩
  | .hbm, ⟨26, _⟩ => ⟨S_, .f32⟩
  | .hbm, ⟨27, _⟩ => ⟨S8192x3x1024, .f32⟩
  | .hbm, ⟨28, _⟩ => ⟨S8192x3x1024, .f32⟩
  | .hbm, ⟨29, _⟩ => ⟨S8192x3x1024, .f32⟩
  | .hbm, ⟨30, _⟩ => ⟨S_, .f32⟩
  | .hbm, ⟨31, _⟩ => ⟨S8192x1024, .f32⟩
  | .hbm, ⟨32, _⟩ => ⟨S1024x1024, .f32⟩
  | .hbm, ⟨33, _⟩ => ⟨S8192x1024, .f32⟩
  | .hbm, ⟨34, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== Kernel7.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S8192x2816 : Shape := ⟨2, ![8192, 2816]⟩
abbrev S512x1024 : Shape := ⟨2, ![512, 1024]⟩
abbrev S1024x1408 : Shape := ⟨2, ![1024, 1408]⟩
abbrev S1408x1024 : Shape := ⟨2, ![1408, 1024]⟩
abbrev S512x1408 : Shape := ⟨2, ![512, 1408]⟩
abbrev S512 : Shape := ⟨1, ![512]⟩
abbrev S512x1 : Shape := ⟨2, ![512, 1]⟩
abbrev S1024 : Shape := ⟨1, ![1024]⟩

abbrev nBuf : Space → Nat
  | .hbm => 12
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x2816, .bf16⟩
  | .hbm, ⟨4, _⟩ => ⟨S1024x2816, .bf16⟩
  | .hbm, ⟨5, _⟩ => ⟨S2816x1024, .bf16⟩
  | .hbm, ⟨6, _⟩ => ⟨S8192x1024, .f32⟩
  | .hbm, ⟨7, _⟩ => ⟨S1x1024, .f32⟩
  | .hbm, ⟨8, _⟩ => ⟨S8192x1024, .bf16⟩
  | .hbm, ⟨9, _⟩ => ⟨S8192x2816, .bf16⟩
  | .hbm, ⟨10, _⟩ => ⟨S8192x2816, .bf16⟩
  | .hbm, ⟨11, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1408x1024, .bf16⟩
  | .local _ .vmem, ⟨10, _⟩ => ⟨S1408x1024, .bf16⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .bf16⟩
  | .local _ .vmem, ⟨15, _⟩ => ⟨S512x1024, .bf16⟩
  | .local _ .vmem, ⟨16, _⟩ => ⟨S512x1408, .bf16⟩
  | .local _ .vmem, ⟨17, _⟩ => ⟨S512x1408, .bf16⟩
  | .local _ .vmem, ⟨18, _⟩ => ⟨S512x1408, .bf16⟩
  | .local _ .vmem, ⟨19, _⟩ => ⟨S512x1408, .bf16⟩
  | .local _ .vmem, ⟨20, _⟩ => ⟨S512x1408, .bf16⟩
  | .local _ .vmem, ⟨21, _⟩ => ⟨S512x1408, .bf16⟩
  | .local _ .vmem, ⟨22, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![16, 2], ![false, false]⟩

def k0_cond3 (i : grid0.Coords) : BitVec 1 :=
  let arg1 : BitVec 32 := BitVec.ofNat 32 (i 1).val
  let c1_i32 : BitVec 32 := 1#32
  let v52 : BitVec 1 := Scalar.cmpi .eq arg1 c1_i32
  let v53 : BitVec 32 := Scalar.extui v52
  let c0_i32_36 : BitVec 32 := 0#32
  let v54 : BitVec 1 := Scalar.cmpi .ne v53 c0_i32_36
  v54

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1408 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1408 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference7Ideal.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S1024 : Shape := ⟨1, ![1024]⟩

abbrev nBuf : Space → Nat
  | .hbm => 86
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x2816, .bf16⟩
  | .hbm, ⟨4, _⟩ => ⟨S1024x2816, .bf16⟩
  | .hbm, ⟨5, _⟩ => ⟨S2816x1024, .bf16⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S1024x2816, .f32⟩
  | .hbm, ⟨26, _⟩ => ⟨S8192x2816, .f32⟩
  | .hbm, ⟨27, _⟩ => ⟨S1024x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S_, .f32⟩
  | .hbm, ⟨32, _⟩ => ⟨S8192x2816, .f32⟩
  | .hbm, ⟨33, _⟩ => ⟨S8192x2816, .f32⟩
  | .hbm, ⟨34, _⟩ => ⟨S_, .f32⟩
  | .hbm, ⟨35, _⟩ => ⟨S8192x2816, .f32⟩
  | .hbm, ⟨36, _⟩ => ⟨S8192x2816, .f32⟩
  | .hbm, ⟨37, _⟩ => ⟨S_, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S2816x1024, .f32⟩
  | .hbm, ⟨44, _⟩ => ⟨S8192x1024, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S_, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S8192x2816, .f32⟩
  | .hbm, ⟨53, _⟩ => ⟨S8192x2816, .f32⟩
  | .hbm, ⟨54, _⟩ => ⟨S8192x2816, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S8192, .f32⟩
  | .hbm, ⟨67, _⟩ => ⟨S8192x1, .f32⟩
  | .hbm, ⟨68, _⟩ => ⟨S8192x1024, .f32⟩
  | .hbm, ⟨69, _⟩ => ⟨S8192x1024, .f32⟩
  | .hbm, ⟨70, _⟩ => ⟨S8192x1, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S_, .f32⟩
  | .hbm, ⟨75, _⟩ => ⟨S8192, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1024, .bf16⟩
  | .hbm, ⟨83, _⟩ => ⟨S8192x2816, .bf16⟩
  | .hbm, ⟨84, _⟩ => ⟨S8192x2816, .bf16⟩
  | .hbm, ⟨85, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_v19_2 : Ref sig .tc := ⟨.hbm, 36, rfl⟩
abbrev main_call0_cst_1 : Ref sig .tc := ⟨.hbm, 37, rfl⟩
abbrev main_call0_v6 : Ref sig .tc := ⟨.hbm, 38, rfl⟩
abbrev main_call0_v7 : Ref sig .tc := ⟨.hbm, 39, rfl⟩
abbrev main_v19_1 : Ref sig .tc := ⟨.hbm, 40, rfl⟩
abbrev main_v19_0 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_3 : Ref sig .tc := ⟨.hbm, 48, rfl⟩
abbrev main_v26 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_4 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_5 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_6 : Ref sig .tc := ⟨.hbm, 71, rfl⟩
abbrev main_v43 : Ref sig .tc := ⟨.hbm, 72, rfl⟩
abbrev main_v44 : Ref sig .tc := ⟨.hbm, 73, rfl⟩
abbrev main_cst_7 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩

abbrev nD : Nat := 1
abbrev τ : Topo := Topo.v7x

variable {F : FTy → Type} [FloatOps F]
-- ==== Kernel8.lean ====
abbrev S8192x1024 : Shape := ⟨2, ![8192, 1024]⟩
abbrev S1x1024 : Shape := ⟨2, ![1, 1024]⟩
abbrev S1024x7168 : Shape := ⟨2, ![1024, 7168]⟩
abbrev S8192x7168 : Shape := ⟨2, ![8192, 7168]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x7168, .bf16⟩
  | .hbm, ⟨3, _⟩ => ⟨S8192x7168, .f32⟩
  | .hbm, ⟨4, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | .local _ .vmem, ⟨8, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 7], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference8Ideal.lean ====
abbrev S8192x1024 : Shape := ⟨2, ![8192, 1024]⟩
abbrev S1x1024 : Shape := ⟨2, ![1, 1024]⟩
abbrev S1024x7168 : Shape := ⟨2, ![1024, 7168]⟩
abbrev S_ : Shape := ⟨0, ![]⟩
abbrev S8192 : Shape := ⟨1, ![8192]⟩
abbrev S8192x1 : Shape := ⟨2, ![8192, 1]⟩
abbrev S8192x7168 : Shape := ⟨2, ![8192, 7168]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x7168, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S1024x7168, .f32⟩
  | .hbm, ⟨19, _⟩ => ⟨S8192x7168, .f32⟩
  | .hbm, ⟨20, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.AttnRun.lean ====
/- THE RUN OF THE ATTENTION'S TWO CALLS, with what every array holds at the end: the forward call, then the gradient call
   on what the forward call left. -/
module

public import proofs.«01_k».proof.Proof.Gen.KernelIdeal.Frame

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution from zero counters terminates, with each of the four results at the contents that the second call's
    boundary `W2` gives it, and each argument as launched. -/
theorem run : θ_run defs (onTc (τ := τ) (main (F := F))) ⟨m, fun _ => 0, ρ⟩ (fun r => ∀ c : Dev nD,
      r.2.mem ((c.tc : Thread nD τ).loc main_v0_0) = W2 m ρ c (Proc.devRef .tc main_v0_0)
      ∧ r.2.mem ((c.tc : Thread nD τ).loc main_v1_0) = W2 m ρ c (Proc.devRef .tc main_v1_0)
      ∧ r.2.mem ((c.tc : Thread nD τ).loc main_v1_1) = W2 m ρ c (Proc.devRef .tc main_v1_1)
      ∧ r.2.mem ((c.tc : Thread nD τ).loc main_v1_2) = W2 m ρ c (Proc.devRef .tc main_v1_2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz c =>
      ⟨h c _ (mem_uc main_v0_0 (by decide)),
       h c _ (mem_uc main_v1_0 (by decide)),
       h c _ (mem_uc main_v1_1 (by decide)),
       h c _ (mem_uc main_v1_2 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c)⟩)

end Cert.KernelIdeal.Attn

end
-- ==== Proof.AttnReal.lean ====
/- REAL NUMBERS AMONG THE EXTENDED ONES: sums, maxima, quotients, exponentials and logarithms of real numbers, as the ideal
   operations compute them, and the softmax of a row of real scores. -/
module

public import Idealize.ShloMosaic.Lib.Pointwise

@[expose] public section

noncomputable section

namespace Cert.Attn

open Idealize.ShloMosaic

/-- A finite sum of real numbers is the same sum taken among the extended reals. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A finite sum of products of real numbers, likewise. -/
theorem coe_sum_mul {ι : Type*} (s : Finset ι) (f g : ι → ℝ) :
    ∑ i ∈ s, (f i : EReal) * (g i : EReal) = ((∑ i ∈ s, f i * g i : ℝ) : EReal) := by
  rw [← coe_sum]; exact Finset.sum_congr rfl fun i _ => (EReal.coe_mul _ _).symm

/-- The greatest of a non-empty family of real numbers, the least extended real put first, is a real number. -/
theorem fold_max_real {n : Nat} (f : Fin (n + 1) → ℝ) :
    ∃ m : ℝ, (Finset.univ : Finset (Fin (n + 1))).fold max (⊥ : EReal) (fun k => (f k : EReal)) = (m : EReal) := by
  have key : ∀ s : Finset (Fin (n + 1)), s.fold max (⊥ : EReal) (fun k => (f k : EReal)) = ⊥ ∧ s = ∅
      ∨ ∃ m : ℝ, s.fold max (⊥ : EReal) (fun k => (f k : EReal)) = (m : EReal) := by
    intro s
    induction s using Finset.induction_on with
    | empty => exact .inl ⟨Finset.fold_empty, rfl⟩
    | insert a s ha ih =>
      right
      rw [Finset.fold_insert ha]
      rcases ih with ⟨h, -⟩ | ⟨m, h⟩
      · exact ⟨f a, by rw [h]; exact max_bot_right _⟩
      · exact ⟨max (f a) m, by rw [h]; exact (EReal.coe_strictMono.monotone.map_max).symm⟩
  rcases key Finset.univ with ⟨-, h⟩ | h
  · exact absurd (Finset.mem_univ (0 : Fin (n + 1))) (by rw [h]; exact Finset.notMem_empty _)
  · exact h

/-- The ideal quotient of real numbers, the divisor not zero. -/
theorem div_real (x y : ℝ) (h : y ≠ 0) : Ideal.div (x : EReal) (y : EReal) = ((x / y : ℝ) : EReal) := by
  rw [Ideal.div_coe h, ← EReal.coe_mul]; congr 1; ring

/-- The ideal exponential of a real number. -/
theorem exp_real (x : ℝ) : Ideal.exp (x : EReal) = ((Real.exp x : ℝ) : EReal) := rfl

/-- The ideal logarithm of a positive real number. -/
theorem log_real (x : ℝ) (h : 0 < x) : Ideal.log (x : EReal) = ((Real.log x : ℝ) : EReal) := by
  show (if x ≤ 0 then ⊥ else ((Real.log x : ℝ) : EReal)) = _
  rw [if_neg (not_le.mpr h)]

/-! ## The softmax of a row of scores -/

section Softmax
variable {n : Nat} (s : Fin (n + 1) → ℝ)

/-- The sum of the exponentials of a row of scores. -/
def expSum : ℝ := ∑ k, Real.exp (s k)
/-- The softmax of a row of scores. -/
def softmax (j : Fin (n + 1)) : ℝ := Real.exp (s j) / expSum s

theorem expSum_pos : 0 < expSum s := Finset.sum_pos (fun _ _ => Real.exp_pos _) Finset.univ_nonempty

/-- Shifting every score by the same amount divides the sum of the exponentials. -/
theorem expSum_shift (m : ℝ) : ∑ k, Real.exp (s k - m) = expSum s / Real.exp m := by
  rw [expSum, Finset.sum_div]; exact Finset.sum_congr rfl fun k _ => Real.exp_sub _ _

theorem expSum_shift_pos (m : ℝ) : 0 < ∑ k, Real.exp (s k - m) :=
  Finset.sum_pos (fun _ _ => Real.exp_pos _) Finset.univ_nonempty

/-- The softmax of scores all shifted by the same amount is the softmax. -/
theorem softmax_shift (m : ℝ) (j : Fin (n + 1)) : Real.exp (s j - m) / (∑ k, Real.exp (s k - m)) = softmax s j := by
  rw [expSum_shift, Real.exp_sub, softmax]
  have := (Real.exp_pos m).ne'
  have := (expSum_pos s).ne'
  field_simp

/-- The logarithm of the sum of the exponentials, computed from shifted scores. -/
theorem logSum_shift (m : ℝ) : m + Real.log (∑ k, Real.exp (s k - m)) = Real.log (expSum s) := by
  rw [expSum_shift, Real.log_div (expSum_pos s).ne' (Real.exp_pos m).ne', Real.log_exp]; ring

/-- The softmax from the logarithm of the sum. -/
theorem exp_sub_logSum (j : Fin (n + 1)) : Real.exp (s j - Real.log (expSum s)) = softmax s j := by
  rw [Real.exp_sub, Real.exp_log (expSum_pos s), softmax]

/-- The derivative of the softmax in one coordinate: the quotient rule on `exp (s j - m) / l` (`l` the sum of the shifted
    exponentials, `d` the derivative that arrives at each coordinate) is `softmax * (d - ∑ d * softmax)`. -/
theorem softmax_vjp (d : Fin (n + 1) → ℝ) (m : ℝ) (j : Fin (n + 1)) :
    (d j / (∑ k, Real.exp (s k - m))
        + -(∑ k, d k * (1 / ((∑ i, Real.exp (s i - m)) * (∑ i, Real.exp (s i - m)))) * Real.exp (s k - m)))
      * Real.exp (s j - m) = softmax s j * (d j - ∑ k, d k * softmax s k) := by
  have hl := (expSum_shift_pos s m).ne'
  have h : ∀ k, d k * (1 / ((∑ i, Real.exp (s i - m)) * (∑ i, Real.exp (s i - m)))) * Real.exp (s k - m)
      = d k * softmax s k / (∑ i, Real.exp (s i - m)) := fun k => by
    rw [← softmax_shift s m k]; field_simp
  simp only [h, ← Finset.sum_div]
  rw [← softmax_shift s m j]
  field_simp
  ring

end Softmax

end Cert.Attn

end
-- ==== Proof.AttnSpec.lean ====
/- THE ATTENTION AND ITS GRADIENT OVER REAL NUMBERS: the functions that both programs compute, at an index. Arrays are functions
   of a row and a column; row `b * 2048 + i` is token `i` of sequence `b`; a head has 128 columns of queries and keys and 64
   of values. -/
module

public import proofs.«01_k».proof.Proof.AttnReal

@[expose] public section

noncomputable section

namespace Cert.Attn

open Idealize.ShloMosaic

/-- The factor of the scores: the literal that both programs write. -/
def scale : ℝ := (Ideal.ofBits .f32 0x3DD105EC#32).toReal

/-- The literal is a real number. -/
theorem ofBits_scale : Ideal.ofBits .f32 0x3DD105EC#32 = (scale : EReal) := by
  refine (EReal.coe_toReal ?_ ?_).symm <;> simp [Ideal.ofBits, Ideal.ieee, -EReal.coe_mul]

theorem ofBits_bot : Ideal.ofBits .f32 0xFF800000#32 = ⊥ := by simp [Ideal.ofBits, Ideal.ieee]

/-- The scores of a block of queries `q` against keys `k`. -/
def score {a b : Nat} (q : Fin a → Fin 128 → ℝ) (k : Fin b → Fin 128 → ℝ) (r : Fin a) (j : Fin b) : ℝ :=
  (∑ d, q r d * k j d) * scale

/-! ## Over the whole arrays -/

section Arrays
variable (q k v d : ℕ → ℕ → ℝ)

/-- The score of token `i` against token `j`, in sequence `b` and head `h`. -/
def scoreAt (b h i j : ℕ) : ℝ := (∑ e : Fin 128, q (b * 2048 + i) (h * 128 + e) * k (b * 2048 + j) (h * 128 + e)) * scale

/-- The scores of token `i`. -/
def scoreRow (b h i : ℕ) : Fin 2048 → ℝ := fun j => scoreAt q k b h i j

/-- The weight of token `j` for token `i`. -/
def weight (b h i j : ℕ) : ℝ := Real.exp (scoreAt q k b h i j) / expSum (scoreRow q k b h i)

theorem softmax_scoreRow (b h i : ℕ) (j : Fin 2048) : softmax (scoreRow q k b h i) j = weight q k b h i j := rfl

/-- The attention's output. -/
def outAt (row col : ℕ) : ℝ :=
  ∑ j : Fin 2048, weight q k (row / 2048) (col / 64) (row % 2048) j * v (row / 2048 * 2048 + j) col

/-- The logarithm of the sum of the exponentials of a token's scores. -/
def logSumAt (b h i : ℕ) : ℝ := Real.log (expSum (scoreRow q k b h i))

theorem exp_scoreAt_sub (b h i : ℕ) (j : Fin 2048) :
    Real.exp (scoreAt q k b h i j - logSumAt q k b h i) = weight q k b h i j :=
  exp_sub_logSum (scoreRow q k b h i) j

/-- The derivative that arrives at the weight of token `j` for token `i`. -/
def dWeight (b h i j : ℕ) : ℝ := ∑ e : Fin 64, d (b * 2048 + i) (h * 64 + e) * v (b * 2048 + j) (h * 64 + e)

/-- The weighted mean of a token's derivatives. -/
def meanAt (b h i : ℕ) : ℝ := ∑ j : Fin 2048, dWeight v d b h i j * weight q k b h i j

/-- The mean is also the product of the output with its derivative. -/
theorem sum_d_out (b h i : ℕ) (hi : i < 2048) :
    ∑ e : Fin 64, d (b * 2048 + i) (h * 64 + e) * outAt q k v (b * 2048 + i) (h * 64 + e) = meanAt q k v d b h i := by
  have e1 : (b * 2048 + i) / 2048 = b := by omega
  have e2 : (b * 2048 + i) % 2048 = i := by omega
  have e3 : ∀ e : Fin 64, (h * 64 + e.val) / 64 = h := fun e => by omega
  simp only [outAt, meanAt, dWeight, e1, e2, e3, Finset.mul_sum, Finset.sum_mul]
  rw [Finset.sum_comm]
  exact Finset.sum_congr rfl fun j _ => Finset.sum_congr rfl fun e _ => by ring

/-- The derivative of the product of query `i` and key `j`, before the scale's factor reaches the scores. -/
def dScore (b h i j : ℕ) : ℝ :=
  weight q k b h i j * (dWeight v d b h i j - meanAt q k v d b h i) * scale

/-- The gradient of the queries. -/
def dqAt (row col : ℕ) : ℝ :=
  ∑ j : Fin 2048, dScore q k v d (row / 2048) (col / 128) (row % 2048) j * k (row / 2048 * 2048 + j) col

/-- The gradient of the keys. -/
def dkAt (row col : ℕ) : ℝ :=
  ∑ i : Fin 2048, dScore q k v d (row / 2048) (col / 128) i (row % 2048) * q (row / 2048 * 2048 + i) col

/-- The gradient of the values. -/
def dvAt (row col : ℕ) : ℝ :=
  ∑ i : Fin 2048, weight q k (row / 2048) (col / 64) i (row % 2048) * d (row / 2048 * 2048 + i) col

end Arrays

end Cert.Attn

end
-- ==== Proof.AttnForwardBlock.lean ====
/- THE FORWARD CALL ON ONE BLOCK, at the ideal instance: what its body leaves in the two output blocks, for blocks of real
   numbers. The lanes of a block hold two heads, the first in the lower half. -/
module

public import proofs.«01_k».proof.Proof.Gen.KernelIdeal.Frame
public import proofs.«01_k».proof.Proof.AttnSpec
public import Idealize.ShloMosaic.Lib.Pointwise

@[expose] public section

set_option maxRecDepth 16384

noncomputable section

namespace Cert.KernelIdeal.Attn

open Idealize.ShloMosaic Cert.KernelIdeal.Gen Cert.Attn

section Head
variable {x : Vec Ideal S256x128 .bf16} {y w : Vec Ideal S2048x128 .bf16}
  {q : Fin 256 → Fin 128 → ℝ} {k v : Fin 2048 → Fin 128 → ℝ}
  (hx : ∀ r d, x (ix2 r d) = (q r d : EReal)) (hy : ∀ j d, y (ix2 j d) = (k j d : EReal))
  (hw : ∀ j d, w (ix2 j d) = (v j d : EReal))
include hx hy

theorem scores_apply (r : Fin 256) (j : Fin 2048) : k0_pay4 x y (ix2 r j) = (score q k r j : EReal) := by
  pointwise [k0_pay4]
  simp only [hx, hy, coe_sum_mul]
  rw [ofBits_scale, ← EReal.coe_mul]; rfl

theorem rowMax_apply : ∃ m : Fin 256 → ℝ, ∀ r, k0_pay6 x y (ix2 r 0) = (m r : EReal) := by
  refine ⟨fun r => (fold_max_real (fun j => score q k r j)).choose, fun r => ?_⟩
  rw [← (fold_max_real (fun j => score q k r j)).choose_spec]
  pointwise [k0_pay6]
  simp only [scores_apply hx hy]
  rw [ofBits_bot]

/-- The exponentials of the scores, the row's greatest subtracted. -/
theorem exps_apply : ∃ m : Fin 256 → ℝ, (∀ r, k0_pay6 x y (ix2 r 0) = (m r : EReal))
    ∧ ∀ r j, k0_pay8 x y (ix2 r j) = ((Real.exp (score q k r j - m r) : ℝ) : EReal) := by
  obtain ⟨m, hm⟩ := rowMax_apply hx hy
  refine ⟨m, hm, fun r j => ?_⟩
  pointwise [k0_pay8]
  rw [hm, scores_apply hx hy, ← EReal.coe_sub, exp_real]

/-- The row's logarithm of the sum of exponentials. -/
theorem logSum_apply (r : Fin 256) :
    addf (k0_pay6 x y) (log (k0_pay10 x y)) (ix2 r 0) = ((Real.log (expSum (score q k r)) : ℝ) : EReal) := by
  obtain ⟨m, hm, he⟩ := exps_apply hx hy
  pointwise [k0_pay10]
  simp only [hm, he, coe_sum]
  rw [log_real _ (expSum_shift_pos _ _), ← EReal.coe_add, logSum_shift]

/-- The softmax of the block's scores, rounded to the products' format: among the extended reals, the softmax. -/
theorem probs_apply (r : Fin 256) (j : Fin 2048) :
    divf (k0_pay8 x y) (broadcastTo S256x2048 (k0_pay10 x y) broadcasts_S256x1_S256x2048) (ix2 r j)
      = ((softmax (score q k r) j : ℝ) : EReal) := by
  obtain ⟨m, hm, he⟩ := exps_apply hx hy
  pointwise [k0_pay10]
  simp only [he, coe_sum]
  rw [div_real _ _ (expSum_shift_pos _ _).ne', softmax_shift]

include hw in
/-- The block's product of the softmax with the values. -/
theorem out_apply (r : Fin 256) (l : Fin 128) :
    k0_pay12 w x y (ix2 r l) = ((∑ j, softmax (score q k r) j * v j l : ℝ) : EReal) := by
  have h := probs_apply hx hy
  pointwise [k0_pay12]
  refine (Finset.sum_congr rfl fun j _ => ?_).trans (coe_sum_mul _ _ _)
  rw [hw, ← h r j]
  pointwise

end Head

/-- The lanes of the first head. -/
theorem mask_apply {α : Type} (r : Fin 256) (l : Fin 128) (a b : α) :
    Scalar.select (k0_pay3 (ix2 r l)) a b = if l.val < 64 then a else b := by
  have h : ∀ l : Fin 128, IntOp.cmpi CmpIPredicate.slt (BitVec.ofNat 32 l.val) 64#32
      = BitVec.ofBool (decide (l.val < 64)) := by decide
  pointwise [k0_pay3]
  rw [h, Scalar.select_decide]

end Cert.KernelIdeal.Attn

end
-- ==== Proof.AttnForward.lean ====
/- THE FORWARD CALL'S ARRAYS: what the output and the saved logarithms hold when the call is done, for arguments that are real
   numbers. Point `t` of the grid is sequence `t / 32`, pair of heads `t / 8 % 4`, block of 256 queries `t % 8`. -/
module

public import proofs.«01_k».proof.Proof.AttnForwardBlock
public import Idealize.ShloMosaic.Lib.Pipeline.ValueKit

@[expose] public section

set_option maxRecDepth 16384

noncomputable section

namespace Cert.KernelIdeal.Attn

open Idealize.ShloMosaic Idealize.ShloMosaic.TcCoe Cert.KernelIdeal.Gen Cert.Attn
open Idealize.SL.Sem

/-- A two-axis array of extended reals that holds the real numbers `f`. -/
def Holds {n0 n1 : ℕ} (x : (⟨2, ![n0, n1]⟩ : Shape).Idx → EReal) (f : ℕ → ℕ → ℝ) : Prop :=
  ∀ i, x i = ((f (i 0).val (i 1).val : ℝ) : EReal)

/-- The blocks that the forward call's windows are at. -/
theorem index0 : ∀ t : Fin cfg0.N,
    (cfg0.win 0).index t = ![t.val / 32 * 8 + t.val % 8, t.val / 8 % 4] ∧ (cfg0.win 1).index t = ![t.val / 32, t.val / 8 % 4]
    ∧ (cfg0.win 2).index t = ![t.val / 32, t.val / 8 % 4] ∧ (cfg0.win 3).index t = ![t.val / 32 * 8 + t.val % 8, t.val / 8 % 4]
    ∧ (cfg0.win 4).index t = ![t.val / 32 * 8 + t.val % 8, t.val / 8 % 4] := by decide +kernel

variable (V : (c : Dev nD) → (b : Ref sig .tc) → Buf (Elt Ideal) ((c : Thread nD τ).loc b)) (c : Dev nD)
  {q k v : ℕ → ℕ → ℝ}

section Blocks
variable (t : Fin cfg0.N)

theorem query_block (hq : Holds (V c main_arg0) q) (r e : Fin 256) :
    iblk0 V c 0 t (ix2 r e) = ((q ((t.val / 32 * 8 + t.val % 8) * 256 + r) (t.val / 8 % 4 * 256 + e) : ℝ) : EReal) := by
  unfold iblk0
  refine (hq _).trans ?_
  blk_simp [index0 t]

theorem key_block (hk : Holds (V c main_arg1) k) (j : Fin 2048) (e : Fin 256) :
    iblk0 V c 1 t (ix2 j e) = ((k (t.val / 32 * 2048 + j) (t.val / 8 % 4 * 256 + e) : ℝ) : EReal) := by
  unfold iblk0
  refine (hk _).trans ?_
  blk_simp [index0 t]

theorem value_block (hv : Holds (V c main_arg2) v) (j : Fin 2048) (l : Fin 128) :
    iblk0 V c 2 t (ix2 j l) = ((v (t.val / 32 * 2048 + j) (t.val / 8 % 4 * 128 + l) : ℝ) : EReal) := by
  unfold iblk0
  refine (hv _).trans ?_
  blk_simp [index0 t]

end Blocks

section Halves
variable {x : Vec Ideal S256x256 .bf16} {y : Vec Ideal S2048x256 .bf16} {w : Vec Ideal S2048x128 .bf16} {b p i8 : ℕ}
  (hi8 : i8 < 8)
  (hx : ∀ r e, x (ix2 r e) = ((q ((b * 8 + i8) * 256 + r) (p * 256 + e) : ℝ) : EReal))
  (hy : ∀ j e, y (ix2 j e) = ((k (b * 2048 + j) (p * 256 + e) : ℝ) : EReal))
  (hw : ∀ j l, w (ix2 j l) = ((v (b * 2048 + j) (p * 128 + l) : ℝ) : EReal))

/-- The scores of a block of queries of head `2 p` are the attention's. -/
theorem score_lo (r : Fin 256) :
    score (fun (r : Fin 256) d => q ((b * 8 + i8) * 256 + r) (p * 256 + d)) (fun (j : Fin 2048) d => k (b * 2048 + j) (p * 256 + d)) r
      = scoreRow q k b (2 * p) (i8 * 256 + r) := by
  funext j
  simp only [score, scoreRow, scoreAt]
  congr 1
  refine Finset.sum_congr rfl fun e _ => ?_
  congr 2 <;> omega

/-- The scores of a block of queries of head `2 p + 1` are the attention's. -/
theorem score_hi (r : Fin 256) :
    score (fun (r : Fin 256) d => q ((b * 8 + i8) * 256 + r) (p * 256 + (128 + d))) (fun (j : Fin 2048) d => k (b * 2048 + j) (p * 256 + (128 + d))) r
      = scoreRow q k b (2 * p + 1) (i8 * 256 + r) := by
  funext j
  simp only [score, scoreRow, scoreAt]
  congr 1
  refine Finset.sum_congr rfl fun e _ => ?_
  congr 2 <;> omega

include hx in
theorem query_lo (r : Fin 256) (d : Fin 128) :
    View.ld x r0_1 (ix2 r d) = ((q ((b * 8 + i8) * 256 + r) (p * 256 + d) : ℝ) : EReal) := by
  refine Eq.trans ?_ (hx r ⟨d.val, by omega⟩)
  pointwise

include hx in
theorem query_hi (r : Fin 256) (d : Fin 128) :
    View.ld x r0_3 (ix2 r d) = ((q ((b * 8 + i8) * 256 + r) (p * 256 + (128 + d)) : ℝ) : EReal) := by
  refine Eq.trans ?_ (hx r ⟨128 + d.val, by omega⟩)
  pointwise

include hy in
theorem key_lo (r : Fin 2048) (d : Fin 128) :
    View.ld y r0_2 (ix2 r d) = ((k (b * 2048 + r) (p * 256 + d) : ℝ) : EReal) := by
  refine Eq.trans ?_ (hy r ⟨d.val, by omega⟩)
  pointwise

include hy in
theorem key_hi (r : Fin 2048) (d : Fin 128) :
    View.ld y r0_4 (ix2 r d) = ((k (b * 2048 + r) (p * 256 + (128 + d)) : ℝ) : EReal) := by
  refine Eq.trans ?_ (hy r ⟨128 + d.val, by omega⟩)
  pointwise

include hi8 hx hy hw in
/-- What the body leaves in the output's block. -/
theorem out_block (r : Fin 256) (l : Fin 128) :
    out0_3 x y w (ix2 r l) = ((outAt q k v ((b * 8 + i8) * 256 + r) (p * 128 + l) : ℝ) : EReal) := by
  have e1 : ((b * 8 + i8) * 256 + r.val) / 2048 = b := by omega
  have e2 : ((b * 8 + i8) * 256 + r.val) % 2048 = i8 * 256 + r := by omega
  frame_out
  unfold k0_pay1 k0_pay14
  pointwise
  rw [mask_apply]
  split
  · rw [out_apply (query_lo hx) (key_lo hy) hw, score_lo]
    have e3 : (p * 128 + l.val) / 64 = 2 * p := by omega
    simp only [outAt, e1, e2, e3, softmax_scoreRow]
  · refine (show k0_pay13 w (View.ld x r0_3) (View.ld y r0_4) (ix2 r l) = _ from out_apply (query_hi hx) (key_hi hy) hw r l).trans ?_
    rw [score_hi]
    have e3 : (p * 128 + l.val) / 64 = 2 * p + 1 := by omega
    simp only [outAt, e1, e2, e3, softmax_scoreRow]

include hx hy in
/-- What the body leaves in the logarithms' block: each head's, in every one of its lanes. -/
theorem logSum_block (r : Fin 256) (l : Fin 128) :
    out0_4 x y w (ix2 r l) = ((logSumAt q k b (2 * p + l / 64) (i8 * 256 + r) : ℝ) : EReal) := by
  have h1 := logSum_apply (query_lo hx) (key_lo hy) r
  have h2 := logSum_apply (query_hi hx) (key_hi hy) r
  rw [score_lo] at h1
  rw [score_hi] at h2
  frame_out
  unfold k0_pay2 k0_pay14
  pointwise
  rw [mask_apply]
  split
  · rw [show 2 * p + l.val / 64 = 2 * p from by omega]
    exact h1
  · rw [show 2 * p + l.val / 64 = 2 * p + 1 from by omega]
    exact h2

end Halves

/-! ## The arrays -/

/-- The forward call leaves the attention's output in its first result. -/
theorem out_array (hq : Holds (V c main_arg0) q) (hk : Holds (V c main_arg1) k) (hv : Holds (V c main_arg2) v) :
    (dat0 V c).arrAt 3 cfg0.N = fun i => ((outAt q k v (i 0).val (i 1).val : ℝ) : EReal) := by
  refine (dat0 V c).arrAt_eq_of_covers 3 _ (by decide +kernel) fun t hf y => ?_
  blk_simp [index0 t]
  rw [after0_3]
  exact (congrArg _ (eq_ix2 y)).trans (out_block (Nat.mod_lt _ (by omega)) (query_block V c t hq) (key_block V c t hk) (value_block V c t hv) _ _)

/-- The forward call leaves in its second result, in each lane, the logarithm of that lane's head. -/
theorem logSum_array (hq : Holds (V c main_arg0) q) (hk : Holds (V c main_arg1) k) :
    (dat0 V c).arrAt 4 cfg0.N
      = fun i => ((logSumAt q k ((i 0).val / 2048) ((i 1).val / 64) ((i 0).val % 2048) : ℝ) : EReal) := by
  refine (dat0 V c).arrAt_eq_of_covers 4 _ (by decide +kernel) fun t hf y => ?_
  blk_simp [index0 t]
  rw [after0_4]
  have hr : (y 0).val < 256 := (y 0).isLt
  have hl : (y 1).val < 128 := (y 1).isLt
  have e0 : ((t.val / 32 * 8 + t.val % 8) * 256 + (y 0).val) / 2048 = t.val / 32 := by omega
  have e1 : ((t.val / 32 * 8 + t.val % 8) * 256 + (y 0).val) % 2048 = t.val % 8 * 256 + (y 0).val := by omega
  have e2 : (t.val / 8 % 4 * 128 + (y 1).val) / 64 = 2 * (t.val / 8 % 4) + (y 1).val / 64 := by omega
  rw [e0, e1, e2]
  exact (congrArg _ (eq_ix2 y)).trans (logSum_block (query_block V c t hq) (key_block V c t hk) _ _)

end Cert.KernelIdeal.Attn

end
-- ==== Proof.AttnBackwardBlock.lean ====
/- THE GRADIENT CALL ON ONE BLOCK, at the ideal instance: its body's values for blocks of real numbers. The derivative of the
   output and the output hold two heads in their 128 lanes; the body sets the other head's lanes to zero. -/
module

public import proofs.«01_k».proof.Proof.Gen.KernelIdeal.Frame
public import proofs.«01_k».proof.Proof.AttnSpec
public import Idealize.ShloMosaic.Lib.Pointwise

@[expose] public section

set_option maxRecDepth 16384

noncomputable section

namespace Cert.KernelIdeal.Attn

open Idealize.ShloMosaic Cert.KernelIdeal.Gen Cert.Attn

/-- The lanes of the first head kept. -/
def lower (d : Fin 256 → Fin 128 → ℝ) (r : Fin 256) (l : Fin 128) : ℝ := if l.val < 64 then d r l else 0
/-- The lanes of the second head kept. -/
def upper (d : Fin 256 → Fin 128 → ℝ) (r : Fin 256) (l : Fin 128) : ℝ := if l.val < 64 then 0 else d r l

/-- The derivative of a block's scores, from weights `p`, derivatives `d` of the output, values `v` and means `u`. -/
def blockDs (p : Fin 256 → Fin 2048 → ℝ) (d : Fin 256 → Fin 128 → ℝ) (v : Fin 2048 → Fin 128 → ℝ) (u : Fin 256 → ℝ)
    (r : Fin 256) (j : Fin 2048) : ℝ := p r j * ((∑ l, d r l * v j l) - u r) * scale

section Lanes

theorem lane_slt : ∀ l : Fin 128, IntOp.cmpi CmpIPredicate.slt (BitVec.ofNat 32 l.val) 64#32
    = BitVec.ofBool (decide (l.val < 64)) := by decide

variable {x : Vec Ideal S256x128 .f32} {d : Fin 256 → Fin 128 → ℝ} (hx : ∀ r l, x (ix2 r l) = (d r l : EReal))
include hx

theorem lower_apply (r : Fin 256) (l : Fin 128) : k1_pay10 x (ix2 r l) = (lower d r l : EReal) := by
  pointwise [k1_pay10, k1_pay8]
  rw [lane_slt, Scalar.select_decide, lower]
  split
  · exact hx r l
  · rfl

theorem upper_apply (r : Fin 256) (l : Fin 128) : k1_pay17 k1_pay8 x (ix2 r l) = (upper d r l : EReal) := by
  pointwise [k1_pay17, k1_pay8]
  rw [lane_slt, upper]
  by_cases h : l.val < 64
  · simp only [h, decide_true, if_true]
    exact (ValueIdx.select_zero _ _).trans EReal.coe_zero.symm
  · simp only [h, decide_false, if_false]
    exact (ValueIdx.select_one _ _).trans (hx r l)

end Lanes

/-- The rows' sums of the products of two blocks. -/
def rowDots (g o : Vec Ideal S256x128 .f32) : FVec Ideal S256 .f32 :=
  multiReduction .add [1] S256 (mulf g (shapeCast S256x128 o shapeCasts_S256x128_S256x128)) 0x00000000#32 reduces_S256x128_S256 (.inl rfl) rfl

section Values
variable {x : Vec Ideal S256x128 .bf16} {y w : Vec Ideal S2048x128 .bf16} {z : Vec Ideal S256x1 .f32}
  {q : Fin 256 → Fin 128 → ℝ} {k v : Fin 2048 → Fin 128 → ℝ} {s : Fin 256 → ℝ}
  (hx : ∀ r d, x (ix2 r d) = (q r d : EReal)) (hy : ∀ j d, y (ix2 j d) = (k j d : EReal))
  (hw : ∀ j d, w (ix2 j d) = (v j d : EReal)) (hz : ∀ r, z (ix2 r 0) = (s r : EReal))

include hx hy hz in
/-- The weights, from the scores and the saved logarithms. -/
theorem weights_apply (r : Fin 256) (j : Fin 2048) :
    k1_pay9 x y z (ix2 r j) = ((Real.exp (score q k r j - s r) : ℝ) : EReal) := by
  pointwise [k1_pay9]
  simp only [hx, hy, hz, coe_sum_mul]
  rw [ofBits_scale, ← EReal.coe_mul, ← EReal.coe_sub, exp_real]; rfl

variable {a : FVec Ideal S256x2048 .f32} {g o : Vec Ideal S256x128 .f32} {e : FVec Ideal S256 .f32}
  {p : Fin 256 → Fin 2048 → ℝ} {d u : Fin 256 → Fin 128 → ℝ} {n : Fin 256 → ℝ}
  (ha : ∀ r j, a (ix2 r j) = (p r j : EReal)) (hg : ∀ r l, g (ix2 r l) = (d r l : EReal))
  (ho : ∀ r l, o (ix2 r l) = (u r l : EReal)) (he : ∀ r, e (ix1 r) = (n r : EReal))

include hg ho in
/-- The rows' products of the output with its derivative. -/
theorem mean_apply (r : Fin 256) :
    rowDots g o (ix1 r) = ((∑ l, d r l * u r l : ℝ) : EReal) := by
  pointwise [rowDots]
  simp only [hg, ho, coe_sum_mul]

include ha hg hw he in
/-- The derivative of the scores. -/
theorem ds_apply (r : Fin 256) (j : Fin 2048) : k1_pay2 w a g e (ix2 r j) = (blockDs p d v n r j : EReal) := by
  pointwise [k1_pay2, k1_pay1]
  simp only [ha, hg, hw, he, coe_sum_mul]
  rw [ofBits_scale, ← EReal.coe_sub, ← EReal.coe_mul, ← EReal.coe_mul]; rfl

include ha hg hw he hy in
/-- The product of the derivative of the scores with the keys. -/
theorem dq_apply (r : Fin 256) (l : Fin 128) :
    k1_pay3 w y a g e (ix2 r l) = ((∑ j, blockDs p d v n r j * k j l : ℝ) : EReal) := by
  have h := ds_apply hw ha hg he
  pointwise [k1_pay3]
  simp only [h, hy, coe_sum_mul]

variable {b : FVec Ideal S256x2048 .bf16} {f : Fin 256 → Fin 2048 → ℝ} (hb : ∀ r j, b (ix2 r j) = (f r j : EReal))

include hb hx in
/-- One block's addend to the gradient of the keys. -/
theorem dk_apply (acc : Vec Ideal S2048x128 .f32) (j : Fin 2048) (l : Fin 128) :
    k1_pay14 x b acc (ix2 j l) = acc (ix2 j l) + ((∑ r, f r j * q r l : ℝ) : EReal) := by
  pointwise [k1_pay14]
  simp only [hb, hx, coe_sum_mul]

variable {h : FVec Ideal S256x128 .bf16} (hh : ∀ r l, h (ix2 r l) = (d r l : EReal))
include ha hh in
/-- One head's addend to the gradient of the values. -/
theorem dv_apply (acc : Vec Ideal S2048x128 .f32) (j : Fin 2048) (l : Fin 128) :
    k1_pay15 a h acc (ix2 j l) = acc (ix2 j l) + ((∑ r, p r j * d r l : ℝ) : EReal) := by
  pointwise [k1_pay15]
  simp only [ha, hh, coe_sum_mul]

end Values

/-! The first head's values are the second head's, at the first head's operands. -/

theorem ds_first (v6 : Vec Ideal S2048x128 .bf16) (v7 : Vec Ideal S256x128 .bf16) (v8 : Vec Ideal S2048x128 .bf16)
    (v12 : Vec Ideal S256x1 .f32) (v17 v20 : Vec Ideal S256x128 .f32) :
    k1_pay12 v6 v7 v8 v12 v17 v20 = k1_pay2 v6 (k1_pay9 v7 v8 v12) (k1_pay10 v17) (rowDots (k1_pay10 v17) v20) := rfl

theorem dq_first (v6 : Vec Ideal S2048x128 .bf16) (v7 : Vec Ideal S256x128 .bf16) (v8 : Vec Ideal S2048x128 .bf16)
    (v12 : Vec Ideal S256x1 .f32) (v17 v20 : Vec Ideal S256x128 .f32) :
    k1_pay13 v6 v7 v8 v12 v17 v20 = k1_pay3 v6 v8 (k1_pay9 v7 v8 v12) (k1_pay10 v17) (rowDots (k1_pay10 v17) v20) := rfl

theorem dk_second (v6 : Vec Ideal S2048x128 .bf16) (v46 : Vec Ideal S256x128 .bf16) (v55 : FVec Ideal S256x2048 .f32)
    (v59 : Vec Ideal S256x128 .f32) (v63 : FVec Ideal S256 .f32) (v75 : Vec Ideal S2048x128 .f32) :
    k1_pay4 v6 v46 v55 v59 v63 v75 = k1_pay14 v46 (k1_pay2 v6 v55 v59 v63) v75 := rfl

theorem dv_second (v55 : FVec Ideal S256x2048 .f32) (v59 : Vec Ideal S256x128 .f32) (v80 : Vec Ideal S2048x128 .f32) :
    k1_pay5 v55 v59 v80 = k1_pay15 v55 (k1_pay1 v59) v80 := rfl

theorem weights_second (v46 : Vec Ideal S256x128 .bf16) (v47 : Vec Ideal S2048x128 .bf16) (v51 : Vec Ideal S256x1 .f32) :
    k1_pay16 v46 v47 v51 = k1_pay9 v46 v47 v51 := rfl

theorem means_second (v57 v60 : Vec Ideal S256x128 .f32) :
    k1_pay18 k1_pay8 v57 v60 = rowDots (k1_pay17 k1_pay8 v57) v60 := rfl

end Cert.KernelIdeal.Attn

end
-- ==== Proof.AttnBackwardReal.lean ====
/- ONE BLOCK OF THE GRADIENT, over real numbers: a block's weights, derivatives of weights, means and derivatives of scores are
   the attention's. Sequence `b`, pair of heads `p`, block `i8` of 256 queries. -/
module

public import proofs.«01_k».proof.Proof.AttnBackwardBlock

@[expose] public section

noncomputable section

namespace Cert.KernelIdeal.Attn

open Idealize.ShloMosaic Cert.Attn

/-- A sum over the lanes of the first head. -/
theorem sum_lower (f : ℕ → ℝ) : ∑ l : Fin 128, (if l.val < 64 then f l.val else 0) = ∑ e : Fin 64, f e.val := by
  rw [Fin.sum_univ_add (a := 64) (b := 64) (fun l : Fin 128 => if l.val < 64 then f l.val else 0)]
  simp

/-- A sum over the lanes of the second head. -/
theorem sum_upper (f : ℕ → ℝ) : ∑ l : Fin 128, (if l.val < 64 then 0 else f l.val) = ∑ e : Fin 64, f (64 + e.val) := by
  rw [Fin.sum_univ_add (a := 64) (b := 64) (fun l : Fin 128 => if l.val < 64 then 0 else f l.val)]
  simp [add_comm]

section
variable (q k v d : ℕ → ℕ → ℝ) (b p i8 : ℕ)

/-- A block of rows of queries, from column `o` on. -/
def rowsAt (f : ℕ → ℕ → ℝ) (o w : ℕ) (r : Fin 256) (l : Fin w) : ℝ := f ((b * 8 + i8) * 256 + r) (o + l)
/-- A sequence's rows, from column `o` on. -/
def seqAt (f : ℕ → ℕ → ℝ) (o w : ℕ) (j : Fin 2048) (l : Fin w) : ℝ := f (b * 2048 + j) (o + l)

/-- The weights of head `h`, from its queries and keys and the logarithm of its sums. -/
theorem weight_block (h o : ℕ) (ho : o = h * 128) (r : Fin 256) (j : Fin 2048) :
    Real.exp (score (rowsAt b i8 q o 128) (seqAt b k o 128) r j - logSumAt q k b h (i8 * 256 + r))
      = weight q k b h (i8 * 256 + r) j := by
  subst ho
  rw [← exp_scoreAt_sub]
  congr 2
  simp only [score, scoreAt, rowsAt, seqAt]
  congr 1
  refine Finset.sum_congr rfl fun e _ => ?_
  congr 2
  omega

theorem dWeight_lower (r : Fin 256) (j : Fin 2048) :
    ∑ l, lower (rowsAt b i8 d (p * 128) 128) r l * seqAt b v (p * 128) 128 j l = dWeight v d b (2 * p) (i8 * 256 + r) j := by
  have h := sum_lower fun l => d ((b * 8 + i8) * 256 + r) (p * 128 + l) * v (b * 2048 + j) (p * 128 + l)
  simp only [lower, rowsAt, seqAt, ite_mul, zero_mul]
  rw [h, dWeight]
  refine Finset.sum_congr rfl fun e _ => ?_
  congr 2 <;> omega

theorem dWeight_upper (r : Fin 256) (j : Fin 2048) :
    ∑ l, upper (rowsAt b i8 d (p * 128) 128) r l * seqAt b v (p * 128) 128 j l = dWeight v d b (2 * p + 1) (i8 * 256 + r) j := by
  have h := sum_upper fun l => d ((b * 8 + i8) * 256 + r) (p * 128 + l) * v (b * 2048 + j) (p * 128 + l)
  simp only [upper, rowsAt, seqAt, ite_mul, zero_mul]
  rw [h, dWeight]
  refine Finset.sum_congr rfl fun e _ => ?_
  congr 2 <;> omega

theorem mean_lower (hi : i8 < 8) (r : Fin 256) :
    ∑ l, lower (rowsAt b i8 d (p * 128) 128) r l * rowsAt b i8 (outAt q k v) (p * 128) 128 r l
      = meanAt q k v d b (2 * p) (i8 * 256 + r) := by
  have h := sum_lower fun l => d ((b * 8 + i8) * 256 + r) (p * 128 + l) * outAt q k v ((b * 8 + i8) * 256 + r) (p * 128 + l)
  simp only [lower, rowsAt, ite_mul, zero_mul]
  rw [h, ← sum_d_out _ _ _ _ _ _ _ (by omega)]
  refine Finset.sum_congr rfl fun e _ => ?_
  congr 2 <;> omega

theorem mean_upper (hi : i8 < 8) (r : Fin 256) :
    ∑ l, upper (rowsAt b i8 d (p * 128) 128) r l * rowsAt b i8 (outAt q k v) (p * 128) 128 r l
      = meanAt q k v d b (2 * p + 1) (i8 * 256 + r) := by
  have h := sum_upper fun l => d ((b * 8 + i8) * 256 + r) (p * 128 + l) * outAt q k v ((b * 8 + i8) * 256 + r) (p * 128 + l)
  simp only [upper, rowsAt, ite_mul, zero_mul]
  rw [h, ← sum_d_out _ _ _ _ _ _ _ (by omega)]
  refine Finset.sum_congr rfl fun e _ => ?_
  congr 2 <;> omega

/-- The first head's derivative of the scores. -/
theorem blockDs_lower (hi : i8 < 8) (r : Fin 256) (j : Fin 2048) :
    blockDs (fun r j => weight q k b (2 * p) (i8 * 256 + r) j) (lower (rowsAt b i8 d (p * 128) 128)) (seqAt b v (p * 128) 128)
        (fun r => ∑ l, lower (rowsAt b i8 d (p * 128) 128) r l * rowsAt b i8 (outAt q k v) (p * 128) 128 r l) r j
      = dScore q k v d b (2 * p) (i8 * 256 + r) j := by
  simp only [blockDs, dWeight_lower, mean_lower q k v d b p i8 hi, dScore]

/-- The second head's derivative of the scores. -/
theorem blockDs_upper (hi : i8 < 8) (r : Fin 256) (j : Fin 2048) :
    blockDs (fun r j => weight q k b (2 * p + 1) (i8 * 256 + r) j) (upper (rowsAt b i8 d (p * 128) 128)) (seqAt b v (p * 128) 128)
        (fun r => ∑ l, upper (rowsAt b i8 d (p * 128) 128) r l * rowsAt b i8 (outAt q k v) (p * 128) 128 r l) r j
      = dScore q k v d b (2 * p + 1) (i8 * 256 + r) j := by
  simp only [blockDs, dWeight_upper, mean_upper q k v d b p i8 hi, dScore]

end

end Cert.KernelIdeal.Attn

end
-- ==== Proof.AttnBackwardStep.lean ====
/- ONE POINT OF THE GRADIENT CALL'S GRID: what the body computes for each of its pair of heads, over blocks that hold real
   numbers. Sequence `b`, pair of heads `p`, block `i8` of 256 queries. -/
module

public import proofs.«01_k».proof.Proof.AttnForward
public import proofs.«01_k».proof.Proof.AttnBackwardReal
public import Idealize.ShloMosaic.Lib.Pipeline.ValueKit

@[expose] public section

set_option maxRecDepth 16384

noncomputable section

namespace Cert.KernelIdeal.Attn

open Idealize.ShloMosaic Idealize.ShloMosaic.TcCoe Cert.KernelIdeal.Gen Cert.Attn
open Idealize.SL.Sem

/-- A block of queries at one head. -/
abbrev rowsLo : Rect S256x256 := Rect.unit (s := S256x256) ![0, 0] ![256, 128] inb_S256x256_S256x128_0_0
/-- A block of queries at the other head. -/
abbrev rowsHi : Rect S256x256 := Rect.unit (s := S256x256) ![0, 128] ![256, 128] inb_S256x256_S256x128_0_128
/-- A sequence's keys at one head. -/
abbrev seqLo : Rect S2048x256 := Rect.unit (s := S2048x256) ![0, 0] ![2048, 128] inb_S2048x256_S2048x128_0_0
/-- A sequence's keys at the other head. -/
abbrev seqHi : Rect S2048x256 := Rect.unit (s := S2048x256) ![0, 128] ![2048, 128] inb_S2048x256_S2048x128_0_128
/-- One head's logarithms. -/
abbrev logLo : Rect S256x128 := Rect.unit (s := S256x128) ![0, 0] ![256, 1] inb_S256x128_S256x1_0_0
/-- The other head's logarithms. -/
abbrev logHi : Rect S256x128 := Rect.unit (s := S256x128) ![0, 64] ![256, 1] inb_S256x128_S256x1_0_64

/-- The blocks that a point reads hold the arrays' real numbers. -/
structure Blocks (q k v d : ℕ → ℕ → ℝ) (b p i8 : ℕ) (x : Vec Ideal S256x256 .bf16) (y : Vec Ideal S2048x256 .bf16)
    (w : Vec Ideal S2048x128 .bf16) (o z g : Vec Ideal S256x128 .f32) : Prop where
  hi : i8 < 8
  hx : ∀ r e, x (ix2 r e) = ((q ((b * 8 + i8) * 256 + r) (p * 256 + e) : ℝ) : EReal)
  hy : ∀ j e, y (ix2 j e) = ((k (b * 2048 + j) (p * 256 + e) : ℝ) : EReal)
  hw : ∀ j l, w (ix2 j l) = ((v (b * 2048 + j) (p * 128 + l) : ℝ) : EReal)
  ho : ∀ r l, o (ix2 r l) = ((outAt q k v ((b * 8 + i8) * 256 + r) (p * 128 + l) : ℝ) : EReal)
  hz : ∀ r l, z (ix2 r l) = ((logSumAt q k b (2 * p + l / 64) (i8 * 256 + r) : ℝ) : EReal)
  hg : ∀ r l, g (ix2 r l) = ((d ((b * 8 + i8) * 256 + r) (p * 128 + l) : ℝ) : EReal)

namespace Blocks

variable {q k v d : ℕ → ℕ → ℝ} {b p i8 : ℕ} {x : Vec Ideal S256x256 .bf16} {y : Vec Ideal S2048x256 .bf16}
  {w : Vec Ideal S2048x128 .bf16} {o z g : Vec Ideal S256x128 .f32} (H : Blocks q k v d b p i8 x y w o z g)
include H

theorem query_lo (r : Fin 256) (e : Fin 128) :
    View.ld x rowsLo (ix2 r e) = ((rowsAt b i8 q (2 * p * 128) 128 r e : ℝ) : EReal) := by
  refine Eq.trans ?_ ((H.hx r ⟨e.val, by omega⟩).trans ?_)
  · pointwise
  · rw [rowsAt, show p * 256 = 2 * p * 128 from by omega]

theorem query_hi (r : Fin 256) (e : Fin 128) :
    View.ld x rowsHi (ix2 r e) = ((rowsAt b i8 q ((2 * p + 1) * 128) 128 r e : ℝ) : EReal) := by
  refine Eq.trans ?_ ((H.hx r ⟨128 + e.val, by omega⟩).trans ?_)
  · pointwise
  · rw [rowsAt, show p * 256 + (128 + e.val) = (2 * p + 1) * 128 + e.val from by omega]

theorem key_lo (j : Fin 2048) (e : Fin 128) :
    View.ld y seqLo (ix2 j e) = ((seqAt b k (2 * p * 128) 128 j e : ℝ) : EReal) := by
  refine Eq.trans ?_ ((H.hy j ⟨e.val, by omega⟩).trans ?_)
  · pointwise
  · rw [seqAt, show p * 256 = 2 * p * 128 from by omega]

theorem key_hi (j : Fin 2048) (e : Fin 128) :
    View.ld y seqHi (ix2 j e) = ((seqAt b k ((2 * p + 1) * 128) 128 j e : ℝ) : EReal) := by
  refine Eq.trans ?_ ((H.hy j ⟨128 + e.val, by omega⟩).trans ?_)
  · pointwise
  · rw [seqAt, show p * 256 + (128 + e.val) = (2 * p + 1) * 128 + e.val from by omega]

theorem log_lo (r : Fin 256) : View.ld z logLo (ix2 r 0) = ((logSumAt q k b (2 * p) (i8 * 256 + r) : ℝ) : EReal) := by
  refine Eq.trans ?_ ((H.hz r ⟨0, by omega⟩).trans ?_)
  · pointwise
  · rw [show 2 * p + 0 / 64 = 2 * p from by omega]

theorem log_hi (r : Fin 256) : View.ld z logHi (ix2 r 0) = ((logSumAt q k b (2 * p + 1) (i8 * 256 + r) : ℝ) : EReal) := by
  refine Eq.trans ?_ ((H.hz r ⟨64, by omega⟩).trans ?_)
  · pointwise
  · rw [show 2 * p + 64 / 64 = 2 * p + 1 from by omega]

theorem values (j : Fin 2048) (l : Fin 128) : w (ix2 j l) = ((seqAt b v (p * 128) 128 j l : ℝ) : EReal) := H.hw j l

/-- The first head's weights. -/
theorem weights_lo (r : Fin 256) (j : Fin 2048) :
    k1_pay9 (View.ld x rowsLo) (View.ld y seqLo) (View.ld z logLo) (ix2 r j)
      = ((weight q k b (2 * p) (i8 * 256 + r) j : ℝ) : EReal) := by
  rw [weights_apply H.query_lo H.key_lo H.log_lo, weight_block q k b i8 (2 * p) _ rfl]

/-- The second head's weights. -/
theorem weights_hi (r : Fin 256) (j : Fin 2048) :
    k1_pay16 (View.ld x rowsHi) (View.ld y seqHi) (View.ld z logHi) (ix2 r j)
      = ((weight q k b (2 * p + 1) (i8 * 256 + r) j : ℝ) : EReal) := by
  rw [weights_second, weights_apply H.query_hi H.key_hi H.log_hi, weight_block q k b i8 (2 * p + 1) _ rfl]

theorem d_lo (r : Fin 256) (l : Fin 128) :
    k1_pay10 g (ix2 r l) = ((lower (rowsAt b i8 d (p * 128) 128) r l : ℝ) : EReal) := lower_apply H.hg r l

theorem d_hi (r : Fin 256) (l : Fin 128) :
    k1_pay17 k1_pay8 g (ix2 r l) = ((upper (rowsAt b i8 d (p * 128) 128) r l : ℝ) : EReal) := upper_apply H.hg r l

theorem mean_lo (r : Fin 256) : rowDots (k1_pay10 g) o (ix1 r)
    = ((∑ l, lower (rowsAt b i8 d (p * 128) 128) r l * rowsAt b i8 (outAt q k v) (p * 128) 128 r l : ℝ) : EReal) :=
  mean_apply H.d_lo (u := rowsAt b i8 (outAt q k v) (p * 128) 128) H.ho r

theorem mean_hi (r : Fin 256) : k1_pay18 k1_pay8 g o (ix1 r)
    = ((∑ l, upper (rowsAt b i8 d (p * 128) 128) r l * rowsAt b i8 (outAt q k v) (p * 128) 128 r l : ℝ) : EReal) := by
  rw [means_second]
  exact mean_apply H.d_hi (u := rowsAt b i8 (outAt q k v) (p * 128) 128) H.ho r

/-- The first head's derivative of the scores. -/
theorem ds_lo (r : Fin 256) (j : Fin 2048) :
    k1_pay12 w (View.ld x rowsLo) (View.ld y seqLo) (View.ld z logLo) g o (ix2 r j)
      = ((dScore q k v d b (2 * p) (i8 * 256 + r) j : ℝ) : EReal) := by
  rw [ds_first, ds_apply H.values H.weights_lo H.d_lo H.mean_lo, blockDs_lower q k v d b p i8 H.hi]

/-- The second head's derivative of the scores. -/
theorem ds_hi (r : Fin 256) (j : Fin 2048) :
    k1_pay2 w (k1_pay16 (View.ld x rowsHi) (View.ld y seqHi) (View.ld z logHi)) (k1_pay17 k1_pay8 g) (k1_pay18 k1_pay8 g o)
        (ix2 r j)
      = ((dScore q k v d b (2 * p + 1) (i8 * 256 + r) j : ℝ) : EReal) := by
  rw [ds_apply H.values H.weights_hi H.d_hi H.mean_hi, blockDs_upper q k v d b p i8 H.hi]

/-- The first head's gradient of the queries. -/
theorem dq_lo (r : Fin 256) (l : Fin 128) :
    k1_pay13 w (View.ld x rowsLo) (View.ld y seqLo) (View.ld z logLo) g o (ix2 r l)
      = ((dqAt q k v d ((b * 8 + i8) * 256 + r) (p * 256 + l) : ℝ) : EReal) := by
  have hi := H.hi
  have e0 : ((b * 8 + i8) * 256 + r.val) / 2048 = b := by omega
  have e1 : ((b * 8 + i8) * 256 + r.val) % 2048 = i8 * 256 + r := by omega
  have e2 : (p * 256 + l.val) / 128 = 2 * p := by omega
  rw [dq_first, dq_apply H.key_lo H.values H.weights_lo H.d_lo H.mean_lo, dqAt, e0, e1, e2]
  simp only [blockDs_lower q k v d b p i8 H.hi, seqAt, show p * 256 = 2 * p * 128 from by omega]

/-- The second head's gradient of the queries. -/
theorem dq_hi (r : Fin 256) (l : Fin 128) :
    k1_pay3 w (View.ld y seqHi) (k1_pay16 (View.ld x rowsHi) (View.ld y seqHi) (View.ld z logHi)) (k1_pay17 k1_pay8 g)
        (k1_pay18 k1_pay8 g o) (ix2 r l)
      = ((dqAt q k v d ((b * 8 + i8) * 256 + r) (p * 256 + (128 + l)) : ℝ) : EReal) := by
  have hi := H.hi
  have e0 : ((b * 8 + i8) * 256 + r.val) / 2048 = b := by omega
  have e1 : ((b * 8 + i8) * 256 + r.val) % 2048 = i8 * 256 + r := by omega
  have e2 : (p * 256 + (128 + l.val)) / 128 = 2 * p + 1 := by omega
  have e3 : p * 256 + (128 + l.val) = (2 * p + 1) * 128 + l.val := by omega
  rw [dq_apply H.key_hi H.values H.weights_hi H.d_hi H.mean_hi, dqAt, e0, e1, e2, e3]
  simp only [blockDs_upper q k v d b p i8 H.hi, seqAt]

end Blocks

/-- What a block of queries adds to the gradient of the keys. -/
def dkTerm (q k v d : ℕ → ℕ → ℝ) (b i8 j col : ℕ) : ℝ :=
  ∑ r : Fin 256, dScore q k v d b (col / 128) (i8 * 256 + r) j * q (b * 2048 + (i8 * 256 + r)) col

/-- What a block of queries adds to the gradient of the values. -/
def dvTerm (q k d : ℕ → ℕ → ℝ) (b i8 j col : ℕ) : ℝ :=
  ∑ r : Fin 256, weight q k b (col / 64) (i8 * 256 + r) j * d (b * 2048 + (i8 * 256 + r)) col

namespace Blocks

variable {q k v d : ℕ → ℕ → ℝ} {b p i8 : ℕ} {x : Vec Ideal S256x256 .bf16} {y : Vec Ideal S2048x256 .bf16}
  {w : Vec Ideal S2048x128 .bf16} {o z g : Vec Ideal S256x128 .f32} (H : Blocks q k v d b p i8 x y w o z g)
include H

/-- The first head's addend to the gradient of the keys. -/
theorem dk_lo (acc : Vec Ideal S2048x128 .f32) (j : Fin 2048) (l : Fin 128) :
    k1_pay14 (View.ld x rowsLo) (k1_pay12 w (View.ld x rowsLo) (View.ld y seqLo) (View.ld z logLo) g o) acc (ix2 j l)
      = acc (ix2 j l) + ((dkTerm q k v d b i8 j (p * 256 + l) : ℝ) : EReal) := by
  have e2 : (p * 256 + l.val) / 128 = 2 * p := by omega
  rw [dk_apply H.query_lo H.ds_lo, dkTerm, e2]
  congr 2
  refine Finset.sum_congr rfl fun r _ => ?_
  rw [rowsAt]
  congr 2 <;> omega

/-- The second head's addend to the gradient of the keys. -/
theorem dk_hi (acc : Vec Ideal S2048x128 .f32) (j : Fin 2048) (l : Fin 128) :
    k1_pay4 w (View.ld x rowsHi) (k1_pay16 (View.ld x rowsHi) (View.ld y seqHi) (View.ld z logHi)) (k1_pay17 k1_pay8 g)
        (k1_pay18 k1_pay8 g o) acc (ix2 j l)
      = acc (ix2 j l) + ((dkTerm q k v d b i8 j (p * 256 + (128 + l)) : ℝ) : EReal) := by
  have e2 : (p * 256 + (128 + l.val)) / 128 = 2 * p + 1 := by omega
  rw [dk_second, dk_apply H.query_hi H.ds_hi, dkTerm, e2]
  congr 2
  refine Finset.sum_congr rfl fun r _ => ?_
  rw [rowsAt]
  congr 2 <;> omega

/-- Both heads' addends to the gradient of the values. -/
theorem dv_both (acc : Vec Ideal S2048x128 .f32) (j : Fin 2048) (l : Fin 128) :
    k1_pay5 (k1_pay16 (View.ld x rowsHi) (View.ld y seqHi) (View.ld z logHi)) (k1_pay17 k1_pay8 g)
        (k1_pay15 (k1_pay9 (View.ld x rowsLo) (View.ld y seqLo) (View.ld z logLo)) (k1_pay11 g) acc) (ix2 j l)
      = acc (ix2 j l) + ((dvTerm q k d b i8 j (p * 128 + l) : ℝ) : EReal) := by
  rw [dv_second, dv_apply H.weights_hi (h := k1_pay1 (k1_pay17 k1_pay8 g)) (fun r l => H.d_hi r l),
    dv_apply H.weights_lo (h := k1_pay11 g) (fun r l => H.d_lo r l), add_assoc, ← EReal.coe_add, dvTerm]
  congr 2
  by_cases hl : l.val < 64
  · have e2 : (p * 128 + l.val) / 64 = 2 * p := by omega
    simp only [lower, upper, hl, if_true, mul_zero, Finset.sum_const_zero, add_zero, rowsAt, e2]
    refine Finset.sum_congr rfl fun r _ => ?_
    congr 2; omega
  · have e2 : (p * 128 + l.val) / 64 = 2 * p + 1 := by omega
    simp only [lower, upper, hl, if_false, mul_zero, Finset.sum_const_zero, zero_add, rowsAt, e2]
    refine Finset.sum_congr rfl fun r _ => ?_
    congr 2; omega

end Blocks

/-- The eight blocks' addends to the gradient of the keys are the gradient. -/
theorem sum_dkTerm (q k v d : ℕ → ℕ → ℝ) (b j col : ℕ) (hj : j < 2048) :
    ∑ s ∈ Finset.range 8, dkTerm q k v d b s j col = dkAt q k v d (b * 2048 + j) col := by
  have e0 : (b * 2048 + j) / 2048 = b := by omega
  have e1 : (b * 2048 + j) % 2048 = j := by omega
  have h := Finset.sum_range_range_mul_add 8 256 fun i => dScore q k v d b (col / 128) i j * q (b * 2048 + i) col
  simp only [dkAt, e0, e1, dkTerm]
  simp only [Finset.sum_range] at h ⊢
  exact h

/-- The eight blocks' addends to the gradient of the values are the gradient. -/
theorem sum_dvTerm (q k d : ℕ → ℕ → ℝ) (b j col : ℕ) (hj : j < 2048) :
    ∑ s ∈ Finset.range 8, dvTerm q k d b s j col = dvAt q k d (b * 2048 + j) col := by
  have e0 : (b * 2048 + j) / 2048 = b := by omega
  have e1 : (b * 2048 + j) % 2048 = j := by omega
  have h := Finset.sum_range_range_mul_add 8 256 fun i => weight q k b (col / 64) i j * d (b * 2048 + i) col
  simp only [dvAt, e0, e1, dvTerm]
  simp only [Finset.sum_range] at h ⊢
  exact h

end Cert.KernelIdeal.Attn

end
-- ==== Proof.AttnBackward.lean ====
/- THE GRADIENT CALL'S ARRAYS: what the gradients of the queries, keys and values hold when the call is done, for arguments that
   are real numbers and for the forward call's two results. Point `t` of the grid is sequence `t / 32`, pair of heads
   `t / 8 % 4`, block of 256 queries `t % 8`; the gradients of keys and values gather the eight blocks' addends. -/
module

public import proofs.«01_k».proof.Proof.AttnBackwardStep
public import Idealize.ShloMosaic.Lib.Pipeline.ValueKit
public import Idealize.ShloMosaic.Lib.Pipeline.ReadBack

@[expose] public section

set_option maxRecDepth 16384

noncomputable section

namespace Cert.KernelIdeal.Attn

open Idealize.ShloMosaic Idealize.ShloMosaic.TcCoe Cert.KernelIdeal.Gen Cert.Attn
open Idealize.SL.Sem

/-- The blocks that the gradient call's windows are at. -/
theorem index1 : ∀ t : Fin cfg1.N,
    (cfg1.win 0).index t = ![t.val / 32 * 8 + t.val % 8, t.val / 8 % 4] ∧ (cfg1.win 1).index t = ![t.val / 32, t.val / 8 % 4]
    ∧ (cfg1.win 2).index t = ![t.val / 32, t.val / 8 % 4] ∧ (cfg1.win 3).index t = ![t.val / 32 * 8 + t.val % 8, t.val / 8 % 4]
    ∧ (cfg1.win 4).index t = ![t.val / 32 * 8 + t.val % 8, t.val / 8 % 4]
    ∧ (cfg1.win 5).index t = ![t.val / 32 * 8 + t.val % 8, t.val / 8 % 4]
    ∧ (cfg1.win 6).index t = ![t.val / 32 * 8 + t.val % 8, t.val / 8 % 4]
    ∧ (cfg1.win 7).index t = ![t.val / 32, t.val / 8 % 4] ∧ (cfg1.win 8).index t = ![t.val / 32, t.val / 8 % 4] := by
  decide +kernel

variable (V : (c : Dev nD) → (b : Ref sig .tc) → Buf (Elt Ideal) ((c : Thread nD τ).loc b)) (c : Dev nD)
  {q k v d o : ℕ → ℕ → ℝ}

section Blocks
variable (t : Fin cfg1.N)

theorem query_block1 (hq : Holds (V c main_arg0) q) (r e : Fin 256) :
    iblk1 V c 0 t (ix2 r e) = ((q ((t.val / 32 * 8 + t.val % 8) * 256 + r) (t.val / 8 % 4 * 256 + e) : ℝ) : EReal) := by
  unfold iblk1
  refine (hq _).trans ?_
  blk_simp [index1 t]

theorem key_block1 (hk : Holds (V c main_arg1) k) (j : Fin 2048) (e : Fin 256) :
    iblk1 V c 1 t (ix2 j e) = ((k (t.val / 32 * 2048 + j) (t.val / 8 % 4 * 256 + e) : ℝ) : EReal) := by
  unfold iblk1
  refine (hk _).trans ?_
  blk_simp [index1 t]

theorem value_block1 (hv : Holds (V c main_arg2) v) (j : Fin 2048) (l : Fin 128) :
    iblk1 V c 2 t (ix2 j l) = ((v (t.val / 32 * 2048 + j) (t.val / 8 % 4 * 128 + l) : ℝ) : EReal) := by
  unfold iblk1
  refine (hv _).trans ?_
  blk_simp [index1 t]

theorem out_block1 (ho : Holds (V c main_v0_0) o) (r : Fin 256) (l : Fin 128) :
    iblk1 V c 3 t (ix2 r l) = ((o ((t.val / 32 * 8 + t.val % 8) * 256 + r) (t.val / 8 % 4 * 128 + l) : ℝ) : EReal) := by
  unfold iblk1
  refine (ho _).trans ?_
  blk_simp [index1 t]

theorem logSum_block1 (hs : Holds (V c main_v0_1) o) (r : Fin 256) (l : Fin 128) :
    iblk1 V c 4 t (ix2 r l) = ((o ((t.val / 32 * 8 + t.val % 8) * 256 + r) (t.val / 8 % 4 * 128 + l) : ℝ) : EReal) := by
  unfold iblk1
  refine (hs _).trans ?_
  blk_simp [index1 t]

theorem d_block1 (hd : Holds (V c main_arg3) d) (r : Fin 256) (l : Fin 128) :
    iblk1 V c 5 t (ix2 r l) = ((d ((t.val / 32 * 8 + t.val % 8) * 256 + r) (t.val / 8 % 4 * 128 + l) : ℝ) : EReal) := by
  unfold iblk1
  refine (hd _).trans ?_
  blk_simp [index1 t]

end Blocks

/-- A sequence's block with both of its halves stored over a whole store holds the halves. -/
theorem canon_halves (G : S2048x256.Idx → EReal) (p1 p0 : Vec Ideal S2048x128 .f32) (z : Vec Ideal S2048x256 .f32)
    (h1 : ∀ (j : Fin 2048) (l : Fin 128), p1 (ix2 j l) = G (ix2 j ⟨128 + l.val, by omega⟩))
    (h0 : ∀ (j : Fin 2048) (l : Fin 128), p0 (ix2 j l) = G (ix2 j ⟨l.val, by omega⟩)) (y : S2048x256.Idx) :
    View.canon (Val := Elt Ideal) (e := .f32) [⟨seqHi, p1⟩, ⟨seqLo, p0⟩,
      ⟨Rect.unit (s := S2048x256) ![0, 0] ![2048, 256] inb_S2048x256_S2048x256_0_0, z⟩] y = G y := by
  refine View.canon_append_of_piecesOf (Val := Elt Ideal) (s := S2048x256) (e := .f32) G [_] [_, _]
    ⟨fun x => ?_, fun x => ?_, trivial⟩ y (View.cover_of_tiledL (s := S2048x256) _ S2048x128.size (by sl_kernel_rfl) y)
  · refine (congrArg p1 (eq_ix2 x)).trans ((h1 _ _).trans
      (View.ld_unit_apply_of (S := S2048x256) (Val := Elt Ideal) (e := .f32) G ![0, 128] ![2048, 128] inb_S2048x256_S2048x128_0_128 x _ fun a => ?_).symm)
    match a with
    | ⟨0, _⟩ => exact (Nat.zero_add _).symm
    | ⟨1, _⟩ => exact rfl
  · refine (congrArg p0 (eq_ix2 x)).trans ((h0 _ _).trans
      (View.ld_unit_apply_of (S := S2048x256) (Val := Elt Ideal) (e := .f32) G ![0, 0] ![2048, 128] inb_S2048x256_S2048x128_0_0 x _ fun a => ?_).symm)
    match a with
    | ⟨0, _⟩ => exact (Nat.zero_add _).symm
    | ⟨1, _⟩ => exact (Nat.zero_add _).symm

section Points
variable (hq : Holds (V c main_arg0) q) (hk : Holds (V c main_arg1) k) (hv : Holds (V c main_arg2) v) (hd : Holds (V c main_arg3) d)
  (ho : Holds (V c main_v0_0) (outAt q k v))
  (hs : Holds (V c main_v0_1) fun row col => logSumAt q k (row / 2048) (col / 64) (row % 2048))
include hq hk hv hd ho hs

/-- The blocks of point `t` hold the arrays' numbers. -/
theorem blocks (t : Fin cfg1.N) :
    Blocks q k v d (t.val / 32) (t.val / 8 % 4) (t.val % 8) (iblk1 V c 0 t) (iblk1 V c 1 t) (iblk1 V c 2 t) (iblk1 V c 3 t)
      (iblk1 V c 4 t) (iblk1 V c 5 t) where
  hi := Nat.mod_lt _ (by omega)
  hx := query_block1 V c t hq
  hy := key_block1 V c t hk
  hw := value_block1 V c t hv
  ho := out_block1 V c t ho
  hg := d_block1 V c t hd
  hz r l := by
    refine (logSum_block1 V c t hs r l).trans ?_
    rw [show ((t.val / 32 * 8 + t.val % 8) * 256 + r.val) / 2048 = t.val / 32 from by omega,
      show ((t.val / 32 * 8 + t.val % 8) * 256 + r.val) % 2048 = t.val % 8 * 256 + r from by omega,
      show (t.val / 8 % 4 * 128 + l.val) / 64 = 2 * (t.val / 8 % 4) + l / 64 from by omega]

/-- The gradient of the queries that point `t` leaves. -/
theorem dq_point (t : Fin cfg1.N) (y : S256x256.Idx) :
    (outsAt1 V c t.val t.isLt).1 y
      = ((dqAt q k v d ((t.val / 32 * 8 + t.val % 8) * 256 + (y 0).val) (t.val / 8 % 4 * 256 + (y 1).val) : ℝ) : EReal) := by
  have H := blocks V c hq hk hv hd ho hs t
  by_cases h : t.val % 8 = 0
  · rw [outsAt1_A V c t h]
    frame_out
    canon_tiles x h
    · rw [eq_ix2 x, h0, h1]
      refine (H.dq_hi _ _).trans ?_
      simp
    · rw [eq_ix2 x, h0, h1]
      refine (H.dq_lo _ _).trans ?_
      simp
  · rw [outsAt1_B V c t h]
    frame_out
    canon_tiles x h
    · rw [eq_ix2 x, h0, h1]
      refine (H.dq_hi _ _).trans ?_
      simp
    · rw [eq_ix2 x, h0, h1]
      refine (H.dq_lo _ _).trans ?_
      simp

/-- The gradient of the keys starts from zero with a sequence's first block. -/
theorem dk_first (t : Fin cfg1.N) (h : t.val % 8 = 0) (y : S2048x256.Idx) :
    (outsAt1 V c t.val t.isLt).2.1 y
      = 0 + ((dkTerm q k v d (t.val / 32) (t.val % 8) (y 0).val (t.val / 8 % 4 * 256 + (y 1).val) : ℝ) : EReal) := by
  have H := blocks V c hq hk hv hd ho hs t
  rw [outsAt1_A V c t h]
  frame_open
  simp (disch := decide) only [↓ View.readCov_skip, ↓ View.readCov_cons_toLoadRect, ↓ View.readCov_fill]
  frame_out
  refine canon_halves (fun y => 0 + ((dkTerm q k v d (t.val / 32) (t.val % 8) (y 0).val (t.val / 8 % 4 * 256 + (y 1).val) : ℝ) : EReal))
    _ _ _ (fun j l => (H.dk_hi _ _ _).trans ?_) (fun j l => (H.dk_lo _ _ _).trans ?_) y
  · exact congrArg (· + _) Ideal.ofBits_zero_f32
  · exact congrArg (· + _) Ideal.ofBits_zero_f32

/-- Every other block adds to the gradient of the keys. -/
theorem dk_step (t : Fin cfg1.N) (h : ¬t.val % 8 = 0) (y : S2048x256.Idx) :
    (outsAt1 V c t.val t.isLt).2.1 y
      = (outsAt1 V c (t.val - 1) (Nat.lt_of_le_of_lt (Nat.sub_le _ _) t.isLt)).2.1 y
        + ((dkTerm q k v d (t.val / 32) (t.val % 8) (y 0).val (t.val / 8 % 4 * 256 + (y 1).val) : ℝ) : EReal) := by
  have H := blocks V c hq hk hv hd ho hs t
  rw [outsAt1_B V c t h]
  frame_out
  canon_tiles x h
  · rw [eq_ix2 x]
    refine (H.dk_hi _ _ _).trans ?_
    rw [h0, h1]
    refine congrArg (· + _) (View.ld_unit_apply_of _ _ _ _ _ y fun a => ?_)
    match a with
    | ⟨0, _⟩ => simpa using h0
    | ⟨1, _⟩ => simpa using h1
  · rw [eq_ix2 x]
    refine (H.dk_lo _ _ _).trans ?_
    rw [h0, h1]
    refine congrArg (· + _) (View.ld_unit_apply_of _ _ _ _ _ y fun a => ?_)
    match a with
    | ⟨0, _⟩ => simpa using h0
    | ⟨1, _⟩ => simpa using h1

/-- The gradient of the values starts from zero with a sequence's first block. -/
theorem dv_first (t : Fin cfg1.N) (h : t.val % 8 = 0) (y : S2048x128.Idx) :
    (outsAt1 V c t.val t.isLt).2.2 y
      = 0 + ((dvTerm q k d (t.val / 32) (t.val % 8) (y 0).val (t.val / 8 % 4 * 128 + (y 1).val) : ℝ) : EReal) := by
  have H := blocks V c hq hk hv hd ho hs t
  rw [outsAt1_A V c t h]
  frame_out
  rw [eq_ix2 y]
  refine (H.dv_both _ _ _).trans ?_
  exact congrArg (· + _) Ideal.ofBits_zero_f32

/-- Every other block adds to the gradient of the values. -/
theorem dv_step (t : Fin cfg1.N) (h : ¬t.val % 8 = 0) (y : S2048x128.Idx) :
    (outsAt1 V c t.val t.isLt).2.2 y
      = (outsAt1 V c (t.val - 1) (Nat.lt_of_le_of_lt (Nat.sub_le _ _) t.isLt)).2.2 y
        + ((dvTerm q k d (t.val / 32) (t.val % 8) (y 0).val (t.val / 8 % 4 * 128 + (y 1).val) : ℝ) : EReal) := by
  have H := blocks V c hq hk hv hd ho hs t
  rw [outsAt1_B V c t h]
  frame_out
  rw [eq_ix2 y]
  exact H.dv_both _ _ _

/-- The gradient of the queries. -/
theorem dq_array : (dat1 V c).arrAt 6 cfg1.N = fun i => ((dqAt q k v d (i 0).val (i 1).val : ℝ) : EReal) := by
  refine (dat1 V c).arrAt_eq_of_covers 6 _ (by decide +kernel) fun t hf y => ?_
  blk_simp [index1 t]
  rw [after1_6]
  exact dq_point V c hq hk hv hd ho hs t y

/-- The gradient of the keys. -/
theorem dk_array : (dat1 V c).arrAt 7 cfg1.N = fun i => ((dkAt q k v d (i 0).val (i 1).val : ℝ) : EReal) := by
  refine (dat1 V c).arrAt_eq_of_covers 7 _ (by decide +kernel) fun t hf y => ?_
  have hm := (flush1_7 t).mp hf
  blk_simp [index1 t]
  rw [after1_7]
  have h := Pipeline.eq_sum_of_reset_step_apply_divmod (fun n h => (outsAt1 V c n h).2.1) 8 (fun _ => 0)
    (fun a s (y : S2048x256.Idx) => ((dkTerm q k v d (a / 4) s (y 0).val (a % 4 * 256 + (y 1).val) : ℝ) : EReal))
    (fun t h y => (dk_first V c hq hk hv hd ho hs t h y).trans (by rw [Nat.div_div_eq_div_mul]))
    (fun t h y => (dk_step V c hq hk hv hd ho hs t h y).trans (by rw [Nat.div_div_eq_div_mul])) t y
  refine h.trans ?_
  rw [hm, zero_add, coe_sum, sum_dkTerm _ _ _ _ _ _ _ (y 0).isLt, Nat.div_div_eq_div_mul]

/-- The gradient of the values. -/
theorem dv_array : (dat1 V c).arrAt 8 cfg1.N = fun i => ((dvAt q k d (i 0).val (i 1).val : ℝ) : EReal) := by
  refine (dat1 V c).arrAt_eq_of_covers 8 _ (by decide +kernel) fun t hf y => ?_
  have hm := (flush1_8 t).mp hf
  blk_simp [index1 t]
  rw [after1_8]
  have h := Pipeline.eq_sum_of_reset_step_apply_divmod (fun n h => (outsAt1 V c n h).2.2) 8 (fun _ => 0)
    (fun a s (y : S2048x128.Idx) => ((dvTerm q k d (a / 4) s (y 0).val (a % 4 * 128 + (y 1).val) : ℝ) : EReal))
    (fun t h y => (dv_first V c hq hk hv hd ho hs t h y).trans (by rw [Nat.div_div_eq_div_mul]))
    (fun t h y => (dv_step V c hq hk hv hd ho hs t h y).trans (by rw [Nat.div_div_eq_div_mul])) t y
  refine h.trans ?_
  rw [hm, zero_add, coe_sum, sum_dvTerm _ _ _ _ _ _ (y 0).isLt, Nat.div_div_eq_div_mul]

end Points

end Cert.KernelIdeal.Attn

end
-- ==== Proof.AttnKernel.lean ====
/- WHAT THE TWO CALLS LEAVE, from the memory at launch, for arguments that are real numbers: the attention's output and the
   gradients of the queries, keys and values. -/
module

public import proofs.«01_k».proof.Proof.AttnRun
public import proofs.«01_k».proof.Proof.AttnBackward

@[expose] public section

set_option maxRecDepth 16384

noncomputable section

namespace Cert.KernelIdeal.Attn

open Idealize.ShloMosaic Idealize.ShloMosaic.TcCoe Cert.KernelIdeal.Gen Cert.Attn
open Idealize.SL.Sem

variable (m : (ℓ : Loc nD τ sig) → Buf (Elt Ideal) ℓ) (ρ : Dev nD → PrngReg) (c : Dev nD) {q k v d : ℕ → ℕ → ℝ}
  (hq : Holds (m ((c.tc : Thread nD τ).loc main_arg0)) q) (hk : Holds (m ((c.tc : Thread nD τ).loc main_arg1)) k)
  (hv : Holds (m ((c.tc : Thread nD τ).loc main_arg2)) v) (hd : Holds (m ((c.tc : Thread nD τ).loc main_arg3)) d)

include hq hk hv in
/-- The forward call's output. -/
theorem out_after : V1 m ρ c main_v0_0 = fun i => ((outAt q k v (i 0).val (i 1).val : ℝ) : EReal) :=
  (hF0 m ρ c 3).symm.trans (out_array (V0 m ρ) c hq hk hv)

include hq hk in
/-- The forward call's logarithms. -/
theorem logSum_after : V1 m ρ c main_v0_1
    = fun i => ((logSumAt q k ((i 0).val / 2048) ((i 1).val / 64) ((i 0).val % 2048) : ℝ) : EReal) :=
  (hF0 m ρ c 4).symm.trans (logSum_array (V0 m ρ) c hq hk)

/-- An argument is at the second call what it was at launch. -/
theorem holds_after {n0 n1 : ℕ} {x y : (⟨2, ![n0, n1]⟩ : Shape).Idx → EReal} {f : ℕ → ℕ → ℝ} (e : y = x) (h : Holds x f) :
    Holds y f := e ▸ h

include hq hk hv in
/-- The output at the end. -/
theorem out_result : W2 m ρ c (Proc.devRef .tc main_v0_0) = fun i => ((outAt q k v (i 0).val (i 1).val : ℝ) : EReal) :=
  (W2_of m ρ c main_v0_0 (by decide)).trans (out_after m ρ c hq hk hv)

include hq hk hv hd in
/-- The gradients at the end. -/
theorem grad_results :
    (W2 m ρ c (Proc.devRef .tc main_v1_0) = fun i => ((dqAt q k v d (i 0).val (i 1).val : ℝ) : EReal))
    ∧ (W2 m ρ c (Proc.devRef .tc main_v1_1) = fun i => ((dkAt q k v d (i 0).val (i 1).val : ℝ) : EReal))
    ∧ (W2 m ρ c (Proc.devRef .tc main_v1_2) = fun i => ((dvAt q k d (i 0).val (i 1).val : ℝ) : EReal)) := by
  have hq1 : Holds (V1 m ρ c main_arg0) q := holds_after (W1_args m ρ c _ (by decide)) hq
  have hk1 : Holds (V1 m ρ c main_arg1) k := holds_after (W1_args m ρ c _ (by decide)) hk
  have hv1 : Holds (V1 m ρ c main_arg2) v := holds_after (W1_args m ρ c _ (by decide)) hv
  have hd1 : Holds (V1 m ρ c main_arg3) d := holds_after (W1_args m ρ c _ (by decide)) hd
  have ho1 : Holds (V1 m ρ c main_v0_0) (outAt q k v) := fun i => congrFun (out_after m ρ c hq hk hv) i
  have hs1 : Holds (V1 m ρ c main_v0_1) fun row col => logSumAt q k (row / 2048) (col / 64) (row % 2048) :=
    fun i => congrFun (logSum_after m ρ c hq hk) i
  exact ⟨(W2_arr m ρ c 6).trans (dq_array (V1 m ρ) c hq1 hk1 hv1 hd1 ho1 hs1),
    (W2_arr m ρ c 7).trans (dk_array (V1 m ρ) c hq1 hk1 hv1 hd1 ho1 hs1),
    (W2_arr m ρ c 8).trans (dv_array (V1 m ρ) c hq1 hk1 hv1 hd1 ho1 hs1)⟩

end Cert.KernelIdeal.Attn

end
-- ==== Proof.AttnReference.lean ====
/- THE REFERENCE'S VALUES over real numbers: scores, softmax, output and the derivative's intermediate arrays, each at an index. -/
module

public import proofs.«01_k».proof.Proof.Gen.ReferenceIdeal.Read
public import proofs.«01_k».proof.Proof.AttnSpec
public import Idealize.ShloMosaic.Lib.Pointwise
public import Idealize.ShloMosaic.Lib.Pipeline.ValueKit

@[expose] public section

set_option maxRecDepth 16384

noncomputable section

namespace Cert.ReferenceIdeal.Attn

open Idealize.ShloMosaic Idealize.ShloMosaic.TcCoe Cert.ReferenceIdeal Cert.ReferenceIdeal.Gen Cert.ReferenceIdeal.Read Cert.Attn
open Idealize.SL.Sem

variable {x0 x1 : (⟨S8192x1024, .bf16⟩ : BufTy).Contents (Elt Ideal)} {x2 : (⟨S8192x512, .bf16⟩ : BufTy).Contents (Elt Ideal)}
  {x3 : (⟨S8192x512, .f32⟩ : BufTy).Contents (Elt Ideal)} {q k v d : ℕ → ℕ → ℝ}
  (hq : ∀ i, x0 i = ((q (i 0).val (i 1).val : ℝ) : EReal)) (hk : ∀ i, x1 i = ((k (i 0).val (i 1).val : ℝ) : EReal))
  (hv : ∀ i, x2 i = ((v (i 0).val (i 1).val : ℝ) : EReal)) (hd : ∀ i, x3 i = ((d (i 0).val (i 1).val : ℝ) : EReal))

include hq in
theorem q_apply (b : Fin 4) (i : Fin 2048) (h : Fin 8) (e : Fin 128) :
    val_main_v3 (F := Ideal) x0 (ix4 b i h e) = ((q (b * 2048 + i) (h * 128 + e) : ℝ) : EReal) := by
  pointwise [val_main_v3, val_main_v0]
  exact hq _

include hk in
theorem k_apply (b : Fin 4) (i : Fin 2048) (h : Fin 8) (e : Fin 128) :
    val_main_v4 (F := Ideal) x1 (ix4 b i h e) = ((k (b * 2048 + i) (h * 128 + e) : ℝ) : EReal) := by
  pointwise [val_main_v4, val_main_v1]
  exact hk _

include hv in
theorem v_apply (b : Fin 4) (i : Fin 2048) (h : Fin 8) (e : Fin 64) :
    val_main_v5 (F := Ideal) x2 (ix4 b i h e) = ((v (b * 2048 + i) (h * 64 + e) : ℝ) : EReal) := by
  pointwise [val_main_v5, val_main_v2]
  exact hv _

include hd in
theorem d_apply (b : Fin 4) (i : Fin 2048) (h : Fin 8) (e : Fin 64) :
    val_main_v41 (F := Ideal) x3 (ix4 b h e i) = ((d (b * 2048 + i) (h * 64 + e) : ℝ) : EReal) := by
  pointwise [val_main_v41, val_main_v40]
  exact hd _

include hq hk

/-- The scores. -/
theorem s_apply (b : Fin 4) (h : Fin 8) (i j : Fin 2048) :
    val_main_v8 (F := Ideal) x0 x1 (ix4 b h i j) = ((scoreAt q k b h i j : ℝ) : EReal) := by
  pointwise [val_main_v8, val_main_v7, val_main_v6, val_main_cst]
  simp only [q_apply hq, k_apply hk, coe_sum_mul]
  rw [ofBits_scale, ← EReal.coe_mul]; rfl

/-- The greatest score of a row is a real number. -/
theorem max_apply (b : Fin 4) (h : Fin 8) (i : Fin 2048) :
    ∃ M : ℝ, val_main_v16 (F := Ideal) x0 x1 (ix3 b h i) = (M : EReal) := by
  obtain ⟨M, hM⟩ := fold_max_real (scoreRow q k b h i)
  have hs : ∀ j, val_main_v8 (F := Ideal) x0 x1 (ix4 b h i j) = ((scoreRow q k b h i j : ℝ) : EReal) := fun j => s_apply hq hk b h i j
  have h9 : val_main_v9 (F := Ideal) x0 x1 (ix3 b h i) = (M : EReal) := by
    pointwise [val_main_v9]
    simp only [hs]
    rw [val_main_cst_0_apply, show (FloatOps.ofBits FTy.f32 0xFF800000#32 : Ideal .f32) = ⊥ from ofBits_bot]
    exact hM
  have h15 : val_main_v15 (F := Ideal) (ix3 b h i) = (⊥ : EReal) := by
    rw [val_main_v15_apply, val_main_cst_2_apply]
    exact ofBits_bot
  refine ⟨M, ?_⟩
  rw [val_main_v16_apply, h9, h15]
  exact max_bot_left _

/-- The exponentials of a row of scores, its greatest subtracted, and their sum. -/
theorem exp_apply (b : Fin 4) (h : Fin 8) (i : Fin 2048) : ∃ M : ℝ,
    (∀ j, val_main_v29 (F := Ideal) x0 x1 (ix4 b h i j) = ((Real.exp (scoreRow q k b h i j - M) : ℝ) : EReal))
    ∧ val_main_v30 (F := Ideal) x0 x1 (ix3 b h i) = ((∑ j, Real.exp (scoreRow q k b h i j - M) : ℝ) : EReal) := by
  obtain ⟨M, hM⟩ := max_apply hq hk b h i
  have he : ∀ j, val_main_v29 (F := Ideal) x0 x1 (ix4 b h i j) = ((Real.exp (scoreRow q k b h i j - M) : ℝ) : EReal) := fun j => by
    pointwise [val_main_v29, val_main_v28, val_main_v27, val_main_v26]
    rw [hM, s_apply hq hk, ← EReal.coe_sub, exp_real]; rfl
  refine ⟨M, he, ?_⟩
  pointwise [val_main_v30, val_main_cst_8]
  simp only [he, coe_sum]

/-- The softmax. -/
theorem p_apply (b : Fin 4) (h : Fin 8) (i j : Fin 2048) :
    val_main_v33 (F := Ideal) x0 x1 (ix4 b h i j) = ((weight q k b h i j : ℝ) : EReal) := by
  obtain ⟨M, he, hl⟩ := exp_apply hq hk b h i
  pointwise [val_main_v33, val_main_v32, val_main_v31]
  rw [he, hl, div_real _ _ (expSum_shift_pos _ _).ne', softmax_shift, softmax_scoreRow]

include hv in
/-- The output. -/
theorem o_apply (r : Fin 8192) (l : Fin 512) :
    val_main_v39 (F := Ideal) x0 x1 x2 (ix2 r l) = ((outAt q k v r l : ℝ) : EReal) := by
  pointwise [val_main_v39, val_main_v38, val_main_v37]
  simp only [v_apply hv, p_apply hq hk, coe_sum_mul, outAt]
  congr 2
  funext j
  rw [mul_comm]
  congr 2
  omega

include hd in
/-- The gradient of the values. -/
theorem dv_apply (r : Fin 8192) (l : Fin 512) :
    val_main_v63 (F := Ideal) x0 x1 x3 (ix2 r l) = ((dvAt q k d r l : ℝ) : EReal) := by
  pointwise [val_main_v63, val_main_v44, val_main_v43]
  simp only [d_apply hd, p_apply hq hk, coe_sum_mul, dvAt]
  congr 2
  funext j
  rw [mul_comm]
  congr 2
  omega

omit hq hk in
include hv hd in
/-- The derivative of the weights. -/
theorem dp_apply (b : Fin 4) (h : Fin 8) (i j : Fin 2048) :
    val_main_v42 (F := Ideal) x2 x3 (ix4 b h i j) = ((dWeight v d b h i j : ℝ) : EReal) := by
  pointwise [val_main_v42]
  simp only [v_apply hv, d_apply hd, coe_sum_mul, dWeight]

include hv hd

/-- The derivative of the scores. -/
theorem ds_apply (b : Fin 4) (h : Fin 8) (i j : Fin 2048) :
    val_main_v58 (F := Ideal) x0 x1 x2 x3 (ix4 b h i j) = ((dScore q k v d b h i j : ℝ) : EReal) := by
  obtain ⟨M, he, hl⟩ := exp_apply hq hk b h i
  have hp := (expSum_shift_pos (scoreRow q k b h i) M).ne'
  have key := softmax_vjp (scoreRow q k b h i) (fun j => dWeight v d b h i j) M j
  pointwise [val_main_v58, val_main_v57, val_main_v56, val_main_v55, val_main_v54, val_main_v53, val_main_v52, val_main_v51,
    val_main_v50, val_main_v49, val_main_v48, val_main_v47, val_main_v46, val_main_v45, val_main_v36, val_main_v35,
    val_main_v34, val_main_v31, val_main_cst_9, val_main_cst_10, val_main_cst_11, val_main_cst_12]
  simp only [he, hl, dp_apply hv hd]
  rw [← EReal.coe_mul, ← EReal.coe_one, div_real _ _ (mul_ne_zero hp hp), div_real _ _ hp]
  simp only [← EReal.coe_mul, coe_sum, ← EReal.coe_neg, Finset.univ_unique, Finset.sum_singleton, ← EReal.coe_add]
  rw [ofBits_scale, ← EReal.coe_mul, key]
  rfl

/-- The gradient of the queries. -/
theorem dq_apply (r : Fin 8192) (l : Fin 1024) :
    val_main_v65 (F := Ideal) x0 x1 x2 x3 (ix2 r l) = ((dqAt q k v d r l : ℝ) : EReal) := by
  pointwise [val_main_v65, val_main_v62, val_main_v61]
  simp only [ds_apply hq hk hv hd, k_apply hk, coe_sum_mul, dqAt]
  congr 2
  funext j
  congr 2
  omega

/-- The gradient of the keys. -/
theorem dk_apply (r : Fin 8192) (l : Fin 1024) :
    val_main_v64 (F := Ideal) x0 x1 x2 x3 (ix2 r l) = ((dkAt q k v d r l : ℝ) : EReal) := by
  pointwise [val_main_v64, val_main_v60, val_main_v59]
  simp only [ds_apply hq hk hv hd, q_apply hq, coe_sum_mul, dkAt]
  congr 2
  funext j
  congr 2
  omega

end Cert.ReferenceIdeal.Attn

end
-- ==== Proof.AttnFinite.lean ====
/- THE PRECONDITION: `all_finite` all ones says that every argument array holds real numbers. -/
module

public import proofs.«01_k».proof.Defs
public import proofs.«01_k».proof.Proof.AttnForward

@[expose] public section

noncomputable section

namespace Cert.Pre_all_finite.Gen

open Idealize.ShloMosaic

/-- The predicate's side conditions. -/
instance facts : Cert.Pre_all_finite.Facts where
  bitsLt_bf16_f32 := by decide
  bcast_S_S8192x1024 := by decide
  bcast_S_S8192x512 := by decide

end Cert.Pre_all_finite.Gen

namespace Cert.Attn

open Idealize.ShloMosaic Cert.KernelIdeal.Attn

theorem ofBits_top : Ideal.ofBits .f32 0x7F800000#32 = (⊤ : EReal) := by simp [Ideal.ofBits, Ideal.ieee]

/-- An extended real whose absolute value is below infinity is a real number. -/
theorem real_of_olt (x : EReal) (h : Ideal.cmp .olt (max x (-x)) (Ideal.ofBits .f32 0x7F800000#32) = 1#1) :
    x = ((x.toReal : ℝ) : EReal) := by
  rw [ofBits_top, show ∀ a b : EReal, Ideal.cmp .olt a b = BitVec.ofBool (decide (a < b)) from fun _ _ => rfl] at h
  have hlt : max x (-x) < ⊤ := by
    by_contra hn
    rw [decide_eq_false hn] at h
    exact absurd h (by decide)
  refine (EReal.coe_toReal ?_ ?_).symm
  · rintro rfl; simp at hlt
  · rintro rfl; simp at hlt

/-- The numbers that an array of real numbers holds, at naturals. -/
def numbers {n0 n1 : ℕ} (x : (⟨2, ![n0, n1]⟩ : Shape).Idx → EReal) (r l : ℕ) : ℝ :=
  if h : r < n0 ∧ l < n1 then (x (ix2 ⟨r, h.1⟩ ⟨l, h.2⟩)).toReal else 0

/-- An array whose entries' absolute values are below infinity holds real numbers. -/
theorem holds_numbers {n0 n1 : ℕ} (x : (⟨2, ![n0, n1]⟩ : Shape).Idx → EReal)
    (h : ∀ i, Ideal.cmp .olt (max (x i) (-(x i))) (Ideal.ofBits .f32 0x7F800000#32) = 1#1) : Holds x (numbers x) := fun i => by
  have h0 : (i 0).val < n0 := (i 0).isLt
  have h1 : (i 1).val < n1 := (i 1).isLt
  rw [numbers, dif_pos ⟨h0, h1⟩]
  exact (real_of_olt _ (h i)).trans (congrArg (fun j => (((x j).toReal : ℝ) : EReal)) (eq_ix2 i))

/-- Under the precondition the four arguments hold real numbers. -/
theorem holds_args (m : (ℓ : Loc Cert.KernelIdeal.nD Cert.KernelIdeal.τ Cert.KernelIdeal.sig) → Buf (Elt Ideal) ℓ)
    (h : Cert.Pre_KernelIdeal_all_finite m) (c : Dev Cert.KernelIdeal.nD) :
    Holds (m ((c.tc : Thread Cert.KernelIdeal.nD Cert.KernelIdeal.τ).loc Cert.KernelIdeal.main_arg0)) (numbers (m ((c.tc : Thread Cert.KernelIdeal.nD Cert.KernelIdeal.τ).loc Cert.KernelIdeal.main_arg0)))
    ∧ Holds (m ((c.tc : Thread Cert.KernelIdeal.nD Cert.KernelIdeal.τ).loc Cert.KernelIdeal.main_arg1)) (numbers (m ((c.tc : Thread Cert.KernelIdeal.nD Cert.KernelIdeal.τ).loc Cert.KernelIdeal.main_arg1)))
    ∧ Holds (m ((c.tc : Thread Cert.KernelIdeal.nD Cert.KernelIdeal.τ).loc Cert.KernelIdeal.main_arg2)) (numbers (m ((c.tc : Thread Cert.KernelIdeal.nD Cert.KernelIdeal.τ).loc Cert.KernelIdeal.main_arg2)))
    ∧ Holds (m ((c.tc : Thread Cert.KernelIdeal.nD Cert.KernelIdeal.τ).loc Cert.KernelIdeal.main_arg3)) (numbers (m ((c.tc : Thread Cert.KernelIdeal.nD Cert.KernelIdeal.τ).loc Cert.KernelIdeal.main_arg3))) := by
  obtain ⟨h0, h1, h2, h3⟩ := h c
  exact ⟨holds_numbers _ fun i => congrFun h0 i, holds_numbers _ fun i => congrFun h1 i,
    holds_numbers _ fun i => congrFun h2 i, holds_numbers _ fun i => congrFun h3 i⟩

end Cert.Attn

end
-- ==== Proof.Grids.lean ====
/- ARRAYS OF EXTENDED REALS AS FUNCTIONS OF NATURAL INDICES: what an array holds, at the numbers of a row and a column. -/
module

public import Idealize.ShloMosaic.Lib.Pointwise

@[expose] public section

noncomputable section

namespace Cert.Grid

open Idealize.ShloMosaic

/-- A two-axis array that holds `f`. -/
def Holds2 {n0 n1 : ℕ} (x : (⟨2, ![n0, n1]⟩ : Shape).Idx → EReal) (f : ℕ → ℕ → EReal) : Prop :=
  ∀ i, x i = f (i 0).val (i 1).val

/-- A three-axis array that holds `f`. -/
def Holds3 {n0 n1 n2 : ℕ} (x : (⟨3, ![n0, n1, n2]⟩ : Shape).Idx → EReal) (f : ℕ → ℕ → ℕ → EReal) : Prop :=
  ∀ i, x i = f (i 0).val (i 1).val (i 2).val

/-- What a two-axis array holds, 0 outside its extents. -/
def entries2 {n0 n1 : ℕ} (x : (⟨2, ![n0, n1]⟩ : Shape).Idx → EReal) (r l : ℕ) : EReal :=
  if h : r < n0 ∧ l < n1 then x (ix2 ⟨r, h.1⟩ ⟨l, h.2⟩) else 0

theorem holds2 {n0 n1 : ℕ} (x : (⟨2, ![n0, n1]⟩ : Shape).Idx → EReal) : Holds2 x (entries2 x) := fun i => by
  have h : (i 0).val < n0 ∧ (i 1).val < n1 := ⟨(i 0).isLt, (i 1).isLt⟩
  rw [entries2, dif_pos h]
  exact congrArg x (eq_ix2 i)

/-- What a three-axis array holds, 0 outside its extents. -/
def entries3 {n0 n1 n2 : ℕ} (x : (⟨3, ![n0, n1, n2]⟩ : Shape).Idx → EReal) (q r l : ℕ) : EReal :=
  if h : q < n0 ∧ r < n1 ∧ l < n2 then x (ix3 ⟨q, h.1⟩ ⟨r, h.2.1⟩ ⟨l, h.2.2⟩) else 0

theorem holds3 {n0 n1 n2 : ℕ} (x : (⟨3, ![n0, n1, n2]⟩ : Shape).Idx → EReal) : Holds3 x (entries3 x) := fun i => by
  have h : (i 0).val < n0 ∧ (i 1).val < n1 ∧ (i 2).val < n2 := ⟨(i 0).isLt, (i 1).isLt, (i 2).isLt⟩
  rw [entries3, dif_pos h]
  exact congrArg x (eq_ix3 i)

end Cert.Grid

end
-- ==== Proof.MergeSpec.lean ====
/- THE MERGE OF THE THREE BRANCHES, ENTRY BY ENTRY, in the extended reals. A token's merged vector is the sum over the branches of
   the branch's gate times the branch's product with its weights, and the layer adds the merged vector's product with the output
   weights to the token. -/
module

public import proofs.«01_k».proof.Proof.Grids

@[expose] public section

noncomputable section

namespace Cert.Merge

open Idealize.ShloMosaic

/-- The outputs of the three branches, by the branch's number. -/
def branch (ya yb yc : ℕ → ℕ → EReal) (k : ℕ) : ℕ → ℕ → EReal := if k = 0 then ya else if k = 1 then yb else yc

/-- The gate of branch `k`: the logistic function of the projection plus its bias. -/
def gate (p b : ℕ → ℕ → EReal) (n k d : ℕ) : EReal :=
  Ideal.div 1 (1 + Ideal.exp (-(p n (k * 1024 + d) + b 0 (k * 1024 + d))))

/-- Branch `k`'s output times the branch's weights. -/
def prod (y w : ℕ → ℕ → ℕ → EReal) (n k d : ℕ) : EReal := ∑ c : Fin 512, y k n c * w k c d

/-- A token's merged vector. -/
def merged (p b : ℕ → ℕ → EReal) (y w : ℕ → ℕ → ℕ → EReal) (n d : ℕ) : EReal :=
  ∑ k : Fin 3, gate p b n k d * prod y w n k d

/-- The token after the merge. -/
def out (x p b : ℕ → ℕ → EReal) (y w : ℕ → ℕ → ℕ → EReal) (wo : ℕ → ℕ → EReal) (n j : ℕ) : EReal :=
  x n j + ∑ d : Fin 1024, merged p b y w n d * wo d j

/-! ## The gradients, for the gradient `dx` of the token after the merge -/

/-- The gradient of the merged vector. -/
def dmerged (dx wo : ℕ → ℕ → EReal) (n d : ℕ) : EReal := ∑ e : Fin 1024, dx n e * wo d e

/-- The gradient of what branch `k`'s logistic function is applied to. -/
def dgate (dx p b : ℕ → ℕ → EReal) (y w : ℕ → ℕ → ℕ → EReal) (wo : ℕ → ℕ → EReal) (n k d : ℕ) : EReal :=
  dmerged dx wo n d * prod y w n k d * gate p b n k d * (1 - gate p b n k d)

/-- The gradient of branch `k`'s product with its weights. -/
def dprod (dx p b wo : ℕ → ℕ → EReal) (n k d : ℕ) : EReal := dmerged dx wo n d * gate p b n k d

/-- The gradient of branch `k`'s output. -/
def dbranch (dx p b : ℕ → ℕ → EReal) (w : ℕ → ℕ → ℕ → EReal) (wo : ℕ → ℕ → EReal) (n k c : ℕ) : EReal :=
  ∑ d : Fin 1024, dprod dx p b wo n k d * w k c d

/-- The gradient of the bias: over all tokens. -/
def dbias (dx p b : ℕ → ℕ → EReal) (y w : ℕ → ℕ → ℕ → EReal) (wo : ℕ → ℕ → EReal) (k d : ℕ) : EReal :=
  ∑ n : Fin 8192, dgate dx p b y w wo n k d

end Cert.Merge

end
-- ==== Proof.MergeBackwardBlock.lean ====
/- THE BACKWARD MERGE CALL ON ONE BLOCK OF TOKENS: what its body computes from the blocks of its arguments. -/
module

public import proofs.«01_k».proof.Proof.Gen.Kernel2Ideal.Value
public import proofs.«01_k».proof.Proof.MergeSpec
public import Idealize.ShloMosaic.Lib.Pipeline.ValueKit

@[expose] public section

set_option maxRecDepth 16384

noncomputable section

namespace Cert.Kernel2Ideal.Merge

open Idealize.ShloMosaic Idealize.ShloMosaic.TcCoe Cert.Kernel2Ideal.Gen Cert.Grid Cert.Merge
open Idealize.SL.Sem

/-- The blocks of the arguments at a point whose tokens begin at `n0`. -/
structure Blocks (X : Vec Ideal S256x1024 .f32) (P : Vec Ideal S256x3072 .f32) (Y0 Y1 Y2 : Vec Ideal S256x512 .f32)
    (B : Vec Ideal S1x3072 .f32) (W : Vec Ideal S3x512x1024 .bf16) (O : Vec Ideal S1024x1024 .bf16) (n0 : ℕ)
    (dx p ya yb yc b : ℕ → ℕ → EReal) (w : ℕ → ℕ → ℕ → EReal) (wo : ℕ → ℕ → EReal) : Prop where
  hx : ∀ (r : Fin 256) (j : Fin 1024), X (ix2 r j) = dx (n0 + r) j
  hp : ∀ (r : Fin 256) (j : Fin 3072), P (ix2 r j) = p (n0 + r) j
  h0 : ∀ (r : Fin 256) (j : Fin 512), Y0 (ix2 r j) = ya (n0 + r) j
  h1 : ∀ (r : Fin 256) (j : Fin 512), Y1 (ix2 r j) = yb (n0 + r) j
  h2 : ∀ (r : Fin 256) (j : Fin 512), Y2 (ix2 r j) = yc (n0 + r) j
  hb : ∀ j : Fin 3072, B (ix2 0 j) = b 0 j
  hw : ∀ (k : Fin 3) (a : Fin 512) (d : Fin 1024), W (ix3 k a d) = w k a d
  ho : ∀ d j : Fin 1024, O (ix2 d j) = wo d j

namespace Blocks

variable {X : Vec Ideal S256x1024 .f32} {P : Vec Ideal S256x3072 .f32} {Y0 Y1 Y2 : Vec Ideal S256x512 .f32}
  {B : Vec Ideal S1x3072 .f32} {W : Vec Ideal S3x512x1024 .bf16} {O : Vec Ideal S1024x1024 .bf16} {n0 : ℕ}
  {dx p ya yb yc b : ℕ → ℕ → EReal} {w : ℕ → ℕ → ℕ → EReal} {wo : ℕ → ℕ → EReal}
  (H : Blocks X P Y0 Y1 Y2 B W O n0 dx p ya yb yc b w wo)
include H

/-- The gates of the block, all three branches side by side. -/
theorem gates (r : Fin 256) (j : Fin 3072) (k d : ℕ) (e : j.val = k * 1024 + d) :
    k0_pay9 P B (ix2 r j) = gate p b (n0 + r) k d := by
  pointwise [k0_pay9]
  rw [H.hp, H.hb, zero_sub, e]
  rfl

theorem gate0 (r : Fin 256) (d : Fin 1024) : k0_pay11 P B (ix2 r d) = gate p b (n0 + r) 0 d := by
  pointwise [k0_pay11]
  exact H.gates r _ 0 d.val (by simp)

theorem gate1 (r : Fin 256) (d : Fin 1024) : k0_pay18 (k0_pay9 P B) (ix2 r d) = gate p b (n0 + r) 1 d := by
  pointwise [k0_pay18]
  exact H.gates r _ 1 d.val (by simp)

theorem gate2 (r : Fin 256) (d : Fin 1024) : k0_pay24 (k0_pay9 P B) (ix2 r d) = gate p b (n0 + r) 2 d := by
  pointwise [k0_pay24]
  exact H.gates r _ 2 d.val (by simp)

theorem dmerged_apply (r : Fin 256) (d : Fin 1024) : k0_pay10 X O (ix2 r d) = dmerged dx wo (n0 + r) d := by
  pointwise [k0_pay10]
  simp only [H.hx, H.ho, dmerged]

theorem prod0 (r : Fin 256) (d : Fin 1024) :
    k0_pay12 Y0 (View.ld W (Rect.unit ![0, 0, 0] ![1, 512, 1024] inb_S3x512x1024_S1x512x1024_0_0_0)) (ix2 r d)
      = prod (branch ya yb yc) w (n0 + r) 0 d := by
  pointwise [k0_pay12]
  simp only [H.h0, H.hw, prod, branch]
  rfl

theorem prod1 (r : Fin 256) (d : Fin 1024) :
    k0_pay19 Y1 (View.ld W (Rect.unit ![1, 0, 0] ![1, 512, 1024] inb_S3x512x1024_S1x512x1024_1_0_0)) (ix2 r d)
      = prod (branch ya yb yc) w (n0 + r) 1 d := by
  pointwise [k0_pay19]
  simp only [H.h1, H.hw, prod, branch]
  rfl

theorem prod2 (r : Fin 256) (d : Fin 1024) :
    k0_pay25 Y2 (View.ld W (Rect.unit ![2, 0, 0] ![1, 512, 1024] inb_S3x512x1024_S1x512x1024_2_0_0)) (ix2 r d)
      = prod (branch ya yb yc) w (n0 + r) 2 d := by
  pointwise [k0_pay25]
  simp only [H.h2, H.hw, prod, branch]
  rfl

/-- The block of the gates' gradients, all three branches side by side. -/
theorem dgates (r : Fin 256) (j : Fin 3072) :
    k0_pay4 (k0_pay10 X O) (k0_pay14 P B X O Y0 (View.ld W (Rect.unit ![0, 0, 0] ![1, 512, 1024] inb_S3x512x1024_S1x512x1024_0_0_0))) (k0_pay20 (k0_pay9 P B) (k0_pay10 X O) Y1 (View.ld W (Rect.unit ![1, 0, 0] ![1, 512, 1024] inb_S3x512x1024_S1x512x1024_1_0_0)))
      (k0_pay24 (k0_pay9 P B)) (k0_pay25 Y2 (View.ld W (Rect.unit ![2, 0, 0] ![1, 512, 1024] inb_S3x512x1024_S1x512x1024_2_0_0))) (ix2 r j)
      = dgate dx p b (branch ya yb yc) w wo (n0 + r) (j / 1024) (j % 1024) := by
  have hj := j.isLt
  pointwise [k0_pay4, k0_pay14, k0_pay20]
  split
  · rename_i h
    have e1 : j.val / 1024 = 0 := by omega
    have e2 : j.val % 1024 = j.val := by omega
    rw [H.dmerged_apply, H.gate0, H.prod0, e1, e2]
    rfl
  · split
    · rename_i h h'
      have e1 : j.val / 1024 = 1 := by omega
      have e2 : j.val % 1024 = j.val - 1024 := by omega
      rw [H.dmerged_apply, H.gate1, H.prod1, e1, e2]
      rfl
    · rename_i h h'
      have e1 : j.val / 1024 = 2 := by omega
      have e2 : j.val % 1024 = j.val - 1024 - 1024 := by omega
      rw [H.dmerged_apply, H.gate2, H.prod2, e1, e2]
      rfl

/-- The block of the gates' gradients, as stored. -/
theorem dgates_stored (r : Fin 256) (j : Fin 3072) :
    k0_pay5 (k0_pay10 X O) (k0_pay14 P B X O Y0 (View.ld W (Rect.unit ![0, 0, 0] ![1, 512, 1024] inb_S3x512x1024_S1x512x1024_0_0_0))) (k0_pay20 (k0_pay9 P B) (k0_pay10 X O) Y1 (View.ld W (Rect.unit ![1, 0, 0] ![1, 512, 1024] inb_S3x512x1024_S1x512x1024_1_0_0)))
      (k0_pay24 (k0_pay9 P B)) (k0_pay25 Y2 (View.ld W (Rect.unit ![2, 0, 0] ![1, 512, 1024] inb_S3x512x1024_S1x512x1024_2_0_0))) (ix2 r j)
      = dgate dx p b (branch ya yb yc) w wo (n0 + r) (j / 1024) (j % 1024) :=
  H.dgates r j

/-- The block's part of the bias's gradient. -/
theorem bias_part (j : Fin 3072) :
    k0_pay7 (k0_pay10 X O) (k0_pay14 P B X O Y0 (View.ld W (Rect.unit ![0, 0, 0] ![1, 512, 1024] inb_S3x512x1024_S1x512x1024_0_0_0))) (k0_pay20 (k0_pay9 P B) (k0_pay10 X O) Y1 (View.ld W (Rect.unit ![1, 0, 0] ![1, 512, 1024] inb_S3x512x1024_S1x512x1024_1_0_0)))
      (k0_pay24 (k0_pay9 P B)) (k0_pay25 Y2 (View.ld W (Rect.unit ![2, 0, 0] ![1, 512, 1024] inb_S3x512x1024_S1x512x1024_2_0_0))) (ix2 0 j)
      = ∑ r : Fin 256, dgate dx p b (branch ya yb yc) w wo (n0 + r) (j / 1024) (j % 1024) := by
  pointwise [k0_pay7]
  exact Finset.sum_congr rfl fun r _ => H.dgates r j

/-- The gradients of the branches' products. -/
theorem dprod0 (r : Fin 256) (d : Fin 1024) : k0_pay15 P B X O (ix2 r d) = dprod dx p b wo (n0 + r) 0 d := by
  pointwise [k0_pay15]
  rw [H.dmerged_apply, H.gate0]
  rfl

theorem dprod1 (r : Fin 256) (d : Fin 1024) :
    k0_pay21 (k0_pay9 P B) (k0_pay10 X O) (ix2 r d) = dprod dx p b wo (n0 + r) 1 d := by
  pointwise [k0_pay21]
  rw [H.dmerged_apply, H.gate1]
  rfl

theorem dprod2 (r : Fin 256) (d : Fin 1024) :
    k0_pay1 (k0_pay10 X O) (k0_pay24 (k0_pay9 P B)) (ix2 r d) = dprod dx p b wo (n0 + r) 2 d := by
  pointwise [k0_pay1]
  rw [H.dmerged_apply, H.gate2]
  rfl

/-- The gradients of the branches' outputs. -/
theorem dbranch0 (r : Fin 256) (a : Fin 512) :
    k0_pay17 (k0_pay15 P B X O) (View.ld W (Rect.unit ![0, 0, 0] ![1, 512, 1024] inb_S3x512x1024_S1x512x1024_0_0_0)) (ix2 r a)
      = dbranch dx p b w wo (n0 + r) 0 a := by
  pointwise [k0_pay17]
  simp only [H.dprod0, H.hw]
  rfl

theorem dbranch1 (r : Fin 256) (a : Fin 512) :
    k0_pay23 (k0_pay9 P B) (k0_pay10 X O) (View.ld W (Rect.unit ![1, 0, 0] ![1, 512, 1024] inb_S3x512x1024_S1x512x1024_1_0_0)) (ix2 r a)
      = dbranch dx p b w wo (n0 + r) 1 a := by
  pointwise [k0_pay23]
  simp only [H.dprod1, H.hw]
  rfl

theorem dbranch2 (r : Fin 256) (a : Fin 512) :
    k0_pay3 (k0_pay10 X O) (k0_pay24 (k0_pay9 P B)) (View.ld W (Rect.unit ![2, 0, 0] ![1, 512, 1024] inb_S3x512x1024_S1x512x1024_2_0_0)) (ix2 r a)
      = dbranch dx p b w wo (n0 + r) 2 a := by
  pointwise [k0_pay3]
  simp only [H.dprod2, H.hw]
  rfl

/-- The merged vectors. -/
theorem merged_apply (r : Fin 256) (d : Fin 1024) :
    k0_pay6 (k0_pay26 (k0_pay9 P B) (k0_pay13 P B Y0 (View.ld W (Rect.unit ![0, 0, 0] ![1, 512, 1024] inb_S3x512x1024_S1x512x1024_0_0_0))) Y1
      (View.ld W (Rect.unit ![1, 0, 0] ![1, 512, 1024] inb_S3x512x1024_S1x512x1024_1_0_0)) Y2
      (View.ld W (Rect.unit ![2, 0, 0] ![1, 512, 1024] inb_S3x512x1024_S1x512x1024_2_0_0))) (ix2 r d)
      = merged p b (branch ya yb yc) w (n0 + r) d := by
  pointwise [k0_pay6, k0_pay26, k0_pay13]
  rw [H.gate0, H.gate1, H.gate2, H.prod0, H.prod1, H.prod2, merged, Fin.sum_univ_three]
  rfl

end Blocks

end Cert.Kernel2Ideal.Merge

end
-- ==== Proof.MergeBackward.lean ====
/- THE BACKWARD MERGE CALL: what its results hold when the call is done. Point `t` of the grid works on tokens `256 t` to
   `256 t + 255`. -/
module

public import proofs.«01_k».proof.Proof.MergeBackwardBlock

@[expose] public section

set_option maxRecDepth 16384

noncomputable section

namespace Cert.Kernel2Ideal.Merge

open Idealize.ShloMosaic Idealize.ShloMosaic.TcCoe Cert.Kernel2Ideal.Gen Cert.Grid Cert.Merge
open Idealize.SL.Sem

/-- The blocks that the windows are at. -/
theorem index0 : ∀ t : Fin cfg0.N,
    (cfg0.win 0).index t = ![t.val, 0] ∧ (cfg0.win 1).index t = ![t.val, 0] ∧ (cfg0.win 2).index t = ![t.val, 0]
    ∧ (cfg0.win 3).index t = ![t.val, 0] ∧ (cfg0.win 4).index t = ![t.val, 0] ∧ (cfg0.win 5).index t = ![0, 0]
    ∧ (cfg0.win 6).index t = ![0, 0, 0] ∧ (cfg0.win 7).index t = ![0, 0] ∧ (cfg0.win 8).index t = ![t.val, 0]
    ∧ (cfg0.win 9).index t = ![t.val, 0] ∧ (cfg0.win 10).index t = ![t.val, 0] ∧ (cfg0.win 11).index t = ![t.val, 0]
    ∧ (cfg0.win 12).index t = ![t.val, 0] ∧ (cfg0.win 13).index t = ![t.val, 0] ∧ (cfg0.win 14).index t = ![0, 0] := by
  decide +kernel

/-- All points are in one run. -/
theorem point (t : Fin cfg0.N) : t.val % 32 = t.val :=
  Nat.mod_eq_of_lt (lt_of_lt_of_eq t.isLt (show cfg0.N = 32 from N_0))

/-- An index of one row. -/
theorem one_row (y : S1x3072.Idx) : ∃ j : Fin 3072, y = ix2 0 j :=
  ⟨y 1, (eq_ix2 y).trans (congrArg (fun a : Fin 1 => ix2 a (y 1)) (Subsingleton.elim (α := Fin 1) _ _))⟩

/-- Column `j` of the branches side by side is column `d` of branch `k`. -/
theorem tile {dx p b wo : ℕ → ℕ → EReal} {n0 r r' j k d : ℕ} (hr : r' = r) (hj : j = k * 1024 + d) (hd : d < 1024) :
    dprod dx p b wo (n0 + r) k d = dprod dx p b wo (n0 + r') (j / 1024) (j % 1024) := by
  have e1 : j / 1024 = k := by omega
  have e2 : j % 1024 = d := by omega
  rw [hr, e1, e2]

variable (m : (ℓ : Loc nD τ sig) → Buf (Elt Ideal) ℓ) (c : Dev nD)
  {dx p ya yb yc b wo : ℕ → ℕ → EReal} {w : ℕ → ℕ → ℕ → EReal}
  (hx : Holds2 (m ((c.tc : Thread nD τ).loc main_arg0)) dx) (hp : Holds2 (m ((c.tc : Thread nD τ).loc main_arg1)) p)
  (h0 : Holds2 (m ((c.tc : Thread nD τ).loc main_arg2)) ya) (h1 : Holds2 (m ((c.tc : Thread nD τ).loc main_arg3)) yb)
  (h2 : Holds2 (m ((c.tc : Thread nD τ).loc main_arg4)) yc) (hb : Holds2 (m ((c.tc : Thread nD τ).loc main_arg5)) b)
  (hw : Holds3 (m ((c.tc : Thread nD τ).loc main_arg6)) w) (ho : Holds2 (m ((c.tc : Thread nD τ).loc main_arg7)) wo)
include hx hp h0 h1 h2 hb hw ho

theorem blocks (t : Fin cfg0.N) : Blocks (iblk m c 0 t) (X0_1 m c t) (iblk m c 2 t) (iblk m c 3 t) (iblk m c 4 t) (iblk m c 5 t)
    (iblk m c 6 t) (iblk m c 7 t) (t.val * 256) dx p ya yb yc b w wo := by
  constructor
  · intro r j
    unfold iblk
    refine (hx _).trans ?_
    blk_simp [index0 t]
  · intro r j
    unfold X0_1 Pipeline.Window.fill
    rw [dif_pos (moved0_1 t _)]
    refine (hp _).trans ?_
    blk_simp [index0 t]
  · intro r j
    unfold iblk
    refine (h0 _).trans ?_
    blk_simp [index0 t]
  · intro r j
    unfold iblk
    refine (h1 _).trans ?_
    blk_simp [index0 t]
  · intro r j
    unfold iblk
    refine (h2 _).trans ?_
    blk_simp [index0 t]
  · intro j
    unfold iblk
    refine (hb _).trans ?_
    blk_simp [index0 t]
    rfl
  · intro k a d
    unfold iblk
    refine (hw _).trans ?_
    blk_simp [index0 t]
  · intro r j
    unfold iblk
    refine (ho _).trans ?_
    blk_simp [index0 t]

/-- The gradient of the projection's gate columns. -/
theorem dgate_array : (dats m 0 c).arrAt 8 cfg0.N
    = fun i => dgate dx p b (branch ya yb yc) w wo (i 0).val ((i 1).val / 1024) ((i 1).val % 1024) := by
  refine (dats m 0 c).arrAt_eq_of_covers 8 _ (by decide +kernel) fun t hf y => ?_
  have H := blocks m c hx hp h0 h1 h2 hb hw ho t
  blk_simp [index0 t]
  rw [after0_8]
  refine (congrArg _ (eq_ix2 y)).trans ?_
  by_cases h : t.val % 32 = 0
  · have h' : ¬1 ≤ t.val := by rw [point t] at h; omega
    rw [outsAt0_A m c t h h']
    dsimp only
    frame_out
    exact H.dgates_stored _ _
  · have h' : 1 ≤ t.val := by omega
    rw [outsAt0_B m c t h h']
    dsimp only
    frame_out
    exact H.dgates_stored _ _

/-- The gradient of branch 0's output. -/
theorem dbranch0_array : (dats m 0 c).arrAt 9 cfg0.N
    = fun i => dbranch dx p b w wo (i 0).val 0 (i 1).val := by
  refine (dats m 0 c).arrAt_eq_of_covers 9 _ (by decide +kernel) fun t hf y => ?_
  have H := blocks m c hx hp h0 h1 h2 hb hw ho t
  blk_simp [index0 t]
  rw [after0_9]
  refine (congrArg _ (eq_ix2 y)).trans ?_
  by_cases h : t.val % 32 = 0
  · have h' : ¬1 ≤ t.val := by rw [point t] at h; omega
    rw [outsAt0_A m c t h h']
    dsimp only
    frame_out
    exact H.dbranch0 _ _
  · have h' : 1 ≤ t.val := by omega
    rw [outsAt0_B m c t h h']
    dsimp only
    frame_out
    exact H.dbranch0 _ _

/-- The gradient of branch 1's output. -/
theorem dbranch1_array : (dats m 0 c).arrAt 10 cfg0.N
    = fun i => dbranch dx p b w wo (i 0).val 1 (i 1).val := by
  refine (dats m 0 c).arrAt_eq_of_covers 10 _ (by decide +kernel) fun t hf y => ?_
  have H := blocks m c hx hp h0 h1 h2 hb hw ho t
  blk_simp [index0 t]
  rw [after0_10]
  refine (congrArg _ (eq_ix2 y)).trans ?_
  by_cases h : t.val % 32 = 0
  · have h' : ¬1 ≤ t.val := by rw [point t] at h; omega
    rw [outsAt0_A m c t h h']
    dsimp only
    frame_out
    exact H.dbranch1 _ _
  · have h' : 1 ≤ t.val := by omega
    rw [outsAt0_B m c t h h']
    dsimp only
    frame_out
    exact H.dbranch1 _ _

/-- The gradient of branch 2's output. -/
theorem dbranch2_array : (dats m 0 c).arrAt 11 cfg0.N
    = fun i => dbranch dx p b w wo (i 0).val 2 (i 1).val := by
  refine (dats m 0 c).arrAt_eq_of_covers 11 _ (by decide +kernel) fun t hf y => ?_
  have H := blocks m c hx hp h0 h1 h2 hb hw ho t
  blk_simp [index0 t]
  rw [after0_11]
  refine (congrArg _ (eq_ix2 y)).trans ?_
  by_cases h : t.val % 32 = 0
  · have h' : ¬1 ≤ t.val := by rw [point t] at h; omega
    rw [outsAt0_A m c t h h']
    dsimp only
    frame_out
    exact H.dbranch2 _ _
  · have h' : 1 ≤ t.val := by omega
    rw [outsAt0_B m c t h h']
    dsimp only
    frame_out
    exact H.dbranch2 _ _

/-- The merged vectors. -/
theorem merged_array : (dats m 0 c).arrAt 13 cfg0.N
    = fun i => merged p b (branch ya yb yc) w (i 0).val (i 1).val := by
  refine (dats m 0 c).arrAt_eq_of_covers 13 _ (by decide +kernel) fun t hf y => ?_
  have H := blocks m c hx hp h0 h1 h2 hb hw ho t
  blk_simp [index0 t]
  rw [after0_13]
  refine (congrArg _ (eq_ix2 y)).trans ?_
  by_cases h : t.val % 32 = 0
  · have h' : ¬1 ≤ t.val := by rw [point t] at h; omega
    rw [outsAt0_A m c t h h']
    dsimp only
    frame_out
    exact H.merged_apply _ _
  · have h' : 1 ≤ t.val := by omega
    rw [outsAt0_B m c t h h']
    dsimp only
    frame_out
    exact H.merged_apply _ _

/-- The gradient of the branches' products, side by side. -/
theorem dprod_array : (dats m 0 c).arrAt 12 cfg0.N
    = fun i => dprod dx p b wo (i 0).val ((i 1).val / 1024) ((i 1).val % 1024) := by
  refine (dats m 0 c).arrAt_eq_of_covers 12 _ (by decide +kernel) fun t hf y => ?_
  have H := blocks m c hx hp h0 h1 h2 hb hw ho t
  blk_simp [index0 t]
  rw [after0_12]
  refine (congrArg _ (eq_ix2 y)).trans ?_
  by_cases h : t.val % 32 = 0
  · have h' : ¬1 ≤ t.val := by rw [point t] at h; omega
    rw [outsAt0_A m c t h h']
    dsimp only
    frame_out
    canon_tiles x h
    · rw [eq_ix2 x]
      exact (H.dprod2 _ _).trans (tile h0 h1 x1_lt)
    · rw [eq_ix2 x]
      exact (H.dprod1 _ _).trans (tile h0 h1 x1_lt)
    · rw [eq_ix2 x]
      exact (H.dprod0 _ _).trans (tile h0 (h1.trans (by omega)) x1_lt)
  · have h' : 1 ≤ t.val := by omega
    rw [outsAt0_B m c t h h']
    dsimp only
    frame_out
    canon_tiles x h
    · rw [eq_ix2 x]
      exact (H.dprod2 _ _).trans (tile h0 h1 x1_lt)
    · rw [eq_ix2 x]
      exact (H.dprod1 _ _).trans (tile h0 h1 x1_lt)
    · rw [eq_ix2 x]
      exact (H.dprod0 _ _).trans (tile h0 (h1.trans (by omega)) x1_lt)

/-- The first block starts the bias's gradient. -/
theorem dbias_first (t : Fin cfg0.N) (h : t.val % 32 = 0) (y : S1x3072.Idx) :
    (outsAt0 m c t.val t.isLt).2.2.2.2.2.2 y
      = 0 + ∑ r : Fin 256, dgate dx p b (branch ya yb yc) w wo (t.val * 256 + r) ((y 1).val / 1024) ((y 1).val % 1024) := by
  have H := blocks m c hx hp h0 h1 h2 hb hw ho t
  have h' : ¬1 ≤ t.val := by rw [point t] at h; omega
  rw [outsAt0_A m c t h h', zero_add]
  dsimp only
  obtain ⟨j, rfl⟩ := one_row y
  frame_out
  exact H.bias_part _

/-- Each further block adds its part. -/
theorem dbias_step (t : Fin cfg0.N) (h : ¬t.val % 32 = 0) (y : S1x3072.Idx) :
    (outsAt0 m c t.val t.isLt).2.2.2.2.2.2 y
      = (outsAt0 m c (t.val - 1) (Nat.lt_of_le_of_lt (Nat.sub_le _ _) t.isLt)).2.2.2.2.2.2 y
        + ∑ r : Fin 256, dgate dx p b (branch ya yb yc) w wo (t.val * 256 + r) ((y 1).val / 1024) ((y 1).val % 1024) := by
  have H := blocks m c hx hp h0 h1 h2 hb hw ho t
  have h' : 1 ≤ t.val := by omega
  rw [outsAt0_B m c t h h']
  dsimp only
  obtain ⟨j, rfl⟩ := one_row y
  frame_out
  pointwise [k0_pay8]
  exact congrArg _ (H.bias_part _)

/-- The gradient of the bias. -/
theorem dbias_array : (dats m 0 c).arrAt 14 cfg0.N
    = fun i => dbias dx p b (branch ya yb yc) w wo ((i 1).val / 1024) ((i 1).val % 1024) := by
  refine (dats m 0 c).arrAt_eq_of_covers 14 _ (by decide +kernel) fun t hf y => ?_
  have hm : t.val % 32 = 31 := by
    revert hf; revert t; decide +kernel
  blk_simp [index0 t]
  rw [after0_14]
  have h := Pipeline.eq_sum_of_reset_step_apply_divmod (fun n h => (outsAt0 m c n h).2.2.2.2.2.2) 32 (fun _ => 0)
    (fun _ s (y : S1x3072.Idx) => ∑ r : Fin 256, dgate dx p b (branch ya yb yc) w wo (s * 256 + r) ((y 1).val / 1024) ((y 1).val % 1024))
    (fun t h y => (dbias_first m c hx hp h0 h1 h2 hb hw ho t h y).trans (by rw [point t]))
    (fun t h y => (dbias_step m c hx hp h0 h1 h2 hb hw ho t h y).trans (by rw [point t])) t y
  refine h.trans ?_
  rw [hm, zero_add, dbias]
  have h' := Finset.sum_range_range_mul_add 32 256 fun n =>
    dgate dx p b (branch ya yb yc) w wo n ((y 1).val / 1024) ((y 1).val % 1024)
  simp only [Finset.sum_range] at h' ⊢
  exact h'

end Cert.Kernel2Ideal.Merge

end
-- ==== Proof.MergeBackwardReference.lean ====
/- THE BACKWARD MERGE'S REFERENCE: what its results hold. -/
module

public import proofs.«01_k».proof.Proof.Gen.Reference2Ideal.Read
public import proofs.«01_k».proof.Proof.MergeSpec
public import Idealize.ShloMosaic.Lib.Pipeline.ReadBack

@[expose] public section

set_option maxRecDepth 16384

noncomputable section

namespace Cert.Reference2Ideal.Merge

open Idealize.ShloMosaic Idealize.ShloMosaic.TcCoe Cert.Reference2Ideal Cert.Reference2Ideal.Read Cert.Grid Cert.Merge
open Idealize.SL.Sem

variable {x0 : (⟨S8192x1024, .f32⟩ : BufTy).Contents (Elt Ideal)} {x1 : (⟨S8192x7168, .f32⟩ : BufTy).Contents (Elt Ideal)}
  {x2 x3 x4 : (⟨S8192x512, .f32⟩ : BufTy).Contents (Elt Ideal)} {x5 : (⟨S1x3072, .f32⟩ : BufTy).Contents (Elt Ideal)}
  {x6 : (⟨S3x512x1024, .bf16⟩ : BufTy).Contents (Elt Ideal)} {x7 : (⟨S1024x1024, .bf16⟩ : BufTy).Contents (Elt Ideal)}
  {dx p ya yb yc b wo : ℕ → ℕ → EReal} {w : ℕ → ℕ → ℕ → EReal}

/-- The three branches' outputs, stacked. -/
theorem branches_apply (h2 : Holds2 x2 ya) (h3 : Holds2 x3 yb) (h4 : Holds2 x4 yc) (n : Fin 8192) (k : Fin 3) (j : Fin 512) :
    val_main_v3 x2 x3 x4 (ix3 n k j) = branch ya yb yc k n j := by
  pointwise [val_main_v3, val_main_v0, val_main_v1, val_main_v2]
  rw [h2, h3, h4]
  fin_cases k <;> rfl

/-- Their products with their weights. -/
theorem prods_apply (h2 : Holds2 x2 ya) (h3 : Holds2 x3 yb) (h4 : Holds2 x4 yc) (h6 : Holds3 x6 w) (n : Fin 8192) (k : Fin 3)
    (d : Fin 1024) : val_main_v6 x2 x3 x4 x6 (ix3 n k d) = prod (branch ya yb yc) w n k d := by
  pointwise [val_main_v6, val_main_v5, val_main_v4]
  simp only [branches_apply h2 h3 h4, h6 _, prod]
  exact Finset.sum_congr rfl fun a _ => mul_comm _ _

theorem gate_apply (h1 : Holds2 x1 p) (h5 : Holds2 x5 b) (n : Fin 8192) (k : Fin 3) (j : Fin 1024) :
    val_main_v18 x1 x5 (ix3 n k j) = gate p b n k j := by
  pointwise [val_main_v18, val_main_v17, val_main_v16, val_main_v15, val_main_v14, val_main_v13, val_main_v12, val_main_v11,
    val_main_v10, val_main_v9, val_main_v8, val_main_v7, val_main_cst, val_main_cst_0]
  rw [h1, h5]
  rfl

theorem dmerged_apply (h0 : Holds2 x0 dx) (h7 : Holds2 x7 wo) (n : Fin 8192) (k : Fin 3) (d : Fin 1024) :
    val_main_v27 x0 x7 (ix3 n k d) = dmerged dx wo n d := by
  pointwise [val_main_v27, val_main_v26, val_main_v24]
  simp only [h0 _, h7 _, dmerged]
  rfl

theorem dprod_apply (h0 : Holds2 x0 dx) (h1 : Holds2 x1 p) (h5 : Holds2 x5 b) (h7 : Holds2 x7 wo) (n : Fin 8192) (k : Fin 3)
    (d : Fin 1024) : val_main_v28 x0 x1 x5 x7 (ix3 n k d) = dprod dx p b wo n k d := by
  pointwise [val_main_v28]
  rw [gate_apply h1 h5, dmerged_apply h0 h7, mul_comm]
  rfl

section All
variable (h0 : Holds2 x0 dx) (h1 : Holds2 x1 p) (h2 : Holds2 x2 ya) (h3 : Holds2 x3 yb) (h4 : Holds2 x4 yc)
    (h5 : Holds2 x5 b) (h6 : Holds3 x6 w) (h7 : Holds2 x7 wo)
include h0 h1 h2 h3 h4 h5 h6 h7

theorem dgate_apply (n : Fin 8192) (k : Fin 3) (d : Fin 1024) :
    val_main_v30 x0 x1 x2 x3 x4 x5 x6 x7 (ix3 n k d) = dgate dx p b (branch ya yb yc) w wo n k d := by
  pointwise [val_main_v30, val_main_v29, val_main_v21, val_main_v20, val_main_v19, val_main_cst_1]
  rw [gate_apply h1 h5, dmerged_apply h0 h7, prods_apply h2 h3 h4 h6, ← mul_assoc]
  rfl

/-- The gradient of the projection's gate columns. -/
theorem dgate_value : val_main_v38 x0 x1 x2 x3 x4 x5 x6 x7
    = fun i => dgate dx p b (branch ya yb yc) w wo (i 0).val ((i 1).val / 1024) ((i 1).val % 1024) := by
  funext i
  rw [eq_ix2 i]
  pointwise [val_main_v38, val_main_v34]
  exact dgate_apply h0 h1 h2 h3 h4 h5 h6 h7 _ _ _

/-- The gradient of the bias. -/
theorem dbias_value : val_main_v48 x0 x1 x2 x3 x4 x5 x6 x7
    = fun i => dbias dx p b (branch ya yb yc) w wo ((i 1).val / 1024) ((i 1).val % 1024) := by
  funext i
  rw [eq_ix2 i]
  pointwise [val_main_v48, val_main_v33, val_main_v32, val_main_v31, val_main_cst_3, val_main_cst_4]
  refine (Fin.sum_univ_one _).trans ?_
  exact Finset.sum_congr rfl fun n _ => dgate_apply h0 h1 h2 h3 h4 h5 h6 h7 _ _ _

end All

section Some
variable (h0 : Holds2 x0 dx) (h1 : Holds2 x1 p) (h5 : Holds2 x5 b) (h6 : Holds3 x6 w) (h7 : Holds2 x7 wo)
include h0 h1 h5 h7

/-- The gradient of the branches' products, side by side. -/
theorem dprod_value : val_main_v46 x0 x1 x5 x7
    = fun i => dprod dx p b wo (i 0).val ((i 1).val / 1024) ((i 1).val % 1024) := by
  funext i
  rw [eq_ix2 i]
  pointwise [val_main_v46, val_main_v45]
  exact dprod_apply h0 h1 h5 h7 _ _ _

include h6

/-- The gradients of the branches' outputs, stacked. -/
theorem dbranch_apply (n : Fin 8192) (k : Fin 3) (a : Fin 512) :
    val_main_v37 x0 x1 x5 x6 x7 (ix3 n k a) = dbranch dx p b w wo n k a := by
  pointwise [val_main_v37, val_main_v36, val_main_v35, val_main_v4]
  simp only [dprod_apply h0 h1 h5 h7, h6 _]
  rfl

theorem dbranch0_value : val_main_v40 x0 x1 x5 x6 x7 = fun i => dbranch dx p b w wo (i 0).val 0 (i 1).val := by
  funext i
  rw [eq_ix2 i]
  pointwise [val_main_v40, val_main_v39]
  exact dbranch_apply h0 h1 h5 h6 h7 _ _ _

theorem dbranch1_value : val_main_v42 x0 x1 x5 x6 x7 = fun i => dbranch dx p b w wo (i 0).val 1 (i 1).val := by
  funext i
  rw [eq_ix2 i]
  pointwise [val_main_v42, val_main_v41]
  exact dbranch_apply h0 h1 h5 h6 h7 _ _ _

theorem dbranch2_value : val_main_v44 x0 x1 x5 x6 x7 = fun i => dbranch dx p b w wo (i 0).val 2 (i 1).val := by
  funext i
  rw [eq_ix2 i]
  pointwise [val_main_v44, val_main_v43]
  exact dbranch_apply h0 h1 h5 h6 h7 _ _ _

end Some

/-- The merged vectors. -/
theorem merged_apply (h1 : Holds2 x1 p) (h2 : Holds2 x2 ya) (h3 : Holds2 x3 yb) (h4 : Holds2 x4 yc) (h5 : Holds2 x5 b)
    (h6 : Holds3 x6 w) (n : Fin 8192) (d : Fin 1024) :
    val_main_v47 x1 x2 x3 x4 x5 x6 (ix2 n d) = merged p b (branch ya yb yc) w n d := by
  pointwise [val_main_v47, val_main_v23, val_main_v22, val_main_cst_2]
  simp only [gate_apply h1 h5, prods_apply h2 h3 h4 h6]
  rfl

theorem merged_value (h1 : Holds2 x1 p) (h2 : Holds2 x2 ya) (h3 : Holds2 x3 yb) (h4 : Holds2 x4 yc) (h5 : Holds2 x5 b)
    (h6 : Holds3 x6 w) :
    val_main_v47 x1 x2 x3 x4 x5 x6 = fun i => merged p b (branch ya yb yc) w (i 0).val (i 1).val :=
  funext fun i => (congrArg _ (eq_ix2 i)).trans (merged_apply h1 h2 h3 h4 h5 h6 _ _)

end Cert.Reference2Ideal.Merge

end
-- ==== Proof.MergeForward.lean ====
/- THE FORWARD MERGE CALL: what its result holds when the call is done. Point `t` of the grid works on tokens `256 t` to
   `256 t + 255`. -/
module

public import proofs.«01_k».proof.Proof.Gen.Kernel6Ideal.Value
public import proofs.«01_k».proof.Proof.MergeSpec
public import Idealize.ShloMosaic.Lib.Pipeline.ValueKit

@[expose] public section

set_option maxRecDepth 16384

noncomputable section

namespace Cert.Kernel6Ideal.Merge

open Idealize.ShloMosaic Idealize.ShloMosaic.TcCoe Cert.Kernel6Ideal.Gen Cert.Grid Cert.Merge
open Idealize.SL.Sem

/-- The blocks that the windows are at. -/
theorem index0 : ∀ t : Fin cfg0.N,
    (cfg0.win 0).index t = ![t.val, 0] ∧ (cfg0.win 1).index t = ![t.val, 0] ∧ (cfg0.win 2).index t = ![t.val, 0]
    ∧ (cfg0.win 3).index t = ![t.val, 0] ∧ (cfg0.win 4).index t = ![t.val, 0] ∧ (cfg0.win 5).index t = ![0, 0]
    ∧ (cfg0.win 6).index t = ![0, 0, 0] ∧ (cfg0.win 7).index t = ![0, 0] ∧ (cfg0.win 8).index t = ![t.val, 0] := by
  decide +kernel

variable (m : (ℓ : Loc nD τ sig) → Buf (Elt Ideal) ℓ) (c : Dev nD)
  {x p ya yb yc b wo : ℕ → ℕ → EReal} {w : ℕ → ℕ → ℕ → EReal}

/-- The gates of a block of tokens, all three branches side by side. -/
theorem gate_apply {P : Vec Ideal S256x3072 .f32} {B : Vec Ideal S1x3072 .f32} {n0 : ℕ}
    (hp : ∀ (r : Fin 256) (j : Fin 3072), P (ix2 r j) = p (n0 + r) j) (hb : ∀ j : Fin 3072, B (ix2 0 j) = b 0 j)
    (r : Fin 256) (j : Fin 3072) (k d : ℕ) (e : j.val = k * 1024 + d) : k0_pay2 P B (ix2 r j) = gate p b (n0 + r) k d := by
  pointwise [k0_pay2]
  rw [hp, hb, zero_sub, e]
  rfl

/-- What the body leaves in the result's block. -/
theorem out_block {X : Vec Ideal S256x1024 .f32} {P : Vec Ideal S256x3072 .f32} {Y0 Y1 Y2 : Vec Ideal S256x512 .f32}
    {B : Vec Ideal S1x3072 .f32} {W : Vec Ideal S3x512x1024 .bf16} {O : Vec Ideal S1024x1024 .bf16} {n0 : ℕ}
    (hx : ∀ (r : Fin 256) (j : Fin 1024), X (ix2 r j) = x (n0 + r) j)
    (hp : ∀ (r : Fin 256) (j : Fin 3072), P (ix2 r j) = p (n0 + r) j)
    (h0 : ∀ (r : Fin 256) (j : Fin 512), Y0 (ix2 r j) = ya (n0 + r) j)
    (h1 : ∀ (r : Fin 256) (j : Fin 512), Y1 (ix2 r j) = yb (n0 + r) j)
    (h2 : ∀ (r : Fin 256) (j : Fin 512), Y2 (ix2 r j) = yc (n0 + r) j)
    (hb : ∀ j : Fin 3072, B (ix2 0 j) = b 0 j)
    (hw : ∀ (k : Fin 3) (a : Fin 512) (d : Fin 1024), W (ix3 k a d) = w k a d)
    (ho : ∀ d j : Fin 1024, O (ix2 d j) = wo d j) (i : grid0.Coords)
    (m0 : Memref sig .tc .vmem S256x1024 .f32) (g0 : m0.IsWhole) (m1 : Memref sig .tc .vmem S256x3072 .f32) (g1 : m1.IsWhole)
    (m2 m3 m4 : Memref sig .tc .vmem S256x512 .f32) (g2 : m2.IsWhole) (g3 : m3.IsWhole) (g4 : m4.IsWhole)
    (m5 : Memref sig .tc .vmem S1x3072 .f32) (g5 : m5.IsWhole) (m6 : Memref sig .tc .vmem S3x512x1024 .bf16) (g6 : m6.IsWhole)
    (m7 : Memref sig .tc .vmem S1024x1024 .bf16) (g7 : m7.IsWhole) (m8 : Memref sig .tc .vmem S256x1024 .f32) (g8 : m8.IsWhole)
    (r : Fin 256) (j : Fin 1024) :
    out0_A_8 c i m0 g0 m1 g1 m2 g2 m3 g3 m4 g4 m5 g5 m6 g6 m7 g7 m8 g8 X P Y0 Y1 Y2 B W O (ix2 r j)
      = out x p b (branch ya yb yc) w wo (n0 + r) j := by
  frame_out
  pointwise [k0_pay1, k0_pay3, k0_pay4, k0_pay5, k0_pay6]
  rw [hx, out]
  refine congrArg _ (Finset.sum_congr rfl fun d _ => ?_)
  rw [gate_apply hp hb r _ 0 d.val (by simp), gate_apply hp hb r _ 1 d.val (by simp), gate_apply hp hb r _ 2 d.val (by simp)]
  simp only [h0, h1, h2, hw, ho, merged, Fin.sum_univ_three, prod, branch]
  rfl

/-- The call leaves the merged tokens in its result. -/
theorem out_array (hx : Holds2 (m ((c.tc : Thread nD τ).loc main_arg0)) x) (hp : Holds2 (m ((c.tc : Thread nD τ).loc main_arg1)) p)
    (h0 : Holds2 (m ((c.tc : Thread nD τ).loc main_arg2)) ya) (h1 : Holds2 (m ((c.tc : Thread nD τ).loc main_arg3)) yb)
    (h2 : Holds2 (m ((c.tc : Thread nD τ).loc main_arg4)) yc) (hb : Holds2 (m ((c.tc : Thread nD τ).loc main_arg5)) b)
    (hw : Holds3 (m ((c.tc : Thread nD τ).loc main_arg6)) w) (ho : Holds2 (m ((c.tc : Thread nD τ).loc main_arg7)) wo) :
    (dats m 0 c).arrAt 8 cfg0.N = fun i => out x p b (branch ya yb yc) w wo (i 0).val (i 1).val := by
  refine (dats m 0 c).arrAt_eq_of_covers 8 _ (by decide +kernel) fun t hf y => ?_
  blk_simp [index0 t]
  rw [after0_8]
  refine (congrArg _ (eq_ix2 y)).trans (out_block (n0 := t.val * 256) c (fun r j => ?_) (fun r j => ?_) (fun r j => ?_) (fun r j => ?_)
    (fun r j => ?_) (fun j => ?_) (fun k a d => ?_) (fun d j => ?_) _ _ _ _ _ _ _ _ _ _ _ _ _ _ _ _ _ _ _ _ _)
  · unfold iblk
    refine (hx _).trans ?_
    blk_simp [index0 t]
  · unfold X0_1 Pipeline.Window.fill
    rw [dif_pos (moved0_1 t _)]
    refine (hp _).trans ?_
    blk_simp [index0 t]
  · unfold iblk
    refine (h0 _).trans ?_
    blk_simp [index0 t]
  · unfold iblk
    refine (h1 _).trans ?_
    blk_simp [index0 t]
  · unfold iblk
    refine (h2 _).trans ?_
    blk_simp [index0 t]
  · unfold iblk
    refine (hb _).trans ?_
    blk_simp [index0 t]
    rfl
  · unfold iblk
    refine (hw _).trans ?_
    blk_simp [index0 t]
  · unfold iblk
    refine (ho _).trans ?_
    blk_simp [index0 t]

end Cert.Kernel6Ideal.Merge

end
-- ==== Proof.MergeReference.lean ====
/- THE FORWARD MERGE'S REFERENCE: what its result holds. -/
module

public import proofs.«01_k».proof.Proof.Gen.Reference6Ideal.Read
public import proofs.«01_k».proof.Proof.MergeSpec
public import Idealize.ShloMosaic.Lib.Pipeline.ReadBack

@[expose] public section

set_option maxRecDepth 16384

noncomputable section

namespace Cert.Reference6Ideal.Merge

open Idealize.ShloMosaic Idealize.ShloMosaic.TcCoe Cert.Reference6Ideal Cert.Reference6Ideal.Read Cert.Grid Cert.Merge
open Idealize.SL.Sem

variable {x0 : (⟨S8192x1024, .f32⟩ : BufTy).Contents (Elt Ideal)} {x1 : (⟨S8192x7168, .f32⟩ : BufTy).Contents (Elt Ideal)}
  {x2 x3 x4 : (⟨S8192x512, .f32⟩ : BufTy).Contents (Elt Ideal)} {x5 : (⟨S1x3072, .f32⟩ : BufTy).Contents (Elt Ideal)}
  {x6 : (⟨S3x512x1024, .bf16⟩ : BufTy).Contents (Elt Ideal)} {x7 : (⟨S1024x1024, .bf16⟩ : BufTy).Contents (Elt Ideal)}
  {x p ya yb yc b wo : ℕ → ℕ → EReal} {w : ℕ → ℕ → ℕ → EReal}

/-- The three branches' outputs, stacked. -/
theorem branches_apply (h2 : Holds2 x2 ya) (h3 : Holds2 x3 yb) (h4 : Holds2 x4 yc) (n : Fin 8192) (k : Fin 3) (j : Fin 512) :
    val_main_v3 x2 x3 x4 (ix3 n k j) = branch ya yb yc k n j := by
  pointwise [val_main_v3, val_main_v0, val_main_v1, val_main_v2]
  rw [h2, h3, h4]
  fin_cases k <;> rfl

theorem gate_apply (h1 : Holds2 x1 p) (h5 : Holds2 x5 b) (n : Fin 8192) (k : Fin 3) (j : Fin 1024) :
    val_main_v18 x1 x5 (ix3 n k j) = gate p b n k j := by
  pointwise [val_main_v18, val_main_v17, val_main_v16, val_main_v15, val_main_v14, val_main_v13, val_main_v12, val_main_v11,
    val_main_v10, val_main_v9, val_main_v8, val_main_v7, val_main_cst, val_main_cst_0]
  rw [h1, h5]
  rfl

theorem out_apply (h0 : Holds2 x0 x) (h1 : Holds2 x1 p) (h2 : Holds2 x2 ya) (h3 : Holds2 x3 yb) (h4 : Holds2 x4 yc)
    (h5 : Holds2 x5 b) (h6 : Holds3 x6 w) (h7 : Holds2 x7 wo) (n : Fin 8192) (j : Fin 1024) :
    val_main_v23 x0 x1 x2 x3 x4 x5 x6 x7 (ix2 n j) = out x p b (branch ya yb yc) w wo n j := by
  pointwise [val_main_v23, val_main_v22, val_main_v21, val_main_v20, val_main_v19, val_main_v6, val_main_v5, val_main_v4,
    val_main_cst_1]
  simp only [gate_apply h1 h5, branches_apply h2 h3 h4, h0 _, h6 _, h7 _, out, merged, prod]
  refine congrArg _ (Finset.sum_congr rfl fun d _ => congrArg (· * _) (Finset.sum_congr rfl fun k _ => congrArg _ ?_))
  exact Finset.sum_congr rfl fun a _ => mul_comm _ _

end Cert.Reference6Ideal.Merge

end
-- ==== Proof.MergeClaims.lean ====
/- THE CLAIMS OF THE MERGE'S TWO CALLS: the references run, and the calls' results are the references'. -/
module

public import proofs.«01_k».proof.Defs
public import proofs.«01_k».proof.Proof.Gen.Reference2Ideal
public import proofs.«01_k».proof.Proof.Gen.Reference6Ideal
public import proofs.«01_k».proof.Proof.Gen.Reference2Ideal.Run
public import proofs.«01_k».proof.Proof.Gen.Reference6Ideal.Run
public import proofs.«01_k».proof.Proof.MergeBackward
public import proofs.«01_k».proof.Proof.MergeBackwardReference
public import proofs.«01_k».proof.Proof.MergeForward
public import proofs.«01_k».proof.Proof.MergeReference

@[expose] public section

set_option maxRecDepth 16384

noncomputable section

namespace Cert.Proof

open Idealize.ShloMosaic Idealize.SL.Sem Cert.Grid Cert.Merge

/-- The backward merge's reference runs, with its arguments unchanged and no counter. -/
theorem reference_frame2 : Cert.quiescent_Reference2Ideal := fun m g _ =>
  (θ_run (Cert.Reference2Ideal.defs (F := Ideal)) _ _).mono
    (fun r h => ⟨fun c => (h c).2.2.2.2.2.2.2, sem_eq_zero_of_no_sems (by decide) r.2⟩) (Cert.Reference2Ideal.Value.run m g)

/-- The backward merge's seven results are the reference's. -/
theorem algebraic2 : Cert.algebraic_Kernel2Ideal_Reference2Ideal := by
  intro m g m' g' _ hargs
  refine ⟨_, _, _, _, _, _, _, Cert.Kernel2Ideal.Value.run_blocks m g, ?_⟩
  refine (θ_run (Cert.Reference2Ideal.defs (F := Ideal)) _ _).mono (fun r h c => ?_) (Cert.Reference2Ideal.Value.run m' g')
  obtain ⟨a0, a1, a2, a3, a4, a5, a6, a7⟩ := hargs c
  obtain ⟨r0, r1, r2, r3, r4, r5, r6, rest⟩ := h c
  have h0 := holds2 (m ((c.tc : Thread Cert.Kernel2Ideal.nD Cert.Kernel2Ideal.τ).loc Cert.Kernel2Ideal.main_arg0))
  have h1 := holds2 (m ((c.tc : Thread Cert.Kernel2Ideal.nD Cert.Kernel2Ideal.τ).loc Cert.Kernel2Ideal.main_arg1))
  have h2 := holds2 (m ((c.tc : Thread Cert.Kernel2Ideal.nD Cert.Kernel2Ideal.τ).loc Cert.Kernel2Ideal.main_arg2))
  have h3 := holds2 (m ((c.tc : Thread Cert.Kernel2Ideal.nD Cert.Kernel2Ideal.τ).loc Cert.Kernel2Ideal.main_arg3))
  have h4 := holds2 (m ((c.tc : Thread Cert.Kernel2Ideal.nD Cert.Kernel2Ideal.τ).loc Cert.Kernel2Ideal.main_arg4))
  have h5 := holds2 (m ((c.tc : Thread Cert.Kernel2Ideal.nD Cert.Kernel2Ideal.τ).loc Cert.Kernel2Ideal.main_arg5))
  have h6 := holds3 (m ((c.tc : Thread Cert.Kernel2Ideal.nD Cert.Kernel2Ideal.τ).loc Cert.Kernel2Ideal.main_arg6))
  have h7 := holds2 (m ((c.tc : Thread Cert.Kernel2Ideal.nD Cert.Kernel2Ideal.τ).loc Cert.Kernel2Ideal.main_arg7))
  refine ⟨r0.trans ?_, r1.trans ?_, r2.trans ?_, r3.trans ?_, r4.trans ?_, r5.trans ?_, r6.trans ?_, rest⟩
  · rw [Cert.Reference2Ideal.Read.val_main_v38_eq, a0, a1, a2, a3, a4, a5, a6, a7]
    exact (Cert.Reference2Ideal.Merge.dgate_value h0 h1 h2 h3 h4 h5 h6 h7).trans
      (Cert.Kernel2Ideal.Merge.dgate_array m c h0 h1 h2 h3 h4 h5 h6 h7).symm
  · rw [Cert.Reference2Ideal.Read.val_main_v40_eq, a0, a1, a5, a6, a7]
    exact (Cert.Reference2Ideal.Merge.dbranch0_value h0 h1 h5 h6 h7).trans
      (Cert.Kernel2Ideal.Merge.dbranch0_array m c h0 h1 h2 h3 h4 h5 h6 h7).symm
  · rw [Cert.Reference2Ideal.Read.val_main_v42_eq, a0, a1, a5, a6, a7]
    exact (Cert.Reference2Ideal.Merge.dbranch1_value h0 h1 h5 h6 h7).trans
      (Cert.Kernel2Ideal.Merge.dbranch1_array m c h0 h1 h2 h3 h4 h5 h6 h7).symm
  · rw [Cert.Reference2Ideal.Read.val_main_v44_eq, a0, a1, a5, a6, a7]
    exact (Cert.Reference2Ideal.Merge.dbranch2_value h0 h1 h5 h6 h7).trans
      (Cert.Kernel2Ideal.Merge.dbranch2_array m c h0 h1 h2 h3 h4 h5 h6 h7).symm
  · rw [Cert.Reference2Ideal.Read.val_main_v46_eq, a0, a1, a5, a7]
    exact (Cert.Reference2Ideal.Merge.dprod_value h0 h1 h5 h7).trans
      (Cert.Kernel2Ideal.Merge.dprod_array m c h0 h1 h2 h3 h4 h5 h6 h7).symm
  · rw [Cert.Reference2Ideal.Read.val_main_v47_eq, a1, a2, a3, a4, a5, a6]
    exact (Cert.Reference2Ideal.Merge.merged_value h1 h2 h3 h4 h5 h6).trans
      (Cert.Kernel2Ideal.Merge.merged_array m c h0 h1 h2 h3 h4 h5 h6 h7).symm
  · rw [Cert.Reference2Ideal.Read.val_main_v48_eq, a0, a1, a2, a3, a4, a5, a6, a7]
    exact (Cert.Reference2Ideal.Merge.dbias_value h0 h1 h2 h3 h4 h5 h6 h7).trans
      (Cert.Kernel2Ideal.Merge.dbias_array m c h0 h1 h2 h3 h4 h5 h6 h7).symm

/-- The forward merge's reference runs, with its arguments unchanged and no counter. -/
theorem reference_frame6 : Cert.quiescent_Reference6Ideal := fun m g _ =>
  (θ_run (Cert.Reference6Ideal.defs (F := Ideal)) _ _).mono
    (fun r h => ⟨fun c => (h c).2, sem_eq_zero_of_no_sems (by decide) r.2⟩) (Cert.Reference6Ideal.Value.run m g)

/-- The forward merge's result is the reference's. -/
theorem algebraic6 : Cert.algebraic_Kernel6Ideal_Reference6Ideal := by
  intro m g m' g' _ hargs
  refine ⟨_, Cert.Kernel6Ideal.Value.run_blocks m g, ?_⟩
  refine (θ_run (Cert.Reference6Ideal.defs (F := Ideal)) _ _).mono (fun r h c => ?_) (Cert.Reference6Ideal.Value.run m' g')
  obtain ⟨a0, a1, a2, a3, a4, a5, a6, a7⟩ := hargs c
  have h0 := holds2 (m ((c.tc : Thread Cert.Kernel6Ideal.nD Cert.Kernel6Ideal.τ).loc Cert.Kernel6Ideal.main_arg0))
  have h1 := holds2 (m ((c.tc : Thread Cert.Kernel6Ideal.nD Cert.Kernel6Ideal.τ).loc Cert.Kernel6Ideal.main_arg1))
  have h2 := holds2 (m ((c.tc : Thread Cert.Kernel6Ideal.nD Cert.Kernel6Ideal.τ).loc Cert.Kernel6Ideal.main_arg2))
  have h3 := holds2 (m ((c.tc : Thread Cert.Kernel6Ideal.nD Cert.Kernel6Ideal.τ).loc Cert.Kernel6Ideal.main_arg3))
  have h4 := holds2 (m ((c.tc : Thread Cert.Kernel6Ideal.nD Cert.Kernel6Ideal.τ).loc Cert.Kernel6Ideal.main_arg4))
  have h5 := holds2 (m ((c.tc : Thread Cert.Kernel6Ideal.nD Cert.Kernel6Ideal.τ).loc Cert.Kernel6Ideal.main_arg5))
  have h6 := holds3 (m ((c.tc : Thread Cert.Kernel6Ideal.nD Cert.Kernel6Ideal.τ).loc Cert.Kernel6Ideal.main_arg6))
  have h7 := holds2 (m ((c.tc : Thread Cert.Kernel6Ideal.nD Cert.Kernel6Ideal.τ).loc Cert.Kernel6Ideal.main_arg7))
  refine ⟨(h c).1.trans ?_, (h c).2⟩
  rw [Cert.Reference6Ideal.Read.val_main_v23_eq, a0, a1, a2, a3, a4, a5, a6, a7,
    Cert.Kernel6Ideal.Merge.out_array m c h0 h1 h2 h3 h4 h5 h6 h7]
  exact funext fun i => (congrArg _ (eq_ix2 i)).trans (Cert.Reference6Ideal.Merge.out_apply h0 h1 h2 h3 h4 h5 h6 h7 _ _)

end Cert.Proof

end
-- ==== Proof.MixerBackBody.lean ====
/-
  The body of the channel mixer's backward call: what one grid point leaves in each buffer, from what it finds there.
-/
module

public import proofs.«01_k».proof.Proof.Gen.Kernel7Ideal.Frame
public import proofs.«01_k».proof.Proof.Gen.Kernel7Ideal.Skeleton
public import Idealize.ShloMosaic.Lib.Pipeline.ReadBack
public import Idealize.ShloMosaic.Lib.Pipeline.TableIdle
public import Idealize.ShloMosaic.Lib.Claim
public import Idealize.ShloMosaic.Lib.VecWindow
public import Idealize.ShloMosaic.Lib.Pipeline.ValueKit.Acc

@[expose] public section

set_option maxRecDepth 16384

noncomputable section

namespace Cert.Kernel7Ideal.Mixer

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The normalised tokens: computed at the first of a row block's two points, kept at the second. -/
def hidden (i : grid0.Coords) (x : Vec F S512x1024 .f32) (g : Vec F S1x1024 .f32) (old : Vec F S512x1024 .bf16) :
    Vec F S512x1024 .bf16 :=
  if k0_cond1 i = 1#1 then k0_pay10 x g else old

/-- What the running sum of the tokens' gradient starts a point from: zero at the first of the two. -/
def sumBase (i : grid0.Coords) (old : Vec F S512x1024 .f32) : Vec F S512x1024 .f32 :=
  if k0_cond1 i = 1#1 then k0_pay11 else old

/-- What the weight's gradient starts a point from: zero at the grid's first. -/
def weightBase (i : grid0.Coords) (old : Vec F S1x1024 .f32) : Vec F S1x1024 .f32 :=
  if k0_cond2 i = 1#1 then k0_pay12 else old

/-- The running sum with this point's two products added. -/
def summed (h : Vec F S512x1024 .bf16) (d : Vec F S512x1024 .f32) (wg wu : Vec F S1024x1408 .bf16)
    (wd : Vec F S1408x1024 .bf16) (base : Vec F S512x1024 .f32) : Vec F S512x1024 .f32 :=
  k0_pay4 (k0_pay17 h wg) (k0_pay18 d wd) (k0_pay19 h wu d wd) (k0_pay20 h wg) base wg wu

/-- The token block's gradient: written at the second of the two points. -/
def tokens (i : grid0.Coords) (x : Vec F S512x1024 .f32) (g : Vec F S1x1024 .f32) (sum d old : Vec F S512x1024 .f32) :
    Vec F S512x1024 .f32 :=
  if k0_cond3 i = 1#1 then k0_pay9 x g sum d else old

/-- The weight's gradient: this row block's share added at the second of the two points. -/
def weight (i : grid0.Coords) (x sum : Vec F S512x1024 .f32) (base : Vec F S1x1024 .f32) : Vec F S1x1024 .f32 :=
  if k0_cond3 i = 1#1 then k0_pay5 (k0_pay8 x sum) base else base

/-- The three ways the kernel's conditions fall on the grid. -/
def Place (i : grid0.Coords) : Prop :=
  (k0_cond1 i = 1#1 ∧ k0_cond2 i = 1#1 ∧ ¬k0_cond3 i = 1#1) ∨ (k0_cond1 i = 1#1 ∧ ¬k0_cond2 i = 1#1 ∧ ¬k0_cond3 i = 1#1)
    ∨ (¬k0_cond1 i = 1#1 ∧ ¬k0_cond2 i = 1#1 ∧ k0_cond3 i = 1#1)

section
variable (c : Dev nD) (E : Set ℕ) (i : grid0.Coords)
  (a0 : Memref sig .tc .vmem S512x1024 .f32) (w0 : a0.IsWhole) (a1 : Memref sig .tc .vmem S512x1024 .f32) (w1 : a1.IsWhole)
  (a2 : Memref sig .tc .vmem S1x1024 .f32) (w2 : a2.IsWhole) (a3 : Memref sig .tc .vmem S1024x1408 .bf16) (w3 : a3.IsWhole)
  (a4 : Memref sig .tc .vmem S1024x1408 .bf16) (w4 : a4.IsWhole) (a5 : Memref sig .tc .vmem S1408x1024 .bf16) (w5 : a5.IsWhole)
  (a6 : Memref sig .tc .vmem S512x1024 .f32) (w6 : a6.IsWhole) (a7 : Memref sig .tc .vmem S1x1024 .f32) (w7 : a7.IsWhole)
  (a8 : Memref sig .tc .vmem S512x1024 .bf16) (w8 : a8.IsWhole) (a9 : Memref sig .tc .vmem S512x1408 .bf16) (w9 : a9.IsWhole)
  (a10 : Memref sig .tc .vmem S512x1408 .bf16) (w10 : a10.IsWhole) (a11 : Memref sig .tc .vmem S512x1408 .bf16) (w11 : a11.IsWhole)
  (a12 : Memref sig .tc .vmem S512x1024 .f32) (w12 : a12.IsWhole)
  (d x : Vec F S512x1024 .f32) (g : Vec F S1x1024 .f32) (wg wu : Vec F S1024x1408 .bf16) (wd : Vec F S1408x1024 .bf16)
  (x6 : Vec F S512x1024 .f32) (x7 : Vec F S1x1024 .f32) (x8 : Vec F S512x1024 .bf16) (s : Vec F S512x1024 .f32)

/-- What the body leaves: the inputs as they were, the results and the running sum at their new contents. -/
def left : sProp 𝕄 :=
  iprop(owns (c : Thread nD τ) a0 fullShare d ∗ owns (c : Thread nD τ) a1 fullShare x ∗ owns (c : Thread nD τ) a2 fullShare g
    ∗ owns (c : Thread nD τ) a3 fullShare wg ∗ owns (c : Thread nD τ) a4 fullShare wu ∗ owns (c : Thread nD τ) a5 fullShare wd
    ∗ owns (c : Thread nD τ) a6 fullShare (tokens i x g (summed (hidden i x g x8) d wg wu wd (sumBase i s)) d x6)
    ∗ owns (c : Thread nD τ) a7 fullShare (weight i x (summed (hidden i x g x8) d wg wu wd (sumBase i s)) (weightBase i x7))
    ∗ owns (c : Thread nD τ) a8 fullShare (hidden i x g x8)
    ∗ owns (c : Thread nD τ) a9 fullShare (k0_pay1 (k0_pay19 (hidden i x g x8) wu d wd) (k0_pay20 (hidden i x g x8) wg))
    ∗ owns (c : Thread nD τ) a10 fullShare (k0_pay2 (k0_pay17 (hidden i x g x8) wg) (k0_pay18 d wd))
    ∗ owns (c : Thread nD τ) a11 fullShare (k0_pay3 (k0_pay15 (hidden i x g x8) wu) (k0_pay17 (hidden i x g x8) wg))
    ∗ owns (c : Thread nD τ) a12 fullShare (summed (hidden i x g x8) d wg wu wd (sumBase i s)))

set_option maxHeartbeats 4000000 in
/-- The body run on whole buffers, at any of the three places. -/
theorem body_run (hi : Place i) (K : PUnit → sProp 𝕄) :
    iprop(owns (c : Thread nD τ) a0 fullShare d ∗ owns (c : Thread nD τ) a1 fullShare x ∗ owns (c : Thread nD τ) a2 fullShare g
        ∗ owns (c : Thread nD τ) a3 fullShare wg ∗ owns (c : Thread nD τ) a4 fullShare wu ∗ owns (c : Thread nD τ) a5 fullShare wd
        ∗ owns (c : Thread nD τ) a6 fullShare x6 ∗ owns (c : Thread nD τ) a7 fullShare x7 ∗ owns (c : Thread nD τ) a8 fullShare x8
        ∗ (∃ y, owns (c : Thread nD τ) a9 fullShare y) ∗ (∃ y, owns (c : Thread nD τ) a10 fullShare y)
        ∗ (∃ y, owns (c : Thread nD τ) a11 fullShare y) ∗ owns (c : Thread nD τ) a12 fullShare s
        ∗ (left c i a0 a1 a2 a3 a4 a5 a6 a7 a8 a9 a10 a11 a12 d x g wg wu wd x6 x7 x8 s -∗ K ⟨⟩))
      ⊢ wp frame (wpE (defs₀ (F := F)) Variants.none c none) E
        (cc0_l1_ffn_bwd i a0 w0 a1 w1 a2 w2 a3 w3 a4 w4 a5 w5 a6 w6 a7 w7 a8 w8 a9 w9 a10 w10 a11 w11 a12 w12) K := by
  unfold left
  simp only [cc0_l1_ffn_bwd_eq_skeleton]; unfold cc0_l1_ffn_bwd_skel
  simp only [k0_part2_eq_skeleton, k0_part1_eq_skeleton]
  unfold owns
  iintro ⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩,
    ⟨%f7, %h7, H7⟩, ⟨%f8, %h8, H8⟩, ⟨%y9, %f9, -, H9⟩, ⟨%y10, %f10, -, H10⟩, ⟨%y11, %f11, -, H11⟩, ⟨%f12, %h12, H12⟩, Hk⟩
  obtain rfl := w0.eq_unread h0; obtain rfl := w1.eq_unread h1; obtain rfl := w2.eq_unread h2; obtain rfl := w3.eq_unread h3
  obtain rfl := w4.eq_unread h4; obtain rfl := w5.eq_unread h5; obtain rfl := w6.eq_unread h6; obtain rfl := w7.eq_unread h7
  obtain rfl := w8.eq_unread h8; obtain rfl := w12.eq_unread h12
  obtain ⟨q1, q2, q3⟩ | ⟨q1, q2, q3⟩ | ⟨q1, q2, q3⟩ := hi
  all_goals
    simp only [hidden, sumBase, weightBase, tokens, weight, summed, q1, q2, q3, if_true, if_false]
    sl_exec (disch := first | sl_exact q1 | sl_exact q2 | sl_exact q3)
    sl_step
    iapply Hk
    isplitl [H0]
    · iexists _; isplitr; · ipureintro; exact w0.read_unread _
      iexact H0
    isplitl [H1]
    · iexists _; isplitr; · ipureintro; exact w1.read_unread _
      iexact H1
    isplitl [H2]
    · iexists _; isplitr; · ipureintro; exact w2.read_unread _
      iexact H2
    isplitl [H3]
    · iexists _; isplitr; · ipureintro; exact w3.read_unread _
      iexact H3
    isplitl [H4]
    · iexists _; isplitr; · ipureintro; exact w4.read_unread _
      iexact H4
    isplitl [H5]
    · iexists _; isplitr; · ipureintro; exact w5.read_unread _
      iexact H5
    isplitl [H6]
    · iexists _; isplitr
      swap; · iexact H6
      ipureintro
      first
      | with_reducible exact w6.read_unread _
      | refine (View.read_writes_full _ _ _ _ _).trans ?_; frame_out; done
    isplitl [H7]
    · iexists _; isplitr
      swap; · iexact H7
      ipureintro
      first
      | with_reducible exact w7.read_unread _
      | refine (View.read_writes_full _ _ _ _ _).trans ?_; frame_out; done
    isplitl [H8]
    · iexists _; isplitr
      swap; · iexact H8
      ipureintro
      first
      | with_reducible exact w8.read_unread _
      | refine (View.read_writes_full _ _ _ _ _).trans ?_; frame_out; done
    isplitl [H9]
    · iexists _; isplitr
      swap; · iexact H9
      ipureintro
      first
      | with_reducible exact w9.read_unread _
      | refine (View.read_writes_full _ _ _ _ _).trans ?_; frame_out; done
    isplitl [H10]
    · iexists _; isplitr
      swap; · iexact H10
      ipureintro
      first
      | with_reducible exact w10.read_unread _
      | refine (View.read_writes_full _ _ _ _ _).trans ?_; frame_out; done
    isplitl [H11]
    · iexists _; isplitr
      swap; · iexact H11
      ipureintro
      first
      | with_reducible exact w11.read_unread _
      | refine (View.read_writes_full _ _ _ _ _).trans ?_; frame_out; done
    iexists _; isplitr
    swap; · iexact H12
    ipureintro
    first
    | with_reducible exact w12.read_unread _
    | refine (View.read_writes_full _ _ _ _ _).trans ?_; frame_out; done
end

end Cert.Kernel7Ideal.Mixer

end
-- ==== Proof.MixerBackRun.lean ====
/-
  The run of the channel mixer's backward call: what is carried from one grid point to the next, and that the pipeline,
  so carried, runs to its end and leaves the arguments as they were.
-/
module

public import proofs.«01_k».proof.Proof.MixerBackBody

@[expose] public section

set_option maxRecDepth 16384

noncomputable section

namespace Cert.Kernel7Ideal.Mixer

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What is carried from point to point -/

/-- The normalised tokens, the running sum of their gradient and the weight's gradient so far. -/
structure Carry (F : FTy → Type) [FloatOps F] where
  hid : Vec F S512x1024 .bf16
  sum : Vec F S512x1024 .f32
  wgt : Vec F S1x1024 .f32

/-- One grid point. -/
def step (c : Dev nD) (t : Fin cfg0.N) (p : Carry F) : Carry F where
  hid := hidden (grid0.coords t) (iblk m c 1 t) (iblk m c 2 t) p.hid
  sum := summed (hidden (grid0.coords t) (iblk m c 1 t) (iblk m c 2 t) p.hid) (iblk m c 0 t) (iblk m c 3 t) (iblk m c 4 t)
    (iblk m c 5 t) (sumBase (grid0.coords t) p.sum)
  wgt := weight (grid0.coords t) (iblk m c 1 t)
    (summed (hidden (grid0.coords t) (iblk m c 1 t) (iblk m c 2 t) p.hid) (iblk m c 0 t) (iblk m c 3 t) (iblk m c 4 t)
      (iblk m c 5 t) (sumBase (grid0.coords t) p.sum)) (weightBase (grid0.coords t) p.wgt)

/-- What is carried before point `n`. Before the first point nothing is read of it. -/
def sofar (c : Dev nD) : ℕ → Carry F
  | 0 => ⟨k0_pay10 k0_pay11 k0_pay12, k0_pay11, k0_pay12⟩
  | n + 1 => if h : n < cfg0.N then step m c ⟨n, h⟩ (sofar c n) else sofar c n

theorem sofar_succ (c : Dev nD) (t : Fin cfg0.N) : sofar m c (t.val + 1) = step m c t (sofar m c t.val) := by
  rw [sofar, dif_pos t.isLt]

/-- What is carried before a point that is not the first is what the point before left. -/
theorem sofar_pred (c : Dev nD) (t : Fin cfg0.N) (h : t.val ≠ 0) : sofar m c (t.val - 1 + 1) = sofar m c t.val := by
  rw [Nat.sub_add_cancel (Nat.pos_of_ne_zero h)]

/-! ## The kernel's conditions on the grid -/

theorem cond1_iff : ∀ t : Fin cfg0.N, k0_cond1 (grid0.coords t) = 1#1 ↔ t.val % 2 = 0 := by decide +kernel
theorem cond2_iff : ∀ t : Fin cfg0.N, k0_cond2 (grid0.coords t) = 1#1 ↔ t.val % 32 = 0 := by decide +kernel
theorem cond3_iff : ∀ t : Fin cfg0.N, k0_cond3 (grid0.coords t) = 1#1 ↔ t.val % 2 = 1 := by decide +kernel

theorem place (t : Fin cfg0.N) : Place (grid0.coords t) := by
  unfold Place
  rw [cond1_iff, cond2_iff, cond3_iff]
  omega

theorem idle6 : ∀ t : Fin cfg0.N, t.val % 2 = 0 → cfg0.idle 6 (grid0.coords t) = true ∧ (cfg0.win 6).flush t = false := by
  decide +kernel
theorem live6 : ∀ t : Fin cfg0.N, t.val % 2 = 1 → cfg0.idle 6 (grid0.coords t) = false := by decide +kernel
theorem idle7 : ∀ t : Fin cfg0.N, t.val % 2 = 0 → t.val ≠ 0 →
    cfg0.idle 7 (grid0.coords t) = true ∧ (cfg0.win 7).flush t = false := by decide +kernel
theorem live7 : ∀ t : Fin cfg0.N, t.val % 2 = 1 ∨ t.val = 0 → cfg0.idle 7 (grid0.coords t) = false := by decide +kernel
theorem idle8 : ∀ t : Fin cfg0.N, t.val % 2 = 1 → cfg0.idle 8 (grid0.coords t) = true ∧ (cfg0.win 8).flush t = true := by
  decide +kernel
theorem live8 : ∀ t : Fin cfg0.N, t.val % 2 = 0 → cfg0.idle 8 (grid0.coords t) = false := by decide +kernel

/-- Before which points the weight gradient's buffer holds nothing of the kernel's: the first, and after the last. -/
def blank7 : ℕ → Bool
  | 0 => true
  | n + 1 => (0x80000000 : ℕ).testBit n
/-- Before which points the normalised tokens' buffer holds nothing of the kernel's: the first of each two. -/
def blank8 : ℕ → Bool
  | 0 => true
  | n + 1 => (0xaaaaaaaa : ℕ).testBit n
theorem blank7_step : ∀ t : Fin cfg0.N,
    blank7 (t.val + 1) = ((cfg0.win 7).flush t || (cfg0.idle 7 (cfg0.grid.coords t) && blank7 t.val)) := by decide +kernel
theorem blank8_step : ∀ t : Fin cfg0.N,
    blank8 (t.val + 1) = ((cfg0.win 8).flush t || (cfg0.idle 8 (cfg0.grid.coords t) && blank8 t.val)) := by decide +kernel
theorem fresh7 (t : Fin cfg0.N) (h : t.val ≠ 0) : cfg0.fresh 7 t.val = false := by
  rw [Pipeline.Cfg.fresh_tab cfg0 7 blank7 rfl blank7_step t.val (Nat.le_of_lt t.isLt)]
  revert t; decide +kernel
theorem fresh8 (t : Fin cfg0.N) (h : t.val % 2 = 1) : cfg0.fresh 8 t.val = false := by
  rw [Pipeline.Cfg.fresh_tab cfg0 8 blank8 rfl blank8_step t.val (Nat.le_of_lt t.isLt)]
  revert t; decide +kernel

/-! ## The pipeline's proof data -/

/-- Before point `n` the running sum's buffer is at what is carried; before the first it is at anything. -/
def Inv (c : Dev nD) (n : ℕ) : sProp 𝕄 :=
  iprop((∃ d, ⌜n ≠ 0 → d = (sofar m c n).sum⌝ ∗ owns (c : Thread nD τ) (Memref.whole cc0_scratch0) fullShare d)
    ∗ (∃ r, prngReg c r))

/-- The arrays as the region finds them; after a point, each input's buffer at its block and each result's at what that
    point's step makes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay9 (iblk m c 1 t) (iblk m c 2 t) (sofar m c (t.val + 1)).sum (iblk m c 0 t)
    | ⟨7, _⟩ => (sofar m c (t.val + 1)).wgt
    | ⟨8, _⟩ => (sofar m c (t.val + 1)).hid
    | ⟨9, _⟩ => k0_pay1 (k0_pay19 (sofar m c (t.val + 1)).hid (iblk m c 4 t) (iblk m c 0 t) (iblk m c 5 t))
        (k0_pay20 (sofar m c (t.val + 1)).hid (iblk m c 3 t))
    | ⟨10, _⟩ => k0_pay2 (k0_pay17 (sofar m c (t.val + 1)).hid (iblk m c 3 t)) (k0_pay18 (iblk m c 0 t) (iblk m c 5 t))
    | ⟨11, _⟩ => k0_pay3 (k0_pay15 (sofar m c (t.val + 1)).hid (iblk m c 4 t)) (k0_pay17 (sofar m c (t.val + 1)).hid (iblk m c 3 t))
  Φ t := Inv m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t
    = k0_pay9 (iblk m c 1 t) (iblk m c 2 t) (sofar m c (t.val + 1)).sum (iblk m c 0 t) := by dsimp only [dats]
theorem after0_7 (c : Dev nD) (t : Fin cfg0.N) : (dats m 0 c).after 7 t = (sofar m c (t.val + 1)).wgt := by dsimp only [dats]
theorem after0_8 (c : Dev nD) (t : Fin cfg0.N) : (dats m 0 c).after 8 t = (sofar m c (t.val + 1)).hid := by dsimp only [dats]
theorem after0_9 (c : Dev nD) (t : Fin cfg0.N) : (dats m 0 c).after 9 t
    = k0_pay1 (k0_pay19 (sofar m c (t.val + 1)).hid (iblk m c 4 t) (iblk m c 0 t) (iblk m c 5 t))
        (k0_pay20 (sofar m c (t.val + 1)).hid (iblk m c 3 t)) := by dsimp only [dats]
theorem after0_10 (c : Dev nD) (t : Fin cfg0.N) : (dats m 0 c).after 10 t
    = k0_pay2 (k0_pay17 (sofar m c (t.val + 1)).hid (iblk m c 3 t)) (k0_pay18 (iblk m c 0 t) (iblk m c 5 t)) := by
  dsimp only [dats]
theorem after0_11 (c : Dev nD) (t : Fin cfg0.N) : (dats m 0 c).after 11 t
    = k0_pay3 (k0_pay15 (sofar m c (t.val + 1)).hid (iblk m c 4 t)) (k0_pay17 (sofar m c (t.val + 1)).hid (iblk m c 3 t)) := by
  dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The weight's gradient does not move at a row block's first point, the grid's first apart. -/
theorem wgt_kept (c : Dev nD) (t : Fin cfg0.N) (h : t.val % 2 = 0) (h0 : t.val ≠ 0) :
    (sofar m c (t.val + 1)).wgt = (sofar m c t.val).wgt := by
  have hN : t.val < 32 := lt_of_lt_of_eq t.isLt N_0
  rw [sofar_succ, step, weight, weightBase, if_neg fun q => by have := (cond3_iff t).mp q; omega,
    if_neg fun q => by have := (cond2_iff t).mp q; omega]

/-- The normalised tokens do not move at a row block's second point. -/
theorem hid_kept (c : Dev nD) (t : Fin cfg0.N) (h : t.val % 2 = 1) : (sofar m c (t.val + 1)).hid = (sofar m c t.val).hid := by
  rw [sofar_succ, step, hidden, if_neg fun q => by have := (cond1_iff t).mp q; omega]

/-- Before a point that is not the first, the weight gradient's buffer is at what is carried. -/
theorem before0_7 (c : Dev nD) (t : Fin cfg0.N) (h : t.val ≠ 0) (d) : (dats m 0 c).before 7 t d = (sofar m c t.val).wgt := by
  rw [Dat.before_out_traj _ 7 rfl (fun _ _ => rfl) (fun u hu hi _ => ?_) t.val t rfl d,
    if_neg (by rw [fresh7 t h]; exact Bool.false_ne_true), after0_7, sofar_pred m c t h]
  rw [after0_7, after0_7, sofar_pred m c u hu]
  refine wgt_kept m c u ?_ hu
  by_contra q
  rw [live7 u (.inl (by omega))] at hi
  exact Bool.false_ne_true hi

/-- Before a row block's second point, the normalised tokens' buffer is at what is carried. -/
theorem before0_8 (c : Dev nD) (t : Fin cfg0.N) (h : t.val % 2 = 1) (d) : (dats m 0 c).before 8 t d = (sofar m c t.val).hid := by
  have h0 : t.val ≠ 0 := by omega
  rw [Dat.before_out_traj _ 8 rfl (fun _ _ => rfl) (fun u hu hi _ => ?_) t.val t rfl d,
    if_neg (by rw [fresh8 t h]; exact Bool.false_ne_true), after0_8, sofar_pred m c t h0]
  rw [after0_8, after0_8, sofar_pred m c u hu]
  refine hid_kept m c u ?_
  by_contra q
  rw [live8 u (by omega)] at hi
  exact Bool.false_ne_true hi

/-- At every point the body makes the step's normalised tokens of what it finds, -/
theorem hidden_found (c : Dev nD) (t : Fin cfg0.N) (d) :
    hidden (grid0.coords t) (iblk m c 1 t) (iblk m c 2 t) ((dats m 0 c).before 8 t d) = (sofar m c (t.val + 1)).hid := by
  rw [sofar_succ, step]
  by_cases h : t.val % 2 = 0
  · simp only [hidden, if_pos ((cond1_iff t).mpr h)]
  · rw [before0_8 m c t (by omega) d]

/-- the step's running sum, -/
theorem sum_found (c : Dev nD) (t : Fin cfg0.N) (d : Vec F S512x1024 .f32) (hd : t.val ≠ 0 → d = (sofar m c t.val).sum) :
    summed (sofar m c (t.val + 1)).hid (iblk m c 0 t) (iblk m c 3 t) (iblk m c 4 t) (iblk m c 5 t) (sumBase (grid0.coords t) d)
      = (sofar m c (t.val + 1)).sum := by
  rw [sofar_succ, step]
  by_cases h : t.val = 0
  · simp only [sumBase, if_pos ((cond1_iff t).mpr (by omega))]
  · rw [hd h]

/-- and the step's weight gradient. -/
theorem weight_found (c : Dev nD) (t : Fin cfg0.N) (d) :
    weight (grid0.coords t) (iblk m c 1 t) (sofar m c (t.val + 1)).sum (weightBase (grid0.coords t) ((dats m 0 c).before 7 t d))
      = (sofar m c (t.val + 1)).wgt := by
  rw [sofar_succ, step]
  by_cases h : t.val = 0
  · simp only [weightBase, if_pos ((cond2_iff t).mpr (by omega))]
  · rw [before0_7 m c t h d]

/-! ## What the body leaves in the buffers it does not always write -/

theorem leaves6 (c : Dev nD) (t : Fin cfg0.N) (d) :
    owns (c : Thread nD τ) (st0_6 t) fullShare (tokens (grid0.coords t) (iblk m c 1 t) (iblk m c 2 t) (sofar m c (t.val + 1)).sum
        (iblk m c 0 t) ((dats m 0 c).before 6 t d))
      ⊢ (dats m 0 c).leavesExact 6 t := by
  by_cases h : t.val % 2 = 0
  · rw [Dat.leavesExact_idle _ 6 t (idle6 t h).1 (idle6 t h).2, tokens, if_neg fun q => by have := (cond3_iff t).mp q; omega]
    iintro H; iexists d; iexact H
  · rw [show (dats m 0 c).leavesExact 6 t = owns (c : Thread nD τ) (st0_6 t) fullShare ((dats m 0 c).after 6 t) from by
      unfold Dat.leavesExact; rw [live6 t (by omega)], after0_6, tokens, if_pos ((cond3_iff t).mpr (by omega))]

theorem leaves7 (c : Dev nD) (t : Fin cfg0.N) (d) :
    owns (c : Thread nD τ) (st0_7 t) fullShare (weight (grid0.coords t) (iblk m c 1 t) (sofar m c (t.val + 1)).sum
        (weightBase (grid0.coords t) ((dats m 0 c).before 7 t d)))
      ⊢ (dats m 0 c).leavesExact 7 t := by
  rw [weight_found]
  by_cases h : t.val % 2 = 0 ∧ t.val ≠ 0
  · rw [Dat.leavesExact_idle _ 7 t (idle7 t h.1 h.2).1 (idle7 t h.1 h.2).2, wgt_kept m c t h.1 h.2]
    iintro H; iexists d; rw [before0_7 m c t h.2 d]; iexact H
  · rw [show (dats m 0 c).leavesExact 7 t = owns (c : Thread nD τ) (st0_7 t) fullShare ((dats m 0 c).after 7 t) from by
      unfold Dat.leavesExact; rw [live7 t (by omega)], after0_7]

theorem leaves8 (c : Dev nD) (t : Fin cfg0.N) :
    owns (c : Thread nD τ) (st0_8 t) fullShare (sofar m c (t.val + 1)).hid ⊢ (dats m 0 c).leavesExact 8 t := by
  rw [show (dats m 0 c).leavesExact 8 t = owns (c : Thread nD τ) (st0_8 t) fullShare ((dats m 0 c).after 8 t) from by
    by_cases h : t.val % 2 = 0
    · unfold Dat.leavesExact; rw [live8 t h]
    · unfold Dat.leavesExact; rw [(idle8 t (by omega)).1, (idle8 t (by omega)).2], after0_8]

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (dats m 0 c).leavesExact 6 t ∗ (dats m 0 c).leavesExact 7 t ∗ (dats m 0 c).leavesExact 8 t
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    show (dats m 0 c).Φ t.castSucc = Inv m c t.val from rfl, show (dats m 0 c).Φ t.succ = Inv m c (t.val + 1) from rfl,
    after0_0, after0_1, after0_2, after0_3, after0_4, after0_5, after0_9, after0_10, after0_11]
  unfold Inv
  iintro ⟨⟨⟨%s, %hs, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩,
    ⟨%d8, H8⟩, ⟨%d9, H9⟩, ⟨%d10, H10⟩, ⟨%d11, H11⟩⟩
  iapply (body_run c Set.univ (grid0.coords t) _ _ _ _ _ _ _ _ _ _ _ _ _ _ _ _ _ _ _ _ _ _ _ _ _ _ (iblk m c 0 t)
    (iblk m c 1 t) (iblk m c 2 t) (iblk m c 3 t) (iblk m c 4 t) (iblk m c 5 t) ((dats m 0 c).before 6 t d6)
    ((dats m 0 c).before 7 t d7) ((dats m 0 c).before 8 t d8) s (place t) _)
  unfold left
  rw [hidden_found, sum_found m c t s hs]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [HS]; · iexact HS
  iintro ⟨H0, H1, H2, H3, H4, H5, H6, H7, H8, H9, H10, H11, HS⟩
  isplitl [HS Hg]
  · isplitl [HS]
    · iexists _; isplitr; · ipureintro; exact fun _ => rfl
      iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (leaves6 m c t d6); iexact H6
  isplitl [H7]; · iapply (leaves7 m c t d7); iexact H7
  isplitl [H8]; · iapply (leaves8 m c t); iexact H8
  isplitl [H9]; · iexact H9
  isplitl [H10]; · iexact H10
  iexact H11

/-- The body table's row at a point is the body there. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- The launch's scoped rest is the running sum's buffer at anything. -/
theorem rest_eq (c : Dev nD) :
    (Pipeline.ΦA spec0 c : sProp 𝕄)
      = iprop((∃ d, owns (c : Thread nD τ) (Memref.whole cc0_scratch0) fullShare d) ∗ (∃ r, prngReg c r)) := by
  unfold Pipeline.ΦA; rw [scopedRest0_eq]; simp only [owns_whole]

theorem hin (c : Dev nD) : Pipeline.ΦA spec0 c ⊢ (dats m 0 c).Φ 0 := by
  rw [show (dats m 0 c).Φ 0 = Inv m c 0 from rfl, rest_eq]
  unfold Inv
  iintro ⟨⟨%d, H⟩, Hg⟩
  isplitl [H]
  · iexists d; isplitr; · ipureintro; exact fun h => absurd rfl h
    iexact H
  iexact Hg

theorem hout (c : Dev nD) : (dats m 0 c).Φ (Fin.last cfg0.N) ⊢ Pipeline.ΦA spec0 c := by
  rw [show (dats m 0 c).Φ (Fin.last cfg0.N) = Inv m c (Fin.last cfg0.N).val from rfl, rest_eq]
  unfold Inv
  iintro ⟨⟨%d, -, H⟩, Hg⟩
  isplitl [H]
  · iexists d; iexact H
  iexact Hg

set_option backward.isDefEq.respectTransparency.types false in
/-- The run to its end, with every semaphore back at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they were, and every semaphore at zero. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.Kernel7Ideal.Mixer

end
-- ==== Proof.MixerSpec.lean ====
/- THE CHANNEL MIXER, ENTRY BY ENTRY, in the extended reals: a token divided by its root mean square, two products of it, the
   first through `a / (1 + exp (-a))` times the second, and the product of that with the down weight added to the token. -/
module

public import proofs.«01_k».proof.Proof.Grids
public import Idealize.ShloMosaic.Lib.Pipeline.ValueKit

@[expose] public section

noncomputable section

namespace Cert.Mixer

open Idealize.ShloMosaic

/-- The reciprocal of a token's root mean square, the mean of the squares with a small number added. -/
def scale (x : ℕ → ℕ → EReal) (n : ℕ) : EReal :=
  Ideal.rsqrt (Ideal.div (∑ d : Fin 1024, x n d * x n d) (FloatOps.ofBits FTy.f32 0x44800000#32 : Ideal .f32)
    + (FloatOps.ofBits FTy.f32 0x358637BD#32 : Ideal .f32))

/-- The normalised token, times the norm's weight. -/
def normed (x g : ℕ → ℕ → EReal) (n d : ℕ) : EReal := x n d * scale x n * g 0 d

/-- A product of the normalised token. -/
def up (x g w : ℕ → ℕ → EReal) (n f : ℕ) : EReal := ∑ d : Fin 1024, normed x g n d * w d f

/-- The gated channel. -/
def mid (x g wg wu : ℕ → ℕ → EReal) (n f : ℕ) : EReal :=
  up x g wg n f * Ideal.div 1 (1 + Ideal.exp (-up x g wg n f)) * up x g wu n f

/-- The token after the channel mixer. -/
def out (x g wg wu wd : ℕ → ℕ → EReal) (n j : ℕ) : EReal := x n j + ∑ f : Fin 2816, mid x g wg wu n f * wd f j

/-- The part of the last product that half `h` of the channels gives. -/
def half (x g wg wu wd : ℕ → ℕ → EReal) (h n j : ℕ) : EReal :=
  ∑ f : Fin 1408, mid x g wg wu n (h * 1408 + f) * wd (h * 1408 + f) j

/-- The two halves make the whole. -/
theorem out_eq_halves (x g wg wu wd : ℕ → ℕ → EReal) (n j : ℕ) :
    x n j + half x g wg wu wd 0 n j + half x g wg wu wd 1 n j = out x g wg wu wd n j := by
  have h := Finset.sum_range_range_mul_add 2 1408 fun f => mid x g wg wu n f * wd f j
  simp only [Finset.sum_range, Fin.sum_univ_two] at h
  rw [add_assoc]
  exact congrArg _ h

end Cert.Mixer

end
-- ==== Proof.NormSpec.lean ====
/- THE GRADIENT OF THE ROOT-MEAN-SQUARE NORM, ENTRY BY ENTRY, in the extended reals: of a token `x n` that is divided by its root
   mean square and multiplied by the weight `g`, for the gradient `dh` of the result. -/
module

public import proofs.«01_k».proof.Proof.Grids
public import Idealize.ShloMosaic.Lib.Pipeline.ValueKit

@[expose] public section

noncomputable section

namespace Cert.Norm

open Idealize.ShloMosaic

/-- The mean of a token's squares, with a small number added. -/
def meansq (x : ℕ → ℕ → EReal) (n : ℕ) : EReal :=
  Ideal.div (∑ d : Fin 1024, x n d * x n d) (FloatOps.ofBits FTy.f32 0x44800000#32 : Ideal .f32)
    + (FloatOps.ofBits FTy.f32 0x358637BD#32 : Ideal .f32)

/-- The gradient of the mean, over the number of lanes: of each of the token's squares. -/
def dsquare (x g dh : ℕ → ℕ → EReal) (n : ℕ) : EReal :=
  Ideal.div ((∑ d : Fin 1024, x n d * (dh n d * g 0 d))
    * ((FloatOps.ofBits FTy.f32 0xBF000000#32 : Ideal .f32) * Ideal.div (Ideal.rsqrt (meansq x n)) (meansq x n)))
    (FloatOps.ofBits FTy.f32 0x44800000#32 : Ideal .f32)

/-- The gradient of the token: through the norm's numerator, and twice through its square. -/
def dtoken (x g dh : ℕ → ℕ → EReal) (n d : ℕ) : EReal :=
  dh n d * g 0 d * Ideal.rsqrt (meansq x n) + x n d * dsquare x g dh n + dsquare x g dh n * x n d

/-- The token's part of the weight's gradient. -/
def dweightAt (x dh : ℕ → ℕ → EReal) (n d : ℕ) : EReal := x n d * Ideal.rsqrt (meansq x n) * dh n d

/-- The weight's gradient. -/
def dweight (x dh : ℕ → ℕ → EReal) (d : ℕ) : EReal := ∑ n : Fin 8192, dweightAt x dh n d

/-- The gradient of a vector whose product with `w` has the gradient `dp`. -/
def dproj (dp w : ℕ → ℕ → EReal) (n d : ℕ) : EReal := ∑ k : Fin 7168, dp n k * w d k

/-- The part of it that block `j` of 1024 columns gives. -/
def dprojPart (dp w : ℕ → ℕ → EReal) (j n d : ℕ) : EReal := ∑ k : Fin 1024, dp n (j * 1024 + k) * w d (j * 1024 + k)

/-- The seven blocks make the whole. -/
theorem dproj_eq_blocks (dp w : ℕ → ℕ → EReal) (n d : ℕ) :
    ∑ j ∈ Finset.range 7, dprojPart dp w j n d = dproj dp w n d := by
  have h := Finset.sum_range_range_mul_add 7 1024 fun k => dp n k * w d k
  simp only [Finset.sum_range] at h ⊢
  exact h

/-- The eight blocks of 1024 tokens make the weight's gradient. -/
theorem dweight_eq_blocks (x dh : ℕ → ℕ → EReal) (d : ℕ) :
    ∑ i ∈ Finset.range 8, ∑ r : Fin 1024, dweightAt x dh (i * 1024 + r) d = dweight x dh d := by
  have h := Finset.sum_range_range_mul_add 8 1024 fun n => dweightAt x dh n d
  simp only [Finset.sum_range] at h ⊢
  exact h

end Cert.Norm

end
-- ==== Proof.MixerBackSpec.lean ====
/- THE CHANNEL MIXER'S GRADIENT, ENTRY BY ENTRY, in the extended reals: for the gradient `d` of the mixed tokens, the gradients of the
   two products of the normalised token, and of the normalised token. Through the norm it goes as `Cert.Norm` says. -/
module

public import proofs.«01_k».proof.Proof.MixerSpec
public import proofs.«01_k».proof.Proof.NormSpec

@[expose] public section

noncomputable section

namespace Cert.Mixer

open Idealize.ShloMosaic

/-- The sigmoid. -/
def sigma (a : EReal) : EReal := Ideal.div 1 (1 + Ideal.exp (-a))

/-- The derivative of `a * sigma a`. -/
def slope (a : EReal) : EReal := sigma a * (1 + a * (1 - sigma a))

theorem sigma_bounds (a : EReal) : 0 ≤ sigma a ∧ sigma a ≠ ⊤ := by
  rw [show sigma a = Ideal.logistic a from rfl]
  induction a with
  | bot => rw [Ideal.logistic_bot]; exact ⟨le_rfl, EReal.zero_ne_top⟩
  | top => rw [Ideal.logistic_top]; exact ⟨zero_le_one, EReal.coe_ne_top 1⟩
  | coe r =>
    rw [Ideal.logistic_coe]
    refine ⟨EReal.coe_nonneg.mpr ?_, EReal.coe_ne_top _⟩
    have := Real.exp_pos (-r)
    positivity

/-- The slope as the product rule makes it. -/
theorem slope_eq (a : EReal) : sigma a + a * (sigma a * (1 - sigma a)) = slope a := by
  rw [slope, EReal.left_distrib_of_nonneg_of_ne_top (sigma_bounds a).1 (sigma_bounds a).2, mul_one, mul_left_comm]

variable (d x g wg wu wd : ℕ → ℕ → EReal)

/-- The gradient of the gated channel. -/
def dmid (n f : ℕ) : EReal := ∑ j : Fin 1024, d n j * wd f j

/-- The gradient of the first product, the one that passes the gate. -/
def dgate (n f : ℕ) : EReal := dmid d wd n f * up x g wu n f * slope (up x g wg n f)

/-- The gradient of the second product. -/
def dup (n f : ℕ) : EReal := dmid d wd n f * (up x g wg n f * sigma (up x g wg n f))

/-- What a channel gives to the gradient of the normalised token. -/
def dhidAt (n j f : ℕ) : EReal := dgate d x g wg wu wd n f * wg j f + dup d x g wg wd n f * wu j f

/-- The gradient of the normalised token. -/
def dhid (n j : ℕ) : EReal := ∑ f : Fin 2816, dhidAt d x g wg wu wd n j f

/-- The part of it that half `h` of the channels gives. -/
def dhidHalf (h n j : ℕ) : EReal := ∑ f : Fin 1408, dhidAt d x g wg wu wd n j (h * 1408 + f)

/-- The two halves make the whole. -/
theorem dhid_eq_halves (n j : ℕ) :
    dhidHalf d x g wg wu wd 0 n j + dhidHalf d x g wg wu wd 1 n j = dhid d x g wg wu wd n j := by
  have h := Finset.sum_range_range_mul_add 2 1408 fun f => dhidAt d x g wg wu wd n j f
  simp only [Finset.sum_range, Fin.sum_univ_two] at h
  exact h

/-- The sixteen blocks of 512 tokens make the norm's weight's gradient. -/
theorem dweight_eq_row_blocks (dh : ℕ → ℕ → EReal) (j : ℕ) :
    ∑ i ∈ Finset.range 16, ∑ r : Fin 512, Norm.dweightAt x dh (i * 512 + r) j = Norm.dweight x dh j := by
  have h := Finset.sum_range_range_mul_add 16 512 fun n => Norm.dweightAt x dh n j
  simp only [Finset.sum_range] at h ⊢
  exact h

end Cert.Mixer

end
-- ==== Proof.MixerBackward.lean ====
/- THE CHANNEL MIXER'S BACKWARD CALL: what it leaves in its results. Points `2 i` and `2 i + 1` work on block `i` of 512 tokens and on
   one half of the channels each. The first keeps the normalised tokens for the second, and both add to the running sum of the
   gradient of the normalised tokens; the second goes through the norm. The gradient of the norm's weight accumulates over the
   blocks of tokens. -/
module

public import proofs.«01_k».proof.Proof.MixerBackRun
public import proofs.«01_k».proof.Proof.MixerBackSpec
public import Idealize.ShloMosaic.Lib.Pipeline.ValueKit

@[expose] public section

set_option maxRecDepth 16384

noncomputable section

namespace Cert.Kernel7Ideal.Mixer

open Idealize.ShloMosaic Idealize.ShloMosaic.TcCoe Cert.Kernel7Ideal Cert.Kernel7Ideal.Gen Cert.Grid Cert.Mixer Cert.Norm
open Idealize.SL.Sem

/-- The blocks that the windows are at. -/
theorem index0 : ∀ t : Fin cfg0.N,
    (cfg0.win 0).index t = ![t.val / 2, 0] ∧ (cfg0.win 1).index t = ![t.val / 2, 0] ∧ (cfg0.win 2).index t = ![0, 0]
    ∧ (cfg0.win 3).index t = ![0, t.val % 2] ∧ (cfg0.win 4).index t = ![0, t.val % 2] ∧ (cfg0.win 5).index t = ![t.val % 2, 0]
    ∧ (cfg0.win 6).index t = ![t.val / 2, 0] ∧ (cfg0.win 7).index t = ![0, 0] ∧ (cfg0.win 8).index t = ![t.val / 2, 0]
    ∧ (cfg0.win 9).index t = ![t.val / 2, t.val % 2] ∧ (cfg0.win 10).index t = ![t.val / 2, t.val % 2]
    ∧ (cfg0.win 11).index t = ![t.val / 2, t.val % 2] := by
  decide +kernel

theorem points (t : Fin cfg0.N) : t.val < 32 := lt_of_lt_of_eq t.isLt N_0

variable {d x g wg wu wd dh : ℕ → ℕ → EReal}

/-! ## The payloads over blocks -/

section
variable {X D S : Vec Ideal S512x1024 .f32} {G : Vec Ideal S1x1024 .f32} {n0 : ℕ}
  (hx : ∀ (r : Fin 512) (j : Fin 1024), X (ix2 r j) = x (n0 + r) j)

theorem zero_apply (r : Fin 512) (j : Fin 1024) : (k0_pay11 : FVec Ideal S512x1024 .f32) (ix2 r j) = 0 := by
  pointwise [k0_pay11]

theorem zero_row_apply (j : Fin 1024) : (k0_pay12 : FVec Ideal S1x1024 .f32) (ix2 0 j) = 0 := by
  pointwise [k0_pay12]

include hx

theorem normed_apply (hg : ∀ j : Fin 1024, G (ix2 0 j) = g 0 j) (r : Fin 512) (j : Fin 1024) :
    k0_pay10 X G (ix2 r j) = normed x g (n0 + r) j := by
  pointwise [k0_pay10]
  simp only [hx, hg]
  rfl

theorem meansq_apply (r : Fin 512) (z : Fin 1) : k0_pay6 X (ix2 r z) = meansq x (n0 + r) := by
  pointwise [k0_pay6]
  simp only [hx]
  rfl

variable (hs : ∀ (r : Fin 512) (j : Fin 1024), S (ix2 r j) = dh (n0 + r) j)
include hs

theorem dweight_apply (z : Fin 1) (j : Fin 1024) : k0_pay8 X S (ix2 z j) = ∑ r : Fin 512, dweightAt x dh (n0 + r) j := by
  pointwise [k0_pay8, k0_pay7]
  simp only [meansq_apply hx, hx, hs]
  rfl

theorem dtoken_apply (hg : ∀ j : Fin 1024, G (ix2 0 j) = g 0 j) (hd : ∀ (r : Fin 512) (j : Fin 1024), D (ix2 r j) = d (n0 + r) j)
    (r : Fin 512) (j : Fin 1024) : k0_pay9 X G S D (ix2 r j) = d (n0 + r) j + dtoken x g dh (n0 + r) j := by
  pointwise [k0_pay9, k0_pay7]
  simp only [meansq_apply hx, hx, hs, hg, hd, Fin.sum_univ_one]
  rfl

end

section
variable {H : Vec Ideal S512x1024 .bf16} {D : Vec Ideal S512x1024 .f32} {A B : Vec Ideal S1024x1408 .bf16}
  {W : Vec Ideal S1408x1024 .bf16} {n0 s : ℕ} (hh : ∀ (r : Fin 512) (j : Fin 1024), H (ix2 r j) = normed x g (n0 + r) j)
  (hd : ∀ (r : Fin 512) (j : Fin 1024), D (ix2 r j) = d (n0 + r) j)
  (ha : ∀ (j : Fin 1024) (f : Fin 1408), A (ix2 j f) = wg j (s * 1408 + f))
  (hb : ∀ (j : Fin 1024) (f : Fin 1408), B (ix2 j f) = wu j (s * 1408 + f))
  (hw : ∀ (f : Fin 1408) (j : Fin 1024), W (ix2 f j) = wd (s * 1408 + f) j)

include hd hw in
theorem dmid_apply (r : Fin 512) (f : Fin 1408) : k0_pay18 D W (ix2 r f) = dmid d wd (n0 + r) (s * 1408 + f) := by
  pointwise [k0_pay18]
  simp only [hd, hw]
  rfl

include hh ha in
theorem gate_apply (r : Fin 512) (f : Fin 1408) : k0_pay14 H A (ix2 r f) = up x g wg (n0 + r) (s * 1408 + f) := by
  pointwise [k0_pay14, k0_pay13]
  simp only [hh, ha]
  rfl

include hh hb in
theorem up_apply (r : Fin 512) (f : Fin 1408) : k0_pay15 H B (ix2 r f) = up x g wu (n0 + r) (s * 1408 + f) := by
  pointwise [k0_pay15, k0_pay13]
  simp only [hh, hb]
  rfl

include hh ha in
theorem sigma_apply (r : Fin 512) (f : Fin 1408) : k0_pay16 H A (ix2 r f) = sigma (up x g wg (n0 + r) (s * 1408 + f)) := by
  pointwise [k0_pay16]
  rw [gate_apply hh ha, zero_sub]
  rfl

include hh ha in
theorem silu_apply (r : Fin 512) (f : Fin 1408) : k0_pay17 H A (ix2 r f)
    = up x g wg (n0 + r) (s * 1408 + f) * sigma (up x g wg (n0 + r) (s * 1408 + f)) := by
  pointwise [k0_pay17]
  rw [gate_apply hh ha, sigma_apply hh ha]

include hh ha in
theorem slope_apply (r : Fin 512) (f : Fin 1408) : k0_pay20 H A (ix2 r f) = slope (up x g wg (n0 + r) (s * 1408 + f)) := by
  pointwise [k0_pay20]
  rw [gate_apply hh ha, sigma_apply hh ha]
  rfl

include hh ha hb in
theorem mid_apply (r : Fin 512) (f : Fin 1408) : k0_pay3 (k0_pay15 H B) (k0_pay17 H A) (ix2 r f)
    = mid x g wg wu (n0 + r) (s * 1408 + f) := by
  pointwise [k0_pay3]
  rw [silu_apply hh ha, up_apply hh hb]
  rfl

include hh hd ha hw

theorem dup_apply (r : Fin 512) (f : Fin 1408) : k0_pay2 (k0_pay17 H A) (k0_pay18 D W) (ix2 r f)
    = dup d x g wg wd (n0 + r) (s * 1408 + f) := by
  pointwise [k0_pay2]
  rw [silu_apply hh ha, dmid_apply hd hw]
  rfl

include hb

theorem dgate_apply (r : Fin 512) (f : Fin 1408) : k0_pay1 (k0_pay19 H B D W) (k0_pay20 H A) (ix2 r f)
    = dgate d x g wg wu wd (n0 + r) (s * 1408 + f) := by
  pointwise [k0_pay1, k0_pay19]
  rw [slope_apply hh ha, up_apply hh hb, dmid_apply hd hw]
  rfl

/-- What a point adds to the running sum. -/
theorem summed_apply (Z : Vec Ideal S512x1024 .f32) (r : Fin 512) (j : Fin 1024) :
    summed H D A B W Z (ix2 r j) = Z (ix2 r j) + dhidHalf d x g wg wu wd s (n0 + r) j := by
  have e1 := dgate_apply hh hd ha hb hw
  have e2 := dup_apply hh hd ha hw
  unfold summed
  pointwise [k0_pay4]
  simp only [e1, e2, ha, hb]
  exact congrArg _ Finset.sum_add_distrib.symm

end

variable (m : (ℓ : Loc nD τ sig) → Buf (Elt Ideal) ℓ) (c : Dev nD)

/-! ## The blocks -/

section
variable (hd : Holds2 (m ((c.tc : Thread nD τ).loc main_arg0)) d) (hx : Holds2 (m ((c.tc : Thread nD τ).loc main_arg1)) x)
  (hg : Holds2 (m ((c.tc : Thread nD τ).loc main_arg2)) g) (ha : Holds2 (m ((c.tc : Thread nD τ).loc main_arg3)) wg)
  (hb : Holds2 (m ((c.tc : Thread nD τ).loc main_arg4)) wu) (hw : Holds2 (m ((c.tc : Thread nD τ).loc main_arg5)) wd)

include hd in
theorem block_d (t : Fin cfg0.N) (r : Fin 512) (j : Fin 1024) : iblk m c 0 t (ix2 r j) = d (t.val / 2 * 512 + r) j := by
  unfold iblk
  refine (hd _).trans ?_
  blk_simp [index0 t]

include hx in
theorem block_x (t : Fin cfg0.N) (r : Fin 512) (j : Fin 1024) : iblk m c 1 t (ix2 r j) = x (t.val / 2 * 512 + r) j := by
  unfold iblk
  refine (hx _).trans ?_
  blk_simp [index0 t]

include hg in
theorem block_g (t : Fin cfg0.N) (j : Fin 1024) : iblk m c 2 t (ix2 0 j) = g 0 j := by
  unfold iblk
  refine (hg _).trans ?_
  blk_simp [index0 t]
  rfl

include ha in
theorem block_wg (t : Fin cfg0.N) (j : Fin 1024) (f : Fin 1408) : iblk m c 3 t (ix2 j f) = wg j (t.val % 2 * 1408 + f) := by
  unfold iblk
  refine (ha _).trans ?_
  blk_simp [index0 t]

include hb in
theorem block_wu (t : Fin cfg0.N) (j : Fin 1024) (f : Fin 1408) : iblk m c 4 t (ix2 j f) = wu j (t.val % 2 * 1408 + f) := by
  unfold iblk
  refine (hb _).trans ?_
  blk_simp [index0 t]

include hw in
theorem block_wd (t : Fin cfg0.N) (f : Fin 1408) (j : Fin 1024) : iblk m c 5 t (ix2 f j) = wd (t.val % 2 * 1408 + f) j := by
  unfold iblk
  refine (hw _).trans ?_
  blk_simp [index0 t]

/-! ## What is carried -/

include hx hg

/-- After each of its two points a block's normalised tokens are kept. -/
theorem hid_first (t : Fin cfg0.N) (h : t.val % 2 = 0) (r : Fin 512) (j : Fin 1024) :
    (sofar m c (t.val + 1)).hid (ix2 r j) = normed x g (t.val / 2 * 512 + r) j := by
  rw [sofar_succ, step, hidden, if_pos ((cond1_iff t).mpr h)]
  exact normed_apply (block_x m c hx t) (block_g m c hg t) r j

theorem hid_apply (t : Fin cfg0.N) (r : Fin 512) (j : Fin 1024) :
    (sofar m c (t.val + 1)).hid (ix2 r j) = normed x g (t.val / 2 * 512 + r) j := by
  by_cases h : t.val % 2 = 0
  · exact hid_first m c hx hg t h r j
  · have hf := hid_first m c hx hg ⟨t.val - 1, Nat.lt_of_le_of_lt (Nat.sub_le _ _) t.isLt⟩ (by dsimp only; omega) r j
    dsimp only at hf
    rw [hid_kept m c t (by omega), ← sofar_pred m c t (by omega), hf, show (t.val - 1) / 2 = t.val / 2 by omega]

include hd ha hb hw

/-- What a point makes of the running sum. -/
theorem sum_step (t : Fin cfg0.N) (r : Fin 512) (j : Fin 1024) : (sofar m c (t.val + 1)).sum (ix2 r j)
    = sumBase (grid0.coords t) (sofar m c t.val).sum (ix2 r j) + dhidHalf d x g wg wu wd (t.val % 2) (t.val / 2 * 512 + r) j := by
  have hk := hid_apply m c hx hg t
  rw [sofar_succ, step] at hk ⊢
  exact summed_apply hk (block_d m c hd t) (block_wg m c ha t) (block_wu m c hb t) (block_wd m c hw t) _ r j

/-- After a block's second point the running sum is the gradient of its normalised tokens. -/
theorem sum_last (t : Fin cfg0.N) (h : t.val % 2 = 1) (r : Fin 512) (j : Fin 1024) :
    (sofar m c (t.val + 1)).sum (ix2 r j) = dhid d x g wg wu wd (t.val / 2 * 512 + r) j := by
  have hf := sum_step m c hd hx hg ha hb hw ⟨t.val - 1, Nat.lt_of_le_of_lt (Nat.sub_le _ _) t.isLt⟩ r j
  rw [sumBase, if_pos ((cond1_iff _).mpr (by dsimp only; omega)), zero_apply, zero_add] at hf
  dsimp only at hf
  rw [show (t.val - 1) / 2 = t.val / 2 by omega, show (t.val - 1) % 2 = 0 by omega, sofar_pred m c t (by omega)] at hf
  rw [sum_step m c hd hx hg ha hb hw t, sumBase, if_neg fun q => by have := (cond1_iff t).mp q; omega, hf, h]
  exact dhid_eq_halves _ _ _ _ _ _ _ _

/-- After point `n` the weight's gradient has the parts of the blocks of tokens that are done. -/
theorem wgt_upto : ∀ (n : ℕ) (hn : n < cfg0.N) (j : Fin 1024), (sofar m c (n + 1)).wgt (ix2 0 j)
    = ∑ i ∈ Finset.range ((n + 1) / 2), ∑ r : Fin 512, dweightAt x (dhid d x g wg wu wd) (i * 512 + r) j
  | 0, hn, j => by
    rw [sofar_succ m c ⟨0, hn⟩, step, weight, if_neg fun q => by have := (cond3_iff ⟨0, hn⟩).mp q; dsimp only at this; omega, weightBase,
      if_pos ((cond2_iff ⟨0, hn⟩).mpr rfl)]
    exact zero_row_apply j
  | n + 1, hn, j => by
    have IH := wgt_upto n (Nat.lt_of_succ_lt hn) j
    by_cases h : (n + 1) % 2 = 0
    · rw [wgt_kept m c ⟨n + 1, hn⟩ h (Nat.succ_ne_zero n), IH, show (n + 1 + 1) / 2 = (n + 1) / 2 by omega]
    · have hk := sum_last m c hd hx hg ha hb hw ⟨n + 1, hn⟩ (by dsimp only; omega)
      rw [show (n + 1 + 1) / 2 = (n + 1) / 2 + 1 by omega, Finset.sum_range_succ, ← IH]
      rw [sofar_succ m c ⟨n + 1, hn⟩, step] at hk ⊢
      dsimp only at hk ⊢
      rw [weight, if_pos ((cond3_iff ⟨n + 1, hn⟩).mpr (by dsimp only; omega)), weightBase,
        if_neg fun q => by have := (cond2_iff ⟨n + 1, hn⟩).mp q; dsimp only at this; omega]
      pointwise [k0_pay5]
      exact congrArg ((sofar m c (n + 1)).wgt (ix2 0 j) + ·) (dweight_apply (block_x m c hx ⟨n + 1, hn⟩) hk 0 j)

/-- After the last point it has them all. -/
theorem wgt_last (t : Fin cfg0.N) (h : t.val = 31) (j : Fin 1024) :
    (sofar m c (t.val + 1)).wgt (ix2 0 j) = dweight x (dhid d x g wg wu wd) j := by
  rw [wgt_upto m c hd hx hg ha hb hw t.val t.isLt j, show (t.val + 1) / 2 = 16 by omega]
  exact dweight_eq_row_blocks _ _ _

/-! ## The results -/

/-- The gradient of the tokens. -/
theorem dtoken_array : (dats m 0 c).arrAt 6 cfg0.N
    = fun i => d (i 0).val (i 1).val + dtoken x g (dhid d x g wg wu wd) (i 0).val (i 1).val := by
  refine (dats m 0 c).arrAt_eq_of_covers 6 _ (by decide +kernel) fun t hf y => ?_
  have h := (flush0_6 t).mp hf
  blk_simp [index0 t]
  rw [after0_6]
  exact (congrArg _ (eq_ix2 y)).trans (dtoken_apply (block_x m c hx t) (sum_last m c hd hx hg ha hb hw t h) (block_g m c hg t)
    (block_d m c hd t) _ _)

/-- The gradient of the norm's weight. -/
theorem dweight_array : (dats m 0 c).arrAt 7 cfg0.N = fun i => dweight x (dhid d x g wg wu wd) (i 1).val := by
  refine (dats m 0 c).arrAt_eq_of_covers 7 _ (by decide +kernel) fun t hf y => ?_
  have h := (flush0_7 t).mp hf
  have hp := points t
  have hl := wgt_last m c hd hx hg ha hb hw t (by omega)
  blk_simp [index0 t]
  rw [after0_7]
  generalize (sofar m c (t.val + 1)).wgt = w at hl ⊢
  obtain ⟨j, rfl⟩ : ∃ j : Fin 1024, y = ix2 0 j :=
    ⟨y 1, (eq_ix2 y).trans (congrArg (fun a : Fin 1 => ix2 a (y 1)) (Subsingleton.elim (α := Fin 1) _ _))⟩
  exact hl j

omit hd ha hb hw in
/-- The normalised tokens. -/
theorem normed_array : (dats m 0 c).arrAt 8 cfg0.N = fun i => normed x g (i 0).val (i 1).val := by
  refine (dats m 0 c).arrAt_eq_of_covers 8 _ (by decide +kernel) fun t _ y => ?_
  blk_simp [index0 t]
  rw [after0_8]
  exact (congrArg _ (eq_ix2 y)).trans (hid_apply m c hx hg t _ _)

/-- The gradient of the first product. -/
theorem dgate_array : (dats m 0 c).arrAt 9 cfg0.N = fun i => dgate d x g wg wu wd (i 0).val (i 1).val := by
  refine (dats m 0 c).arrAt_eq_of_covers 9 _ (by decide +kernel) fun t _ y => ?_
  blk_simp [index0 t]
  rw [after0_9]
  exact (congrArg _ (eq_ix2 y)).trans (dgate_apply (hid_apply m c hx hg t) (block_d m c hd t) (block_wg m c ha t)
    (block_wu m c hb t) (block_wd m c hw t) _ _)

omit hb in
/-- The gradient of the second product. -/
theorem dup_array : (dats m 0 c).arrAt 10 cfg0.N = fun i => dup d x g wg wd (i 0).val (i 1).val := by
  refine (dats m 0 c).arrAt_eq_of_covers 10 _ (by decide +kernel) fun t _ y => ?_
  blk_simp [index0 t]
  rw [after0_10]
  exact (congrArg _ (eq_ix2 y)).trans (dup_apply (hid_apply m c hx hg t) (block_d m c hd t) (block_wg m c ha t)
    (block_wd m c hw t) _ _)

omit hd hw in
/-- The gated channels. -/
theorem mid_array : (dats m 0 c).arrAt 11 cfg0.N = fun i => mid x g wg wu (i 0).val (i 1).val := by
  refine (dats m 0 c).arrAt_eq_of_covers 11 _ (by decide +kernel) fun t _ y => ?_
  blk_simp [index0 t]
  rw [after0_11]
  exact (congrArg _ (eq_ix2 y)).trans (mid_apply (hid_apply m c hx hg t) (block_wg m c ha t) (block_wu m c hb t) _ _)

end

/-- The run leaves these arrays in the results, and the arguments as they were. -/
theorem results (ρ : Dev nD → PrngReg) : θ_run defs (onTc (τ := τ) (main (F := Ideal))) ⟨m, fun _ => 0, ρ⟩ fun r => ∀ c : Dev nD,
    r.2.mem ((c.tc : Thread nD τ).loc main_v0_0) = (dats m 0 c).arrAt 6 cfg0.N
    ∧ r.2.mem ((c.tc : Thread nD τ).loc main_v0_1) = (dats m 0 c).arrAt 7 cfg0.N
    ∧ r.2.mem ((c.tc : Thread nD τ).loc main_v0_2) = (dats m 0 c).arrAt 8 cfg0.N
    ∧ r.2.mem ((c.tc : Thread nD τ).loc main_v0_3) = (dats m 0 c).arrAt 9 cfg0.N
    ∧ r.2.mem ((c.tc : Thread nD τ).loc main_v0_4) = (dats m 0 c).arrAt 10 cfg0.N
    ∧ r.2.mem ((c.tc : Thread nD τ).loc main_v0_5) = (dats m 0 c).arrAt 11 cfg0.N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  (θ_run defs _ _).mono (fun _ h c => ⟨(h.1 c).1 6, (h.1 c).1 7, (h.1 c).1 8, (h.1 c).1 9, (h.1 c).1 10, (h.1 c).1 11, h.2.1 c⟩)
    (θ_run_and (run_main m ρ) (unchanged m ρ))

end Cert.Kernel7Ideal.Mixer

end
-- ==== Proof.MixerBackReference.lean ====
/- THE REFERENCE OF THE CHANNEL MIXER'S GRADIENT, entry by entry. -/
module

public import proofs.«01_k».proof.Proof.Gen.Reference7Ideal.Read
public import proofs.«01_k».proof.Proof.MixerBackSpec
public import Idealize.ShloMosaic.Lib.Pointwise
public import Idealize.ShloMosaic.Lib.Pipeline.ValueKit

@[expose] public section

set_option maxRecDepth 16384

noncomputable section

namespace Cert.Reference7Ideal.Mixer

open Idealize.ShloMosaic Idealize.ShloMosaic.TcCoe Cert.Reference7Ideal Cert.Reference7Ideal.Gen Cert.Reference7Ideal.Read Cert.Grid
open Cert.Mixer Cert.Norm Idealize.SL.Sem

variable {x0 x1 : (⟨S8192x1024, .f32⟩ : BufTy).Contents (Elt Ideal)} {x2 : (⟨S1x1024, .f32⟩ : BufTy).Contents (Elt Ideal)}
  {x3 x4 : (⟨S1024x2816, .bf16⟩ : BufTy).Contents (Elt Ideal)} {x5 : (⟨S2816x1024, .bf16⟩ : BufTy).Contents (Elt Ideal)}
  {d x g wg wu wd : ℕ → ℕ → EReal}

theorem meansq_apply (h1 : Holds2 x1 x) (n : Fin 8192) (z : Fin 1) : val_main_v6 x1 (ix2 n z) = meansq x n := by
  pointwise [val_main_v6, val_main_v5, val_main_v4, val_main_v3, val_main_v2, val_main_v1, val_main_v0, val_main_cst, val_main_cst_0,
    val_main_cst_1]
  simp only [h1 _]
  rfl

theorem normed_apply (h1 : Holds2 x1 x) (h2 : Holds2 x2 g) (n : Fin 8192) (j : Fin 1024) :
    val_main_v14 x1 x2 (ix2 n j) = normed x g n j := by
  pointwise [val_main_v14, val_main_v13, val_main_v12, val_main_v11, val_main_v7]
  simp only [meansq_apply h1, h1 _, h2 _]
  rfl

theorem gate_apply (h1 : Holds2 x1 x) (h2 : Holds2 x2 g) (h3 : Holds2 x3 wg) (n : Fin 8192) (f : Fin 2816) :
    val_main_v16 x1 x2 x3 (ix2 n f) = up x g wg n f := by
  pointwise [val_main_v16, val_main_v15]
  simp only [normed_apply h1 h2, h3 _]
  rfl

theorem up_apply (h1 : Holds2 x1 x) (h2 : Holds2 x2 g) (h4 : Holds2 x4 wu) (n : Fin 8192) (f : Fin 2816) :
    val_main_v18 x1 x2 x4 (ix2 n f) = up x g wu n f := by
  pointwise [val_main_v18, val_main_v17]
  simp only [normed_apply h1 h2, h4 _]
  rfl

theorem sigma_apply (h1 : Holds2 x1 x) (h2 : Holds2 x2 g) (h3 : Holds2 x3 wg) (n : Fin 8192) (f : Fin 2816) :
    val_main_v19_2 x1 x2 x3 (ix2 n f) = sigma (up x g wg n f) := by
  pointwise [val_main_v19_2, val_main_call0_v4, val_main_call0_v3, val_main_call0_v2, val_main_call0_v1, val_main_call0_v0,
    val_main_call0_cst, val_main_call0_cst_0]
  rw [gate_apply h1 h2 h3]
  rfl

theorem silu_apply (h1 : Holds2 x1 x) (h2 : Holds2 x2 g) (h3 : Holds2 x3 wg) (n : Fin 8192) (f : Fin 2816) :
    val_main_v19_0 x1 x2 x3 (ix2 n f) = up x g wg n f * sigma (up x g wg n f) := by
  pointwise [val_main_v19_0]
  rw [gate_apply h1 h2 h3, sigma_apply h1 h2 h3]

theorem slope_apply (h1 : Holds2 x1 x) (h2 : Holds2 x2 g) (h3 : Holds2 x3 wg) (n : Fin 8192) (f : Fin 2816) :
    val_main_v27 x1 x2 x3 (ix2 n f) = slope (up x g wg n f) := by
  pointwise [val_main_v27, val_main_call1_v2, val_main_call1_v1, val_main_call1_v0, val_main_v26, val_main_cst_3, val_main_v19_1,
    val_main_call0_v7, val_main_call0_v6, val_main_call0_cst_1]
  rw [gate_apply h1 h2 h3, sigma_apply h1 h2 h3]
  exact slope_eq _

theorem mid_apply (h1 : Holds2 x1 x) (h2 : Holds2 x2 g) (h3 : Holds2 x3 wg) (h4 : Holds2 x4 wu) (n : Fin 8192) (f : Fin 2816) :
    val_main_v20 x1 x2 x3 x4 (ix2 n f) = mid x g wg wu n f := by
  pointwise [val_main_v20]
  rw [silu_apply h1 h2 h3, up_apply h1 h2 h4]
  rfl

theorem dmid_apply (h0 : Holds2 x0 d) (h5 : Holds2 x5 wd) (n : Fin 8192) (f : Fin 2816) :
    val_main_v23 x0 x5 (ix2 n f) = dmid d wd n f := by
  pointwise [val_main_v23, val_main_v21]
  simp only [h0 _, h5 _]
  rfl

theorem dup_apply (h0 : Holds2 x0 d) (h1 : Holds2 x1 x) (h2 : Holds2 x2 g) (h3 : Holds2 x3 wg) (h5 : Holds2 x5 wd) (n : Fin 8192)
    (f : Fin 2816) : val_main_v24 x0 x1 x2 x3 x5 (ix2 n f) = dup d x g wg wd n f := by
  pointwise [val_main_v24]
  rw [silu_apply h1 h2 h3, dmid_apply h0 h5]
  exact mul_comm _ _

section
variable (h0 : Holds2 x0 d) (h1 : Holds2 x1 x) (h2 : Holds2 x2 g) (h3 : Holds2 x3 wg) (h4 : Holds2 x4 wu) (h5 : Holds2 x5 wd)
include h0 h1 h2 h3 h4 h5

theorem dgate_apply (n : Fin 8192) (f : Fin 2816) : val_main_v28 x0 x1 x2 x3 x4 x5 (ix2 n f) = dgate d x g wg wu wd n f := by
  pointwise [val_main_v28, val_main_v25]
  rw [dmid_apply h0 h5, up_apply h1 h2 h4, slope_apply h1 h2 h3]
  rfl

theorem dhid_apply (n : Fin 8192) (j : Fin 1024) :
    val_main_v31 x0 x1 x2 x3 x4 x5 (ix2 n j) = dhid d x g wg wu wd n j := by
  pointwise [val_main_v31, val_main_v30, val_main_v29, val_main_v17, val_main_v15]
  simp only [dgate_apply h0 h1 h2 h3 h4 h5, dup_apply h0 h1 h2 h3 h5, h3 _, h4 _]
  exact (add_comm _ _).trans Finset.sum_add_distrib.symm

theorem dweight_apply (z : Fin 1) (j : Fin 1024) :
    val_main_v34 x0 x1 x2 x3 x4 x5 (ix2 z j) = dweight x (dhid d x g wg wu wd) j := by
  pointwise [val_main_v34, val_main_v33, val_main_v32, val_main_v12, val_main_v11, val_main_v7, val_main_cst_4]
  simp only [dhid_apply h0 h1 h2 h3 h4 h5, meansq_apply h1, h1 _]
  rfl

theorem dsquare_apply (n : Fin 8192) (j : Fin 1024) :
    val_main_v46 x0 x1 x2 x3 x4 x5 (ix2 n j) = dsquare x g (dhid d x g wg wu wd) n := by
  pointwise [val_main_v46, val_main_v45, val_main_v44, val_main_v43, val_main_v42, val_main_v39, val_main_v38, val_main_v37, val_main_v36,
    val_main_v35, val_main_v10, val_main_v9, val_main_v8, val_main_v7, val_main_cst_2, val_main_cst_5, val_main_cst_6, val_main_cst_7]
  simp only [dhid_apply h0 h1 h2 h3 h4 h5, meansq_apply h1, h1 _, h2 _, Fin.sum_univ_one]
  rfl

theorem dtoken_apply (n : Fin 8192) (j : Fin 1024) :
    val_main_v51 x0 x1 x2 x3 x4 x5 (ix2 n j) = d n j + dtoken x g (dhid d x g wg wu wd) n j := by
  pointwise [val_main_v51, val_main_v50, val_main_v49, val_main_v48, val_main_v47, val_main_v41, val_main_v40, val_main_v36, val_main_v35,
    val_main_v7]
  simp only [dhid_apply h0 h1 h2 h3 h4 h5, meansq_apply h1, dsquare_apply h0 h1 h2 h3 h4 h5, h0 _, h1 _, h2 _]
  rfl

theorem dtoken_value : val_main_v51 x0 x1 x2 x3 x4 x5
    = fun i => d (i 0).val (i 1).val + dtoken x g (dhid d x g wg wu wd) (i 0).val (i 1).val :=
  funext fun i => (congrArg _ (eq_ix2 i)).trans (dtoken_apply h0 h1 h2 h3 h4 h5 _ _)

theorem dweight_value : val_main_v34 x0 x1 x2 x3 x4 x5 = fun i => dweight x (dhid d x g wg wu wd) (i 1).val :=
  funext fun i => (congrArg _ (eq_ix2 i)).trans (dweight_apply h0 h1 h2 h3 h4 h5 _ _)

theorem dgate_value : val_main_v53 x0 x1 x2 x3 x4 x5 = fun i => dgate d x g wg wu wd (i 0).val (i 1).val :=
  funext fun i => (congrArg _ (eq_ix2 i)).trans (dgate_apply h0 h1 h2 h3 h4 h5 _ _)

end

theorem normed_value (h1 : Holds2 x1 x) (h2 : Holds2 x2 g) : val_main_v52 x1 x2 = fun i => normed x g (i 0).val (i 1).val :=
  funext fun i => (congrArg _ (eq_ix2 i)).trans (normed_apply h1 h2 _ _)

theorem dup_value (h0 : Holds2 x0 d) (h1 : Holds2 x1 x) (h2 : Holds2 x2 g) (h3 : Holds2 x3 wg) (h5 : Holds2 x5 wd) :
    val_main_v54 x0 x1 x2 x3 x5 = fun i => dup d x g wg wd (i 0).val (i 1).val :=
  funext fun i => (congrArg _ (eq_ix2 i)).trans (dup_apply h0 h1 h2 h3 h5 _ _)

theorem mid_value (h1 : Holds2 x1 x) (h2 : Holds2 x2 g) (h3 : Holds2 x3 wg) (h4 : Holds2 x4 wu) :
    val_main_v55 x1 x2 x3 x4 = fun i => mid x g wg wu (i 0).val (i 1).val :=
  funext fun i => (congrArg _ (eq_ix2 i)).trans (mid_apply h1 h2 h3 h4 _ _)

end Cert.Reference7Ideal.Mixer

end
-- ==== Proof.MixerBackClaims.lean ====
/- THE CLAIMS OF THE CHANNEL MIXER'S GRADIENT: the frames, and that all six results are the reference's. -/
module

public import proofs.«01_k».proof.Defs
public import proofs.«01_k».proof.Proof.Gen.Kernel7
public import proofs.«01_k».proof.Proof.Gen.Reference7Ideal.Run
public import proofs.«01_k».proof.Proof.MixerBackward
public import proofs.«01_k».proof.Proof.MixerBackReference

@[expose] public section

set_option maxRecDepth 16384

noncomputable section

namespace Cert.Proof

open Idealize.ShloMosaic Idealize.SL.Sem Cert.Grid

/-- The reference of the channel mixer's gradient runs, with its arguments unchanged and no counter. -/
theorem reference_frame7 : Cert.quiescent_Reference7Ideal := fun m g _ =>
  (θ_run (Cert.Reference7Ideal.defs (F := Ideal)) _ _).mono
    (fun r h => ⟨fun c => (h c).2.2.2.2.2.2, sem_eq_zero_of_no_sems (by decide) r.2⟩) (Cert.Reference7Ideal.Value.run m g)

/-- Over the extended reals the call runs, with its arguments unchanged and its counters back at zero. -/
theorem kernel_frame7_ideal : Cert.quiescent_Kernel7Ideal := fun m g _ => Cert.Kernel7Ideal.Mixer.unchanged m g

/-- The body tables of the two programs are one: at each label they run the same text. -/
theorem bodies7 : Cert.Kernel7.defs₀ (F := Bits) = Cert.Kernel7Ideal.defs₀ := by
  unfold Cert.Kernel7.defs₀ Cert.Kernel7Ideal.defs₀
  refine congrArg Defs.onTc (funext fun l => ?_)
  match l with
  | 0 => exact funext fun ⟨t, s⟩ => rfl

/-- So are the tables with the pipeline's own labels. -/
theorem table7 : Cert.Kernel7.defs (F := Bits) = Cert.Kernel7Ideal.defs := congrArg (Pipeline.defs Cert.Kernel7.pcfgs) bodies7

/-- The call runs so over the machine's numbers too. -/
theorem kernel_frame7 : Cert.quiescent_Kernel7 := fun m g _ => by
  rw [table7]
  exact (θ_run Cert.Kernel7Ideal.defs _ _).mono (fun _ h => h) (Cert.Kernel7Ideal.Mixer.unchanged (F := Bits) m g)

/-- The channel mixer's gradients are the reference's. -/
theorem algebraic7 : Cert.algebraic_Kernel7Ideal_Reference7Ideal := by
  intro m g m' g' _ hargs
  refine ⟨_, _, _, _, _, _, Cert.Kernel7Ideal.Mixer.results m g, ?_⟩
  refine (θ_run (Cert.Reference7Ideal.defs (F := Ideal)) _ _).mono (fun r h c => ?_) (Cert.Reference7Ideal.Value.run m' g')
  obtain ⟨a0, a1, a2, a3, a4, a5⟩ := hargs c
  have h0 := holds2 (m ((c.tc : Thread Cert.Kernel7Ideal.nD Cert.Kernel7Ideal.τ).loc Cert.Kernel7Ideal.main_arg0))
  have h1 := holds2 (m ((c.tc : Thread Cert.Kernel7Ideal.nD Cert.Kernel7Ideal.τ).loc Cert.Kernel7Ideal.main_arg1))
  have h2 := holds2 (m ((c.tc : Thread Cert.Kernel7Ideal.nD Cert.Kernel7Ideal.τ).loc Cert.Kernel7Ideal.main_arg2))
  have h3 := holds2 (m ((c.tc : Thread Cert.Kernel7Ideal.nD Cert.Kernel7Ideal.τ).loc Cert.Kernel7Ideal.main_arg3))
  have h4 := holds2 (m ((c.tc : Thread Cert.Kernel7Ideal.nD Cert.Kernel7Ideal.τ).loc Cert.Kernel7Ideal.main_arg4))
  have h5 := holds2 (m ((c.tc : Thread Cert.Kernel7Ideal.nD Cert.Kernel7Ideal.τ).loc Cert.Kernel7Ideal.main_arg5))
  obtain ⟨r0, r1, r2, r3, r4, r5, kept⟩ := h c
  refine ⟨r0.trans ?_, r1.trans ?_, r2.trans ?_, r3.trans ?_, r4.trans ?_, r5.trans ?_, kept⟩
  · rw [Cert.Reference7Ideal.Read.val_main_v51_eq, a0, a1, a2, a3, a4, a5]
    exact (Cert.Reference7Ideal.Mixer.dtoken_value h0 h1 h2 h3 h4 h5).trans
      (Cert.Kernel7Ideal.Mixer.dtoken_array m c h0 h1 h2 h3 h4 h5).symm
  · rw [Cert.Reference7Ideal.Read.val_main_v34_eq, a0, a1, a2, a3, a4, a5]
    exact (Cert.Reference7Ideal.Mixer.dweight_value h0 h1 h2 h3 h4 h5).trans
      (Cert.Kernel7Ideal.Mixer.dweight_array m c h0 h1 h2 h3 h4 h5).symm
  · rw [Cert.Reference7Ideal.Read.val_main_v52_eq, a1, a2]
    exact (Cert.Reference7Ideal.Mixer.normed_value h1 h2).trans (Cert.Kernel7Ideal.Mixer.normed_array m c h1 h2).symm
  · rw [Cert.Reference7Ideal.Read.val_main_v53_eq, a0, a1, a2, a3, a4, a5]
    exact (Cert.Reference7Ideal.Mixer.dgate_value h0 h1 h2 h3 h4 h5).trans
      (Cert.Kernel7Ideal.Mixer.dgate_array m c h0 h1 h2 h3 h4 h5).symm
  · rw [Cert.Reference7Ideal.Read.val_main_v54_eq, a0, a1, a2, a3, a5]
    exact (Cert.Reference7Ideal.Mixer.dup_value h0 h1 h2 h3 h5).trans (Cert.Kernel7Ideal.Mixer.dup_array m c h0 h1 h2 h3 h5).symm
  · rw [Cert.Reference7Ideal.Read.val_main_v55_eq, a1, a2, a3, a4]
    exact (Cert.Reference7Ideal.Mixer.mid_value h1 h2 h3 h4).trans (Cert.Kernel7Ideal.Mixer.mid_array m c h1 h2 h3 h4).symm

end Cert.Proof

end
-- ==== Proof.ProjRun.lean ====
/-
  The input projection: its body on whole buffers, what is carried from one grid point to the next, and that the pipeline,
  so carried, runs to its end and leaves the arguments as they were. The normalised tokens are written at the first of a row
  block's seven points, and stay in their output block for the other six.
-/
module

public import proofs.«01_k».proof.Proof.Gen.Kernel8Ideal.Frame
public import proofs.«01_k».proof.Proof.Gen.Kernel8Ideal.Skeleton
public import Idealize.ShloMosaic.Lib.Pipeline.ReadBack
public import Idealize.ShloMosaic.Lib.Pipeline.TableIdle
public import Idealize.ShloMosaic.Lib.Claim
public import Idealize.ShloMosaic.Lib.VecWindow
public import Idealize.ShloMosaic.Lib.Pipeline.ValueKit.Acc

@[expose] public section

set_option maxRecDepth 16384

noncomputable section

namespace Cert.Kernel8Ideal.Proj

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body on whole buffers -/

/-- The normalised tokens: computed at a row block's first point, kept at the others. -/
def hidden (i : grid0.Coords) (x : Vec F S1024x1024 .f32) (g : Vec F S1x1024 .f32) (old : Vec F S1024x1024 .bf16) :
    Vec F S1024x1024 .bf16 :=
  if k0_cond1 i = 1#1 then k0_pay1 x g else old

section
variable (c : Dev nD) (E : Set ℕ) (i : grid0.Coords)
  (a0 : Memref sig .tc .vmem S1024x1024 .f32) (w0 : a0.IsWhole) (a1 : Memref sig .tc .vmem S1x1024 .f32) (w1 : a1.IsWhole)
  (a2 : Memref sig .tc .vmem S1024x1024 .bf16) (w2 : a2.IsWhole) (a3 : Memref sig .tc .vmem S1024x1024 .f32) (w3 : a3.IsWhole)
  (a4 : Memref sig .tc .vmem S1024x1024 .bf16) (w4 : a4.IsWhole)
  (x : Vec F S1024x1024 .f32) (g : Vec F S1x1024 .f32) (w : Vec F S1024x1024 .bf16) (old : Vec F S1024x1024 .bf16)

/-- What the body leaves: the inputs as they were, the product, and the normalised tokens. -/
def left : sProp 𝕄 :=
  iprop(owns (c : Thread nD τ) a0 fullShare x ∗ owns (c : Thread nD τ) a1 fullShare g ∗ owns (c : Thread nD τ) a2 fullShare w
    ∗ owns (c : Thread nD τ) a3 fullShare (k0_pay2 (hidden i x g old) w) ∗ owns (c : Thread nD τ) a4 fullShare (hidden i x g old))

set_option maxHeartbeats 1000000 in
/-- The body runs, at a first point and at any other. -/
theorem body_run (K : PUnit → sProp 𝕄) :
    iprop(owns (c : Thread nD τ) a0 fullShare x ∗ owns (c : Thread nD τ) a1 fullShare g ∗ owns (c : Thread nD τ) a2 fullShare w
        ∗ (∃ y, owns (c : Thread nD τ) a3 fullShare y) ∗ owns (c : Thread nD τ) a4 fullShare old
        ∗ (left c i a0 a1 a2 a3 a4 x g w old -∗ K ⟨⟩))
      ⊢ wp frame (wpE (defs₀ (F := F)) Variants.none c none) E (cc0_l1_inproj i a0 w0 a1 w1 a2 w2 a3 w3 a4 w4) K := by
  unfold left
  simp only [cc0_l1_inproj_eq_skeleton]; unfold cc0_l1_inproj_skel
  unfold owns
  iintro ⟨⟨%f0, %h0, H0⟩, ⟨%f1, %h1, H1⟩, ⟨%f2, %h2, H2⟩, ⟨%y3, %f3, -, H3⟩, ⟨%f4, %h4, H4⟩, Hk⟩
  obtain rfl := w0.eq_unread h0; obtain rfl := w1.eq_unread h1; obtain rfl := w2.eq_unread h2; obtain rfl := w4.eq_unread h4
  by_cases q : k0_cond1 i = 1#1
  all_goals
    simp only [hidden, q, if_true, if_false]
    sl_exec (disch := sl_exact q)
    sl_step
    iapply Hk
    isplitl [H0]
    · iexists _; isplitr; · ipureintro; exact w0.read_unread _
      iexact H0
    isplitl [H1]
    · iexists _; isplitr; · ipureintro; exact w1.read_unread _
      iexact H1
    isplitl [H2]
    · iexists _; isplitr; · ipureintro; exact w2.read_unread _
      iexact H2
    isplitl [H3]
    · iexists _; isplitr
      swap; · iexact H3
      ipureintro
      refine (View.read_writes_full _ _ _ _ _).trans ?_; frame_out; done
    iexists _; isplitr
    swap; · iexact H4
    ipureintro
    first
    | with_reducible exact w4.read_unread _
    | refine (View.read_writes_full _ _ _ _ _).trans ?_; frame_out; done
end

variable (m : (ℓ : Loc nD τ sig) → Buf (Elt F) ℓ) (ρ : Dev nD → PrngReg)

/-! ## What is carried from point to point -/

/-- The normalised tokens before point `n`. Before the first point nothing is read of them. -/
def kept (c : Dev nD) : ℕ → Vec F S1024x1024 .bf16
  | 0 => k0_pay1 (constant S1024x1024 .f32 0x00000000#32) (constant S1x1024 .f32 0x00000000#32)
  | n + 1 => if h : n < cfg0.N then hidden (grid0.coords ⟨n, h⟩) (iblk m c 0 ⟨n, h⟩) (iblk m c 1 ⟨n, h⟩) (kept c n) else kept c n

theorem kept_succ (c : Dev nD) (t : Fin cfg0.N) :
    kept m c (t.val + 1) = hidden (grid0.coords t) (iblk m c 0 t) (iblk m c 1 t) (kept m c t.val) := by
  rw [kept, dif_pos t.isLt]

/-- What is carried before a point that is not the first is what the point before left. -/
theorem kept_pred (c : Dev nD) (t : Fin cfg0.N) (h : t.val ≠ 0) : kept m c (t.val - 1 + 1) = kept m c t.val := by
  rw [Nat.sub_add_cancel (Nat.pos_of_ne_zero h)]

/-! ## The kernel's condition on the grid -/

theorem cond1_iff : ∀ t : Fin cfg0.N, k0_cond1 (grid0.coords t) = 1#1 ↔ t.val % 7 = 0 := by decide +kernel

/-- At a row block's points but the first the normalised tokens stay. -/
theorem kept_still (c : Dev nD) (t : Fin cfg0.N) (h : t.val % 7 ≠ 0) : kept m c (t.val + 1) = kept m c t.val := by
  rw [kept_succ, hidden, if_neg fun q => h ((cond1_iff t).mp q)]

theorem idle4 : ∀ t : Fin cfg0.N, t.val % 7 ≠ 0 → cfg0.idle 4 (grid0.coords t) = true := by decide +kernel
theorem live4 : ∀ t : Fin cfg0.N, t.val % 7 = 0 → cfg0.idle 4 (grid0.coords t) = false := by decide +kernel

/-- Before which points the normalised tokens' buffer holds nothing of the kernel's: the first of each seven. -/
def blank4 (n : ℕ) : Bool := n % 7 == 0
theorem blank4_step : ∀ t : Fin cfg0.N,
    blank4 (t.val + 1) = ((cfg0.win 4).flush t || (cfg0.idle 4 (cfg0.grid.coords t) && blank4 t.val)) := by decide +kernel
theorem fresh4 (t : Fin cfg0.N) (h : t.val % 7 ≠ 0) : cfg0.fresh 4 t.val = false := by
  rw [Pipeline.Cfg.fresh_tab cfg0 4 blank4 rfl blank4_step t.val (Nat.le_of_lt t.isLt)]
  revert t; decide +kernel

/-! ## The pipeline's proof data -/

/-- The arrays as the region finds them; after a point, each input's buffer at its block and each result's at what that
    point makes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (kept m c (t.val + 1)) (iblk m c 2 t)
    | ⟨4, _⟩ => kept m c (t.val + 1)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = k0_pay2 (kept m c (t.val + 1)) (iblk m c 2 t) := by
  dsimp only [dats]
theorem after0_4 (c : Dev nD) (t : Fin cfg0.N) : (dats m 0 c).after 4 t = kept m c (t.val + 1) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- Before a row block's points but the first, the normalised tokens' buffer is at what is carried. -/
theorem before0_4 (c : Dev nD) (t : Fin cfg0.N) (h : t.val % 7 ≠ 0) (d) : (dats m 0 c).before 4 t d = kept m c t.val := by
  have h0 : t.val ≠ 0 := by omega
  rw [Dat.before_out_traj _ 4 rfl (fun _ _ => rfl) (fun u hu hi _ => ?_) t.val t rfl d,
    if_neg (by rw [fresh4 t h]; exact Bool.false_ne_true), after0_4, kept_pred m c t h0]
  rw [after0_4, after0_4, kept_pred m c u hu]
  refine kept_still m c u fun q => ?_
  rw [live4 u q] at hi
  exact Bool.false_ne_true hi

/-- At every point the body makes the carried tokens of what it finds. -/
theorem hidden_found (c : Dev nD) (t : Fin cfg0.N) (d) :
    hidden (grid0.coords t) (iblk m c 0 t) (iblk m c 1 t) ((dats m 0 c).before 4 t d) = kept m c (t.val + 1) := by
  rw [kept_succ]
  by_cases h : t.val % 7 = 0
  · simp only [hidden, if_pos ((cond1_iff t).mpr h)]
  · rw [before0_4 m c t h d]

/-- The normalised tokens' buffer is left at what is carried, whether the point writes it or not. -/
theorem leaves4 (c : Dev nD) (t : Fin cfg0.N) (d) :
    owns (c : Thread nD τ) (st0_4 t) fullShare
        (hidden (grid0.coords t) (iblk m c 0 t) (iblk m c 1 t) ((dats m 0 c).before 4 t d))
      ⊢ (dats m 0 c).leavesExact 4 t := by
  rw [hidden_found]
  by_cases h : t.val % 7 = 0
  · rw [show (dats m 0 c).leavesExact 4 t = owns (c : Thread nD τ) (st0_4 t) fullShare ((dats m 0 c).after 4 t) from by
      unfold Dat.leavesExact; rw [live4 t h], after0_4]
  · by_cases hf : (cfg0.win 4).flush t = true
    · rw [show (dats m 0 c).leavesExact 4 t = owns (c : Thread nD τ) (st0_4 t) fullShare ((dats m 0 c).after 4 t) from by
        unfold Dat.leavesExact; rw [idle4 t h, hf], after0_4]
    · rw [Dat.leavesExact_idle _ 4 t (idle4 t h) (Bool.eq_false_iff.mpr hf), kept_still m c t h]
      iintro H; iexists d; rw [before0_4 m c t h d]; iexact H

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    show (dats m 0 c).Φ t.succ = (dats m 0 c).Φ t.castSucc from rfl, after0_0, after0_1, after0_2, after0_3]
  iintro ⟨Hg, Ho, ⟨%d0, H0⟩, ⟨%d1, H1⟩, ⟨%d2, H2⟩, ⟨%d3, H3⟩, ⟨%d4, H4⟩⟩
  iapply (body_run c Set.univ (grid0.coords t) _ _ _ _ _ _ _ _ _ _ (iblk m c 0 t) (iblk m c 1 t) (iblk m c 2 t)
    ((dats m 0 c).before 4 t d4) _)
  have hl := leaves4 m c t d4
  unfold left
  rw [hidden_found] at hl ⊢
  isplitl [H0]; · iexact H0
  isplitl [H1]; · iexact H1
  isplitl [H2]; · iexact H2
  isplitl [H3]; · iexists _; iexact H3
  isplitl [H4]; · iexact H4
  iintro ⟨H0, H1, H2, H3, H4⟩
  isplitl [Hg]; · iexact Hg
  isplitl [Ho]; · iexact Ho
  isplitl [H0]; · iexact H0
  isplitl [H1]; · iexact H1
  isplitl [H2]; · iexact H2
  isplitl [H3]; · iexact H3
  iapply hl; iexact H4

/-- The body table's row at a point is the body there. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- The run to its end, with every semaphore back at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they were, and every semaphore at zero. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Kernel8Ideal.Proj

end
-- ==== Proof.ProjForward.lean ====
/- THE INPUT PROJECTION: what it leaves in its results. Points `7 i` to `7 i + 6` work on block `i` of 1024 tokens and on one block
   of 1024 columns each: the first computes the normalised tokens, and each the product with its columns. -/
module

public import proofs.«01_k».proof.Proof.ProjRun
public import proofs.«01_k».proof.Proof.MixerSpec
public import Idealize.ShloMosaic.Lib.Pipeline.ValueKit

@[expose] public section

set_option maxRecDepth 16384

noncomputable section

namespace Cert.Kernel8Ideal.Proj

open Idealize.ShloMosaic Idealize.ShloMosaic.TcCoe Cert.Kernel8Ideal Cert.Kernel8Ideal.Gen Cert.Grid Cert.Mixer
open Idealize.SL.Sem

/-- The blocks that the windows are at. -/
theorem index0 : ∀ t : Fin cfg0.N,
    (cfg0.win 0).index t = ![t.val / 7, 0] ∧ (cfg0.win 1).index t = ![0, 0] ∧ (cfg0.win 2).index t = ![0, t.val % 7]
    ∧ (cfg0.win 3).index t = ![t.val / 7, t.val % 7] ∧ (cfg0.win 4).index t = ![t.val / 7, 0] := by
  decide +kernel

variable {x g w : ℕ → ℕ → EReal}

/-- The normalised tokens of a block. -/
theorem normed_apply {X : Vec Ideal S1024x1024 .f32} {G : Vec Ideal S1x1024 .f32} {n0 : ℕ}
    (hx : ∀ r j : Fin 1024, X (ix2 r j) = x (n0 + r) j) (hg : ∀ j : Fin 1024, G (ix2 0 j) = g 0 j) (r j : Fin 1024) :
    k0_pay1 X G (ix2 r j) = normed x g (n0 + r) j := by
  pointwise [k0_pay1]
  simp only [hx, hg]
  rfl

/-- A block of the product. -/
theorem product_apply {H W : Vec Ideal S1024x1024 .bf16} {n0 f0 : ℕ} (hh : ∀ r j : Fin 1024, H (ix2 r j) = normed x g (n0 + r) j)
    (hw : ∀ j f : Fin 1024, W (ix2 j f) = w j (f0 + f)) (r f : Fin 1024) :
    k0_pay2 H W (ix2 r f) = up x g w (n0 + r) (f0 + f) := by
  pointwise [k0_pay2]
  simp only [hh, hw]
  rfl

variable (m : (ℓ : Loc nD τ sig) → Buf (Elt Ideal) ℓ) (c : Dev nD)

section
variable (hx : Holds2 (m ((c.tc : Thread nD τ).loc main_arg0)) x) (hg : Holds2 (m ((c.tc : Thread nD τ).loc main_arg1)) g)
  (hw : Holds2 (m ((c.tc : Thread nD τ).loc main_arg2)) w)

include hx in
theorem block_x (t : Fin cfg0.N) (r j : Fin 1024) : iblk m c 0 t (ix2 r j) = x (t.val / 7 * 1024 + r) j := by
  unfold iblk
  refine (hx _).trans ?_
  blk_simp [index0 t]

include hg in
theorem block_g (t : Fin cfg0.N) (j : Fin 1024) : iblk m c 1 t (ix2 0 j) = g 0 j := by
  unfold iblk
  refine (hg _).trans ?_
  blk_simp [index0 t]
  rfl

include hw in
theorem block_w (t : Fin cfg0.N) (j f : Fin 1024) : iblk m c 2 t (ix2 j f) = w j (t.val % 7 * 1024 + f) := by
  unfold iblk
  refine (hw _).trans ?_
  blk_simp [index0 t]

include hx hg

/-- After point `n` the normalised tokens of its block are kept. -/
theorem kept_upto : ∀ (n : ℕ) (hn : n < cfg0.N) (r j : Fin 1024), kept m c (n + 1) (ix2 r j) = normed x g (n / 7 * 1024 + r) j
  | n, hn, r, j => by
    by_cases h : n % 7 = 0
    · rw [kept_succ m c ⟨n, hn⟩, hidden, if_pos ((cond1_iff ⟨n, hn⟩).mpr h)]
      exact normed_apply (block_x m c hx ⟨n, hn⟩) (block_g m c hg ⟨n, hn⟩) r j
    · match n, hn, h with
      | k + 1, hn, h =>
        rw [kept_still m c ⟨k + 1, hn⟩ h, show (k + 1) / 7 = k / 7 by omega]
        exact kept_upto k (Nat.lt_of_succ_lt hn) r j

/-- The normalised tokens. -/
theorem normed_array : (dats m 0 c).arrAt 4 cfg0.N = fun i => normed x g (i 0).val (i 1).val := by
  refine (dats m 0 c).arrAt_eq_of_covers 4 _ (by decide +kernel) fun t _ y => ?_
  blk_simp [index0 t]
  rw [after0_4]
  exact (congrArg _ (eq_ix2 y)).trans (kept_upto m c hx hg t.val t.isLt _ _)

include hw

/-- The projected tokens. -/
theorem product_array : (dats m 0 c).arrAt 3 cfg0.N = fun i => up x g w (i 0).val (i 1).val := by
  refine (dats m 0 c).arrAt_eq_of_covers 3 _ (by decide +kernel) fun t _ y => ?_
  blk_simp [index0 t]
  rw [after0_3]
  exact (congrArg _ (eq_ix2 y)).trans (product_apply (kept_upto m c hx hg t.val t.isLt) (block_w m c hw t) _ _)

end

/-- The run leaves these arrays in the results, and the arguments as they were. -/
theorem results (ρ : Dev nD → PrngReg) : θ_run defs (onTc (τ := τ) (main (F := Ideal))) ⟨m, fun _ => 0, ρ⟩ fun r => ∀ c : Dev nD,
    r.2.mem ((c.tc : Thread nD τ).loc main_v0_0) = (dats m 0 c).arrAt 3 cfg0.N
    ∧ r.2.mem ((c.tc : Thread nD τ).loc main_v0_1) = (dats m 0 c).arrAt 4 cfg0.N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run defs _ _).mono (fun _ h c => ⟨(h.1 c).1 3, (h.1 c).1 4, h.2.1 c⟩) (θ_run_and (run_main m ρ) (unchanged m ρ))

end Cert.Kernel8Ideal.Proj

end
-- ==== Proof.ProjReference.lean ====
/- THE REFERENCE OF THE INPUT PROJECTION, entry by entry. -/
module

public import proofs.«01_k».proof.Proof.Gen.Reference8Ideal.Read
public import proofs.«01_k».proof.Proof.MixerSpec
public import Idealize.ShloMosaic.Lib.Pointwise
public import Idealize.ShloMosaic.Lib.Pipeline.ValueKit

@[expose] public section

set_option maxRecDepth 16384

noncomputable section

namespace Cert.Reference8Ideal.Proj

open Idealize.ShloMosaic Idealize.ShloMosaic.TcCoe Cert.Reference8Ideal Cert.Reference8Ideal.Gen Cert.Reference8Ideal.Read Cert.Grid
open Cert.Mixer Idealize.SL.Sem

variable {x0 : (⟨S8192x1024, .f32⟩ : BufTy).Contents (Elt Ideal)} {x1 : (⟨S1x1024, .f32⟩ : BufTy).Contents (Elt Ideal)}
  {x2 : (⟨S1024x7168, .bf16⟩ : BufTy).Contents (Elt Ideal)} {x g w : ℕ → ℕ → EReal}

theorem scaled_apply (h0 : Holds2 x0 x) (h1 : Holds2 x1 g) (n : Fin 8192) (d : Fin 1024) :
    val_main_v11 x0 x1 (ix2 n d) = normed x g n d := by
  pointwise [val_main_v11, val_main_v10, val_main_v9, val_main_v8, val_main_v7, val_main_v6, val_main_v5, val_main_v4, val_main_v3,
    val_main_v2, val_main_v1, val_main_v0, val_main_cst, val_main_cst_0, val_main_cst_1]
  simp only [h0 _, h1 _]
  rfl

theorem product_value (h0 : Holds2 x0 x) (h1 : Holds2 x1 g) (h2 : Holds2 x2 w) :
    val_main_v13 x0 x1 x2 = fun i => up x g w (i 0).val (i 1).val := by
  have h : ∀ (n : Fin 8192) (f : Fin 7168), val_main_v13 x0 x1 x2 (ix2 n f) = up x g w n f := fun n f => by
    pointwise [val_main_v13, val_main_v12]
    simp only [scaled_apply h0 h1, h2 _]
    rfl
  exact funext fun i => (congrArg _ (eq_ix2 i)).trans (h _ _)

theorem normed_value (h0 : Holds2 x0 x) (h1 : Holds2 x1 g) :
    val_main_v14 x0 x1 = fun i => normed x g (i 0).val (i 1).val := by
  have h : ∀ (n : Fin 8192) (d : Fin 1024), val_main_v14 x0 x1 (ix2 n d) = normed x g n d := fun n d => by
    pointwise [val_main_v14]
    exact scaled_apply h0 h1 n d
  exact funext fun i => (congrArg _ (eq_ix2 i)).trans (h _ _)

end Cert.Reference8Ideal.Proj

end
-- ==== Proof.ProjClaims.lean ====
/- THE CLAIMS OF THE INPUT PROJECTION: the frames, and that both results are the reference's. -/
module

public import proofs.«01_k».proof.Defs
public import proofs.«01_k».proof.Proof.Gen.Kernel8
public import proofs.«01_k».proof.Proof.Gen.Reference8Ideal.Run
public import proofs.«01_k».proof.Proof.ProjForward
public import proofs.«01_k».proof.Proof.ProjReference

@[expose] public section

set_option maxRecDepth 16384

noncomputable section

namespace Cert.Proof

open Idealize.ShloMosaic Idealize.SL.Sem Cert.Grid

/-- The reference of the input projection runs, with its arguments unchanged and no counter. -/
theorem reference_frame8 : Cert.quiescent_Reference8Ideal := fun m g _ =>
  (θ_run (Cert.Reference8Ideal.defs (F := Ideal)) _ _).mono
    (fun r h => ⟨fun c => (h c).2.2, sem_eq_zero_of_no_sems (by decide) r.2⟩) (Cert.Reference8Ideal.Value.run m g)

/-- Over the extended reals the input projection runs, with its arguments unchanged and its counters back at zero. -/
theorem kernel_frame8_ideal : Cert.quiescent_Kernel8Ideal := fun m g _ => Cert.Kernel8Ideal.Proj.unchanged m g

/-- The body tables of the two programs are one: at each label they run the same text. -/
theorem bodies8 : Cert.Kernel8.defs₀ (F := Bits) = Cert.Kernel8Ideal.defs₀ := by
  unfold Cert.Kernel8.defs₀ Cert.Kernel8Ideal.defs₀
  refine congrArg Defs.onTc (funext fun l => ?_)
  match l with
  | 0 => exact funext fun ⟨t, s⟩ => rfl

/-- So are the tables with the pipeline's own labels. -/
theorem table8 : Cert.Kernel8.defs (F := Bits) = Cert.Kernel8Ideal.defs := congrArg (Pipeline.defs Cert.Kernel8.pcfgs) bodies8

/-- The input projection runs so over the machine's numbers too. -/
theorem kernel_frame8 : Cert.quiescent_Kernel8 := fun m g _ => by
  rw [table8]
  exact (θ_run Cert.Kernel8Ideal.defs _ _).mono (fun _ h => h) (Cert.Kernel8Ideal.Proj.unchanged (F := Bits) m g)

/-- The input projection's results are the reference's. -/
theorem algebraic8 : Cert.algebraic_Kernel8Ideal_Reference8Ideal := by
  intro m g m' g' _ hargs
  refine ⟨_, _, Cert.Kernel8Ideal.Proj.results m g, ?_⟩
  refine (θ_run (Cert.Reference8Ideal.defs (F := Ideal)) _ _).mono (fun r h c => ?_) (Cert.Reference8Ideal.Value.run m' g')
  obtain ⟨a0, a1, a2⟩ := hargs c
  have h0 := holds2 (m ((c.tc : Thread Cert.Kernel8Ideal.nD Cert.Kernel8Ideal.τ).loc Cert.Kernel8Ideal.main_arg0))
  have h1 := holds2 (m ((c.tc : Thread Cert.Kernel8Ideal.nD Cert.Kernel8Ideal.τ).loc Cert.Kernel8Ideal.main_arg1))
  have h2 := holds2 (m ((c.tc : Thread Cert.Kernel8Ideal.nD Cert.Kernel8Ideal.τ).loc Cert.Kernel8Ideal.main_arg2))
  obtain ⟨r0, r1, kept⟩ := h c
  refine ⟨r0.trans ?_, r1.trans ?_, kept⟩
  · rw [Cert.Reference8Ideal.Read.val_main_v13_eq, a0, a1, a2]
    exact (Cert.Reference8Ideal.Proj.product_value h0 h1 h2).trans (Cert.Kernel8Ideal.Proj.product_array m c h0 h1 h2).symm
  · rw [Cert.Reference8Ideal.Read.val_main_v14_eq, a0, a1]
    exact (Cert.Reference8Ideal.Proj.normed_value h0 h1).trans (Cert.Kernel8Ideal.Proj.normed_array m c h0 h1).symm

end Cert.Proof

end
-- ==== Proof.MixerForward.lean ====
/- THE CHANNEL MIXER'S FORWARD CALL: what it leaves in its result. Points `2 i` and `2 i + 1` work on block `i` of 512 tokens and
   on one half of the channels each. The first keeps the normalised tokens for the second, and starts the output at the tokens. -/
module

public import proofs.«01_k».proof.Proof.Gen.Kernel5Ideal.Value
public import proofs.«01_k».proof.Proof.MixerSpec
public import Idealize.ShloMosaic.Lib.Pipeline.ValueKit
public import Idealize.ShloMosaic.Lib.Pipeline.ReadBack

@[expose] public section

set_option maxRecDepth 16384

noncomputable section

namespace Cert.Kernel5Ideal.Mixer

open Idealize.ShloMosaic Idealize.ShloMosaic.TcCoe Cert.Kernel5Ideal Cert.Kernel5Ideal.Gen Cert.Grid Cert.Mixer
open Idealize.SL.Sem

/-- The blocks that the windows are at. -/
theorem index0 : ∀ t : Fin cfg0.N,
    (cfg0.win 0).index t = ![t.val / 2, 0] ∧ (cfg0.win 1).index t = ![0, 0] ∧ (cfg0.win 2).index t = ![0, t.val % 2]
    ∧ (cfg0.win 3).index t = ![0, t.val % 2] ∧ (cfg0.win 4).index t = ![t.val % 2, 0] ∧ (cfg0.win 5).index t = ![t.val / 2, 0] := by
  decide +kernel

variable (m : (ℓ : Loc nD τ sig) → Buf (Elt Ideal) ℓ) (c : Dev nD) {x g wg wu wd : ℕ → ℕ → EReal}

/-- The normalised tokens of a block. -/
theorem normed_apply {X : Vec Ideal S512x1024 .f32} {G : Vec Ideal S1x1024 .f32} {n0 : ℕ}
    (hx : ∀ (r : Fin 512) (d : Fin 1024), X (ix2 r d) = x (n0 + r) d) (hg : ∀ d : Fin 1024, G (ix2 0 d) = g 0 d)
    (r : Fin 512) (d : Fin 1024) : k0_pay1 X G (ix2 r d) = normed x g (n0 + r) d := by
  pointwise [k0_pay1]
  simp only [hx, hg]
  rfl

/-- What a point adds to the output's block, over normalised tokens. -/
theorem half_apply {H : Vec Ideal S512x1024 .bf16} {A B : Vec Ideal S1024x1408 .bf16} {W : Vec Ideal S1408x1024 .bf16}
    {n0 h : ℕ} (hh : ∀ (r : Fin 512) (d : Fin 1024), H (ix2 r d) = normed x g (n0 + r) d)
    (ha : ∀ (d : Fin 1024) (f : Fin 1408), A (ix2 d f) = wg d (h * 1408 + f))
    (hb : ∀ (d : Fin 1024) (f : Fin 1408), B (ix2 d f) = wu d (h * 1408 + f))
    (hw : ∀ (f : Fin 1408) (j : Fin 1024), W (ix2 f j) = wd (h * 1408 + f) j)
    (Z : Vec Ideal S512x1024 .f32) (r : Fin 512) (j : Fin 1024) :
    k0_pay2 H A H B Z W (ix2 r j) = Z (ix2 r j) + half x g wg wu wd h (n0 + r) j := by
  pointwise [k0_pay2]
  simp only [hh, ha, hb, hw, zero_sub]
  rfl

section
variable (hx : Holds2 (m ((c.tc : Thread nD τ).loc main_arg0)) x) (hg : Holds2 (m ((c.tc : Thread nD τ).loc main_arg1)) g)
  (ha : Holds2 (m ((c.tc : Thread nD τ).loc main_arg2)) wg) (hb : Holds2 (m ((c.tc : Thread nD τ).loc main_arg3)) wu)
  (hw : Holds2 (m ((c.tc : Thread nD τ).loc main_arg4)) wd)

include hx in
theorem block_x (t : Fin cfg0.N) (r : Fin 512) (d : Fin 1024) : iblk m c 0 t (ix2 r d) = x (t.val / 2 * 512 + r) d := by
  unfold iblk
  refine (hx _).trans ?_
  blk_simp [index0 t]

include hg in
theorem block_g (t : Fin cfg0.N) (d : Fin 1024) : iblk m c 1 t (ix2 0 d) = g 0 d := by
  unfold iblk
  refine (hg _).trans ?_
  blk_simp [index0 t]
  rfl

include ha in
theorem block_wg (t : Fin cfg0.N) (d : Fin 1024) (f : Fin 1408) : iblk m c 2 t (ix2 d f) = wg d (t.val % 2 * 1408 + f) := by
  unfold iblk
  refine (ha _).trans ?_
  blk_simp [index0 t]

include hb in
theorem block_wu (t : Fin cfg0.N) (d : Fin 1024) (f : Fin 1408) : iblk m c 3 t (ix2 d f) = wu d (t.val % 2 * 1408 + f) := by
  unfold iblk
  refine (hb _).trans ?_
  blk_simp [index0 t]

include hw in
theorem block_wd (t : Fin cfg0.N) (f : Fin 1408) (j : Fin 1024) : iblk m c 4 t (ix2 f j) = wd (t.val % 2 * 1408 + f) j := by
  unfold iblk
  refine (hw _).trans ?_
  blk_simp [index0 t]

include hx hg

/-- The first point of a block keeps the normalised tokens. -/
theorem kept (t : Fin cfg0.N) (h : t.val % 2 = 0) (r : Fin 512) (d : Fin 1024) :
    (outsAt0 m c t.val t.isLt).2 (ix2 r d) = normed x g (t.val / 2 * 512 + r) d := by
  rw [outsAt0_A m c t h]
  dsimp only
  frame_out
  exact normed_apply (block_x m c hx t) (block_g m c hg t) r d

include ha hb hw

/-- The first point of a block leaves the tokens and the first half of the product. -/
theorem first (t : Fin cfg0.N) (h : t.val % 2 = 0) (r : Fin 512) (j : Fin 1024) :
    (outsAt0 m c t.val t.isLt).1 (ix2 r j)
      = x (t.val / 2 * 512 + r) j + half x g wg wu wd (t.val % 2) (t.val / 2 * 512 + r) j := by
  rw [outsAt0_A m c t h]
  dsimp only
  frame_out
  exact (half_apply (normed_apply (block_x m c hx t) (block_g m c hg t)) (block_wg m c ha t) (block_wu m c hb t)
    (block_wd m c hw t) _ r j).trans (congrArg (· + _) (block_x m c hx t r j))

/-- The second point of a block leaves the mixed tokens. -/
theorem second (t : Fin cfg0.N) (h : t.val % 2 = 1) (r : Fin 512) (j : Fin 1024) :
    (outsAt0 m c t.val t.isLt).1 (ix2 r j) = out x g wg wu wd (t.val / 2 * 512 + r) j := by
  have hs : (t.val - 1) % 2 = 0 := by omega
  have he : (t.val - 1) / 2 = t.val / 2 := by omega
  have hk := kept m c hx hg ⟨t.val - 1, Nat.lt_of_le_of_lt (Nat.sub_le _ _) t.isLt⟩ hs
  have hf := first m c hx hg ha hb hw ⟨t.val - 1, Nat.lt_of_le_of_lt (Nat.sub_le _ _) t.isLt⟩ hs r j
  dsimp only at hk hf
  rw [he] at hk
  rw [he, hs] at hf
  rw [outsAt0_B m c t (by omega)]
  dsimp only
  generalize outsAt0 m c (t.val - 1) _ = p at hk hf ⊢
  frame_out
  rw [read_unread_whole cc0_scratch0]
  rw [half_apply hk (block_wg m c ha t) (block_wu m c hb t) (block_wd m c hw t), hf, h]
  exact out_eq_halves x g wg wu wd _ _

/-- The call leaves the mixed tokens in its result. -/
theorem out_array : (dats m 0 c).arrAt 5 cfg0.N = fun i => out x g wg wu wd (i 0).val (i 1).val := by
  refine (dats m 0 c).arrAt_eq_of_covers 5 _ (by decide +kernel) fun t hf y => ?_
  blk_simp [index0 t]
  rw [after0_5]
  exact (congrArg _ (eq_ix2 y)).trans (second m c hx hg ha hb hw t ((flush0_5 t).mp hf) _ _)

end

end Cert.Kernel5Ideal.Mixer

end
-- ==== Proof.MixerReference.lean ====
/- THE REFERENCE OF THE CHANNEL MIXER, entry by entry. -/
module

public import proofs.«01_k».proof.Proof.Gen.Reference5Ideal.Read
public import proofs.«01_k».proof.Proof.MixerSpec
public import Idealize.ShloMosaic.Lib.Pointwise
public import Idealize.ShloMosaic.Lib.Pipeline.ValueKit

@[expose] public section

set_option maxRecDepth 16384

noncomputable section

namespace Cert.Reference5Ideal.Mixer

open Idealize.ShloMosaic Idealize.ShloMosaic.TcCoe Cert.Reference5Ideal Cert.Reference5Ideal.Gen Cert.Reference5Ideal.Read Cert.Grid
open Cert.Mixer Idealize.SL.Sem

variable {x0 : (⟨S8192x1024, .f32⟩ : BufTy).Contents (Elt Ideal)} {x1 : (⟨S1x1024, .f32⟩ : BufTy).Contents (Elt Ideal)}
  {x2 x3 : (⟨S1024x2816, .bf16⟩ : BufTy).Contents (Elt Ideal)} {x4 : (⟨S2816x1024, .bf16⟩ : BufTy).Contents (Elt Ideal)}
  {x g wg wu wd : ℕ → ℕ → EReal}

theorem normed_apply (h0 : Holds2 x0 x) (h1 : Holds2 x1 g) (n : Fin 8192) (d : Fin 1024) :
    val_main_v14 x0 x1 (ix2 n d) = normed x g n d := by
  pointwise [val_main_v14, val_main_v13, val_main_v12, val_main_v11, val_main_v10, val_main_v9, val_main_v8, val_main_v7, val_main_v6,
    val_main_v5, val_main_v4, val_main_v3, val_main_cst, val_main_cst_0, val_main_cst_1]
  simp only [h0 _, h1 _]
  rfl

theorem gate_apply (h0 : Holds2 x0 x) (h1 : Holds2 x1 g) (h2 : Holds2 x2 wg) (n : Fin 8192) (f : Fin 2816) :
    val_main_v15 x0 x1 x2 (ix2 n f) = up x g wg n f := by
  pointwise [val_main_v15, val_main_v0]
  simp only [normed_apply h0 h1, h2 _]
  rfl

theorem up_apply (h0 : Holds2 x0 x) (h1 : Holds2 x1 g) (h3 : Holds2 x3 wu) (n : Fin 8192) (f : Fin 2816) :
    val_main_v17 x0 x1 x3 (ix2 n f) = up x g wu n f := by
  pointwise [val_main_v17, val_main_v1]
  simp only [normed_apply h0 h1, h3 _]
  rfl

theorem mid_apply (h0 : Holds2 x0 x) (h1 : Holds2 x1 g) (h2 : Holds2 x2 wg) (h3 : Holds2 x3 wu) (n : Fin 8192) (f : Fin 2816) :
    val_main_v18 x0 x1 x2 x3 (ix2 n f) = mid x g wg wu n f := by
  pointwise [val_main_v18, val_main_v16, val_main_call0_v5, val_main_call0_v4, val_main_call0_v3, val_main_call0_v2, val_main_call0_v1,
    val_main_call0_v0, val_main_call0_cst, val_main_call0_cst_0]
  rw [gate_apply h0 h1 h2, up_apply h0 h1 h3]
  rfl

theorem out_apply (h0 : Holds2 x0 x) (h1 : Holds2 x1 g) (h2 : Holds2 x2 wg) (h3 : Holds2 x3 wu) (h4 : Holds2 x4 wd) (n : Fin 8192)
    (j : Fin 1024) : val_main_v20 x0 x1 x2 x3 x4 (ix2 n j) = out x g wg wu wd n j := by
  pointwise [val_main_v20, val_main_v19, val_main_v2]
  simp only [mid_apply h0 h1 h2 h3, h0 _, h4 _]
  rfl

theorem out_value (h0 : Holds2 x0 x) (h1 : Holds2 x1 g) (h2 : Holds2 x2 wg) (h3 : Holds2 x3 wu) (h4 : Holds2 x4 wd) :
    val_main_v20 x0 x1 x2 x3 x4 = fun i => out x g wg wu wd (i 0).val (i 1).val :=
  funext fun i => (congrArg _ (eq_ix2 i)).trans (out_apply h0 h1 h2 h3 h4 _ _)

end Cert.Reference5Ideal.Mixer

end
-- ==== Proof.MixerClaims.lean ====
/- THE VALUE CLAIM OF THE CHANNEL MIXER'S FORWARD CALL: its result is the reference's. -/
module

public import proofs.«01_k».proof.Defs
public import proofs.«01_k».proof.Proof.Gen.Reference5Ideal.Run
public import proofs.«01_k».proof.Proof.MixerForward
public import proofs.«01_k».proof.Proof.MixerReference

@[expose] public section

set_option maxRecDepth 16384

noncomputable section

namespace Cert.Proof

open Idealize.ShloMosaic Idealize.SL.Sem Cert.Grid

/-- The forward channel mixer's reference runs, with its arguments unchanged and no counter. -/
theorem reference_frame5 : Cert.quiescent_Reference5Ideal := fun m g _ =>
  (θ_run (Cert.Reference5Ideal.defs (F := Ideal)) _ _).mono
    (fun r h => ⟨fun c => (h c).2, sem_eq_zero_of_no_sems (by decide) r.2⟩) (Cert.Reference5Ideal.Value.run m g)

/-- The forward channel mixer's result is the reference's. -/
theorem algebraic5 : Cert.algebraic_Kernel5Ideal_Reference5Ideal := by
  intro m g m' g' _ hargs
  refine ⟨_, Cert.Kernel5Ideal.Value.run_blocks m g, ?_⟩
  refine (θ_run (Cert.Reference5Ideal.defs (F := Ideal)) _ _).mono (fun r h c => ?_) (Cert.Reference5Ideal.Value.run m' g')
  obtain ⟨a0, a1, a2, a3, a4⟩ := hargs c
  have h0 := holds2 (m ((c.tc : Thread Cert.Kernel5Ideal.nD Cert.Kernel5Ideal.τ).loc Cert.Kernel5Ideal.main_arg0))
  have h1 := holds2 (m ((c.tc : Thread Cert.Kernel5Ideal.nD Cert.Kernel5Ideal.τ).loc Cert.Kernel5Ideal.main_arg1))
  have h2 := holds2 (m ((c.tc : Thread Cert.Kernel5Ideal.nD Cert.Kernel5Ideal.τ).loc Cert.Kernel5Ideal.main_arg2))
  have h3 := holds2 (m ((c.tc : Thread Cert.Kernel5Ideal.nD Cert.Kernel5Ideal.τ).loc Cert.Kernel5Ideal.main_arg3))
  have h4 := holds2 (m ((c.tc : Thread Cert.Kernel5Ideal.nD Cert.Kernel5Ideal.τ).loc Cert.Kernel5Ideal.main_arg4))
  refine ⟨(h c).1.trans ?_, (h c).2⟩
  rw [Cert.Reference5Ideal.Read.val_main_v20_eq, a0, a1, a2, a3, a4]
  exact (Cert.Reference5Ideal.Mixer.out_value h0 h1 h2 h3 h4).trans
    (Cert.Kernel5Ideal.Mixer.out_array m c h0 h1 h2 h3 h4).symm

end Cert.Proof

end
-- ==== Proof.NormBackward.lean ====
/- THE GRADIENTS OF THE NORM AND THE INPUT PROJECTION: what the call leaves in its results. Point `t` works on block `t / 7` of 1024
   tokens and on block `t % 7` of 1024 columns of the projection, over which the product accumulates in scratch. The last of the
   seven points goes through the norm. The gradient of the norm's weight accumulates over the blocks of tokens. -/
module

public import proofs.«01_k».proof.Proof.Gen.Kernel4Ideal.Value
public import proofs.«01_k».proof.Proof.NormSpec
public import Idealize.ShloMosaic.Lib.Pipeline.ValueKit
public import Idealize.ShloMosaic.Lib.Pipeline.ReadBack

@[expose] public section

set_option maxRecDepth 16384

noncomputable section

namespace Cert.Kernel4Ideal.Norm

open Idealize.ShloMosaic Idealize.ShloMosaic.TcCoe Cert.Kernel4Ideal Cert.Kernel4Ideal.Gen Cert.Grid Cert.Norm
open Idealize.SL.Sem

/-- The blocks that the windows are at. -/
theorem index0 : ∀ t : Fin cfg0.N,
    (cfg0.win 0).index t = ![t.val / 7, t.val % 7] ∧ (cfg0.win 1).index t = ![0, t.val % 7] ∧ (cfg0.win 2).index t = ![t.val / 7, 0]
    ∧ (cfg0.win 3).index t = ![0, 0] ∧ (cfg0.win 4).index t = ![t.val / 7, 0] ∧ (cfg0.win 5).index t = ![t.val / 7, 0]
    ∧ (cfg0.win 6).index t = ![0, 0] := by
  decide +kernel

theorem points (t : Fin cfg0.N) : t.val < 56 := lt_of_lt_of_eq t.isLt (show cfg0.N = 56 from N_0)

/-! ## The payloads over blocks -/

section
variable {X H R : Vec Ideal S1024x1024 .f32} {G : Vec Ideal S1x1024 .f32} {n0 : ℕ} {x g dh dr : ℕ → ℕ → EReal}
  (hx : ∀ r d : Fin 1024, X (ix2 r d) = x (n0 + r) d) (hh : ∀ r d : Fin 1024, H (ix2 r d) = dh (n0 + r) d)

theorem zero_apply (r d : Fin 1024) : (k0_pay1 : FVec Ideal S1024x1024 .f32) (ix2 r d) = 0 := by
  pointwise [k0_pay1]

/-- A product's block, added to what is there. -/
theorem product_apply {A B : Vec Ideal S1024x1024 .bf16} {dp w : ℕ → ℕ → EReal} {s : ℕ}
    (ha : ∀ r k : Fin 1024, A (ix2 r k) = dp (n0 + r) (s * 1024 + k)) (hb : ∀ d k : Fin 1024, B (ix2 d k) = w d (s * 1024 + k))
    (Z : Vec Ideal S1024x1024 .f32) (r d : Fin 1024) :
    k0_pay3 Z A B (ix2 r d) = Z (ix2 r d) + dprojPart dp w s (n0 + r) d := by
  pointwise [k0_pay3]
  simp only [ha, hb]
  rfl

include hx in
theorem meansq_apply (r : Fin 1024) (z : Fin 1) : k0_pay5 X (ix2 r z) = meansq x (n0 + r) := by
  pointwise [k0_pay5]
  simp only [hx]
  rfl

include hx hh

theorem dweight_apply (z : Fin 1) (d : Fin 1024) : k0_pay7 X H (ix2 z d) = ∑ r : Fin 1024, dweightAt x dh (n0 + r) d := by
  pointwise [k0_pay7, k0_pay6]
  simp only [meansq_apply hx, hx, hh]
  rfl

theorem dtoken_apply (hg : ∀ d : Fin 1024, G (ix2 0 d) = g 0 d) (hr : ∀ r d : Fin 1024, R (ix2 r d) = dr (n0 + r) d) (r d : Fin 1024) :
    k0_pay8 X G H R (ix2 r d) = dr (n0 + r) d + dtoken x g dh (n0 + r) d := by
  pointwise [k0_pay8, k0_pay6]
  simp only [meansq_apply hx, hx, hh, hg, hr, Fin.sum_univ_one]
  rfl

end

variable (m : (ℓ : Loc nD τ sig) → Buf (Elt Ideal) ℓ) (c : Dev nD) {dp w x g dr : ℕ → ℕ → EReal}

/-! ## The blocks -/

section
variable (hp : Holds2 (m ((c.tc : Thread nD τ).loc main_arg0)) dp) (hw : Holds2 (m ((c.tc : Thread nD τ).loc main_arg1)) w)
  (hx : Holds2 (m ((c.tc : Thread nD τ).loc main_arg2)) x) (hg : Holds2 (m ((c.tc : Thread nD τ).loc main_arg3)) g)
  (hr : Holds2 (m ((c.tc : Thread nD τ).loc main_arg4)) dr)

include hp in
theorem block_dp (t : Fin cfg0.N) (r k : Fin 1024) : iblk m c 0 t (ix2 r k) = dp (t.val / 7 * 1024 + r) (t.val % 7 * 1024 + k) := by
  unfold iblk
  refine (hp _).trans ?_
  blk_simp [index0 t]

include hw in
theorem block_w (t : Fin cfg0.N) (d k : Fin 1024) : iblk m c 1 t (ix2 d k) = w d (t.val % 7 * 1024 + k) := by
  unfold iblk
  refine (hw _).trans ?_
  blk_simp [index0 t]

include hx in
theorem block_x (t : Fin cfg0.N) (r d : Fin 1024) : iblk m c 2 t (ix2 r d) = x (t.val / 7 * 1024 + r) d := by
  unfold iblk
  refine (hx _).trans ?_
  blk_simp [index0 t]

include hg in
theorem block_g (t : Fin cfg0.N) (d : Fin 1024) : iblk m c 3 t (ix2 0 d) = g 0 d := by
  unfold iblk
  refine (hg _).trans ?_
  blk_simp [index0 t]
  rfl

include hr in
theorem block_dr (t : Fin cfg0.N) (r d : Fin 1024) : iblk m c 4 t (ix2 r d) = dr (t.val / 7 * 1024 + r) d := by
  unfold iblk
  refine (hr _).trans ?_
  blk_simp [index0 t]

/-! ## The product in scratch -/

include hp hw in
/-- The first point of a block of tokens starts the product. -/
theorem carried_first (t : Fin cfg0.N) (h : t.val % 7 = 0) (r d : Fin 1024) :
    (outsAt0 m c t.val t.isLt).2.2 (ix2 r d) = 0 + dprojPart dp w (t.val % 7) (t.val / 7 * 1024 + r) d := by
  by_cases h1 : t.val % 56 = 0
  · rw [outsAt0_A m c t h h1 (by omega)]
    dsimp only
    frame_out
    exact (product_apply (block_dp m c hp t) (block_w m c hw t) _ r d).trans (congrArg (· + _) (zero_apply r d))
  · rw [outsAt0_D m c t h h1 (by omega)]
    dsimp only
    frame_out
    exact (product_apply (block_dp m c hp t) (block_w m c hw t) _ r d).trans (congrArg (· + _) (zero_apply r d))

/-- What a further point keeps: its part added to what the point before left. -/
theorem carried_next (t : Fin cfg0.N) (h : ¬t.val % 7 = 0) : (outsAt0 m c t.val t.isLt).2.2
    = k0_pay3 (outsAt0 m c (t.val - 1) (Nat.lt_of_le_of_lt (Nat.sub_le _ _) t.isLt)).2.2 (iblk m c 0 t) (iblk m c 1 t) := by
  by_cases h2 : t.val % 7 = 6
  · rw [outsAt0_C m c t h (by omega) h2]
    dsimp only
    generalize outsAt0 m c (t.val - 1) _ = p
    frame_out
    rw [read_unread_whole cc0_scratch0]
  · rw [outsAt0_B m c t h (by omega) h2]
    dsimp only
    generalize outsAt0 m c (t.val - 1) _ = p
    frame_out
    rw [read_unread_whole cc0_scratch0]

include hp hw in
/-- After the last point of a block of tokens the scratch holds the product. -/
theorem carried_last (t : Fin cfg0.N) (h : t.val % 7 = 6) (r d : Fin 1024) :
    (outsAt0 m c t.val t.isLt).2.2 (ix2 r d) = dproj dp w (t.val / 7 * 1024 + r) d := by
  have H := Pipeline.eq_sum_of_reset_step_apply_divmod (fun n h (y : Fin 1024 × Fin 1024) => (outsAt0 m c n h).2.2 (ix2 y.1 y.2)) 7
    (fun _ => 0) (fun q s y => dprojPart dp w s (q * 1024 + y.1) y.2)
    (fun t h y => carried_first m c hp hw t h y.1 y.2)
    (fun t h y => by
      rw [carried_next m c t h]
      exact product_apply (block_dp m c hp t) (block_w m c hw t) _ y.1 y.2) t (r, d)
  refine H.trans ?_
  rw [h, zero_add]
  exact dproj_eq_blocks _ _ _ _

/-! ## The results -/

include hp hw hx hg hr in
/-- The gradient of the tokens. -/
theorem dtoken_array : (dats m 0 c).arrAt 5 cfg0.N
    = fun i => dr (i 0).val (i 1).val + dtoken x g (dproj dp w) (i 0).val (i 1).val := by
  refine (dats m 0 c).arrAt_eq_of_covers 5 _ (by decide +kernel) fun t hf y => ?_
  have h := (flush0_5 t).mp hf
  have hk := carried_last m c hp hw t h
  rw [carried_next m c t (by omega)] at hk
  blk_simp [index0 t]
  rw [after0_5, outsAt0_C m c t (by omega) (by omega) h]
  dsimp only
  refine (congrArg _ (eq_ix2 y)).trans ?_
  generalize outsAt0 m c (t.val - 1) _ = p at hk ⊢
  frame_out
  rw [read_unread_whole cc0_scratch0]
  exact dtoken_apply (block_x m c hx t) hk (block_g m c hg t) (block_dr m c hr t) _ _

include hp hw hx in
/-- After point `n` the weight's gradient has the parts of the blocks of tokens that are done. -/
theorem dweight_upto : ∀ (n : ℕ) (hn : n < cfg0.N) (d : Fin 1024), (outsAt0 m c n hn).2.1 (ix2 0 d)
    = ∑ i ∈ Finset.range ((n + 1) / 7), ∑ r : Fin 1024, dweightAt x (dproj dp w) (i * 1024 + r) d
  | 0, hn, d => by
    rw [outsAt0_A m c ⟨0, hn⟩ rfl rfl (by show ¬(0 % 7 = 6); decide)]
    dsimp only
    frame_out
    exact Ideal.ofBits_zero_f32
  | n + 1, hn, d => by
    have IH : (outsAt0 m c (n + 1 - 1) (Nat.lt_of_succ_lt hn)).2.1 (ix2 0 d) = _ := dweight_upto n (Nat.lt_of_succ_lt hn) d
    have hb := points ⟨n + 1, hn⟩
    dsimp only at hb
    by_cases h : (n + 1) % 7 = 6
    · have hk := carried_last m c hp hw ⟨n + 1, hn⟩ h
      rw [carried_next m c ⟨n + 1, hn⟩ (by dsimp only; omega)] at hk
      have e : (n + 1 + 1) / 7 = (n + 1) / 7 + 1 := by omega
      rw [e, Finset.sum_range_succ, ← IH, outsAt0_C m c ⟨n + 1, hn⟩ (by dsimp only; omega) (by dsimp only; omega) h]
      dsimp only at hk ⊢
      generalize outsAt0 m c (n + 1 - 1) _ = p at hk ⊢
      frame_out
      rw [read_unread_whole cc0_scratch0]
      pointwise [k0_pay4]
      exact congrArg (p.2.1 (ix2 0 d) + ·) (dweight_apply (block_x m c hx ⟨n + 1, hn⟩) hk 0 d)
    · have e : (n + 1 + 1) / 7 = (n + 1) / 7 := by omega
      rw [e, ← IH]
      by_cases h0 : (n + 1) % 7 = 0
      · rw [outsAt0_D m c ⟨n + 1, hn⟩ h0 (by dsimp only; omega) h]
        rfl
      · rw [outsAt0_B m c ⟨n + 1, hn⟩ h0 (by dsimp only; omega) h]
        rfl

include hp hw hx in
/-- The gradient of the norm's weight. -/
theorem dweight_array : (dats m 0 c).arrAt 6 cfg0.N = fun i => dweight x (dproj dp w) (i 1).val := by
  refine (dats m 0 c).arrAt_eq_of_covers 6 _ (by decide +kernel) fun t hf y => ?_
  have h := (flush0_6 t).mp hf
  have hb := points t
  have e : (t.val + 1) / 7 = 8 := by omega
  blk_simp [index0 t]
  rw [after0_6]
  obtain ⟨j, rfl⟩ : ∃ j : Fin 1024, y = ix2 0 j :=
    ⟨y 1, (eq_ix2 y).trans (congrArg (fun a : Fin 1 => ix2 a (y 1)) (Subsingleton.elim (α := Fin 1) _ _))⟩
  refine (dweight_upto m c hp hw hx t.val t.isLt j).trans ?_
  rw [e]
  exact dweight_eq_blocks _ _ _

end

end Cert.Kernel4Ideal.Norm

end
-- ==== Proof.NormReference.lean ====
/- THE REFERENCE OF THE NORM'S AND THE INPUT PROJECTION'S GRADIENTS, entry by entry. -/
module

public import proofs.«01_k».proof.Proof.Gen.Reference4Ideal.Read
public import proofs.«01_k».proof.Proof.NormSpec
public import Idealize.ShloMosaic.Lib.Pointwise
public import Idealize.ShloMosaic.Lib.Pipeline.ValueKit

@[expose] public section

set_option maxRecDepth 16384

noncomputable section

namespace Cert.Reference4Ideal.Norm

open Idealize.ShloMosaic Idealize.ShloMosaic.TcCoe Cert.Reference4Ideal Cert.Reference4Ideal.Gen Cert.Reference4Ideal.Read Cert.Grid
open Cert.Norm Idealize.SL.Sem

variable {x0 : (⟨S8192x7168, .bf16⟩ : BufTy).Contents (Elt Ideal)} {x1 : (⟨S1024x7168, .bf16⟩ : BufTy).Contents (Elt Ideal)}
  {x2 : (⟨S8192x1024, .f32⟩ : BufTy).Contents (Elt Ideal)} {x3 : (⟨S1x1024, .f32⟩ : BufTy).Contents (Elt Ideal)}
  {x4 : (⟨S8192x1024, .f32⟩ : BufTy).Contents (Elt Ideal)} {dp w x g dr : ℕ → ℕ → EReal}

theorem dproj_apply (h0 : Holds2 x0 dp) (h1 : Holds2 x1 w) (n : Fin 8192) (d : Fin 1024) :
    val_main_v18 x0 x1 (ix2 n d) = dproj dp w n d := by
  pointwise [val_main_v18, val_main_v17, val_main_v15]
  simp only [h0 _, h1 _]
  rfl

theorem meansq_apply (h2 : Holds2 x2 x) (n : Fin 8192) (z : Fin 1) : val_main_v6 x2 (ix2 n z) = meansq x n := by
  pointwise [val_main_v6, val_main_v5, val_main_v4, val_main_v3, val_main_v2, val_main_v1, val_main_v0, val_main_cst, val_main_cst_0,
    val_main_cst_1]
  simp only [h2 _]
  rfl

theorem dweight_apply (h0 : Holds2 x0 dp) (h1 : Holds2 x1 w) (h2 : Holds2 x2 x) (z : Fin 1) (d : Fin 1024) :
    val_main_v21 x0 x1 x2 (ix2 z d) = dweight x (dproj dp w) d := by
  pointwise [val_main_v21, val_main_v20, val_main_v19, val_main_v12, val_main_v11, val_main_v7, val_main_cst_3]
  simp only [dproj_apply h0 h1, meansq_apply h2, h2 _]
  rfl

theorem dsquare_apply (h0 : Holds2 x0 dp) (h1 : Holds2 x1 w) (h2 : Holds2 x2 x) (h3 : Holds2 x3 g) (n : Fin 8192) (d : Fin 1024) :
    val_main_v33 x0 x1 x2 x3 (ix2 n d) = dsquare x g (dproj dp w) n := by
  pointwise [val_main_v33, val_main_v32, val_main_v31, val_main_v30, val_main_v29, val_main_v26, val_main_v25, val_main_v24, val_main_v23,
    val_main_v22, val_main_v10, val_main_v9, val_main_v8, val_main_v7, val_main_cst_2, val_main_cst_4, val_main_cst_5, val_main_cst_6]
  simp only [dproj_apply h0 h1, meansq_apply h2, h2 _, h3 _, Fin.sum_univ_one]
  rfl

theorem dtoken_apply (h0 : Holds2 x0 dp) (h1 : Holds2 x1 w) (h2 : Holds2 x2 x) (h3 : Holds2 x3 g) (h4 : Holds2 x4 dr) (n : Fin 8192)
    (d : Fin 1024) : val_main_v38 x0 x1 x2 x3 x4 (ix2 n d) = dr n d + dtoken x g (dproj dp w) n d := by
  pointwise [val_main_v38, val_main_v37, val_main_v36, val_main_v35, val_main_v34, val_main_v28, val_main_v27, val_main_v23, val_main_v22,
    val_main_v7]
  simp only [dproj_apply h0 h1, meansq_apply h2, dsquare_apply h0 h1 h2 h3, h2 _, h3 _, h4 _]
  rfl

theorem dtoken_value (h0 : Holds2 x0 dp) (h1 : Holds2 x1 w) (h2 : Holds2 x2 x) (h3 : Holds2 x3 g) (h4 : Holds2 x4 dr) :
    val_main_v38 x0 x1 x2 x3 x4 = fun i => dr (i 0).val (i 1).val + dtoken x g (dproj dp w) (i 0).val (i 1).val :=
  funext fun i => (congrArg _ (eq_ix2 i)).trans (dtoken_apply h0 h1 h2 h3 h4 _ _)

theorem dweight_value (h0 : Holds2 x0 dp) (h1 : Holds2 x1 w) (h2 : Holds2 x2 x) :
    val_main_v21 x0 x1 x2 = fun i => dweight x (dproj dp w) (i 1).val :=
  funext fun i => (congrArg _ (eq_ix2 i)).trans (dweight_apply h0 h1 h2 _ _)

end Cert.Reference4Ideal.Norm

end
-- ==== Proof.NormClaims.lean ====
/- THE VALUE CLAIM OF THE NORM'S AND THE INPUT PROJECTION'S GRADIENTS: both results are the reference's. -/
module

public import proofs.«01_k».proof.Defs
public import proofs.«01_k».proof.Proof.Gen.Reference4Ideal.Run
public import proofs.«01_k».proof.Proof.NormBackward
public import proofs.«01_k».proof.Proof.NormReference

@[expose] public section

set_option maxRecDepth 16384

noncomputable section

namespace Cert.Proof

open Idealize.ShloMosaic Idealize.SL.Sem Cert.Grid

/-- The reference of the norm's gradient runs, with its arguments unchanged and no counter. -/
theorem reference_frame4 : Cert.quiescent_Reference4Ideal := fun m g _ =>
  (θ_run (Cert.Reference4Ideal.defs (F := Ideal)) _ _).mono
    (fun r h => ⟨fun c => (h c).2.2, sem_eq_zero_of_no_sems (by decide) r.2⟩) (Cert.Reference4Ideal.Value.run m g)

/-- The gradients of the norm and the input projection are the reference's. -/
theorem algebraic4 : Cert.algebraic_Kernel4Ideal_Reference4Ideal := by
  intro m g m' g' _ hargs
  refine ⟨_, _, Cert.Kernel4Ideal.Value.run_blocks m g, ?_⟩
  refine (θ_run (Cert.Reference4Ideal.defs (F := Ideal)) _ _).mono (fun r h c => ?_) (Cert.Reference4Ideal.Value.run m' g')
  obtain ⟨a0, a1, a2, a3, a4⟩ := hargs c
  have h0 := holds2 (m ((c.tc : Thread Cert.Kernel4Ideal.nD Cert.Kernel4Ideal.τ).loc Cert.Kernel4Ideal.main_arg0))
  have h1 := holds2 (m ((c.tc : Thread Cert.Kernel4Ideal.nD Cert.Kernel4Ideal.τ).loc Cert.Kernel4Ideal.main_arg1))
  have h2 := holds2 (m ((c.tc : Thread Cert.Kernel4Ideal.nD Cert.Kernel4Ideal.τ).loc Cert.Kernel4Ideal.main_arg2))
  have h3 := holds2 (m ((c.tc : Thread Cert.Kernel4Ideal.nD Cert.Kernel4Ideal.τ).loc Cert.Kernel4Ideal.main_arg3))
  have h4 := holds2 (m ((c.tc : Thread Cert.Kernel4Ideal.nD Cert.Kernel4Ideal.τ).loc Cert.Kernel4Ideal.main_arg4))
  refine ⟨(h c).1.trans ?_, (h c).2.1.trans ?_, (h c).2.2⟩
  · rw [Cert.Reference4Ideal.Read.val_main_v38_eq, a0, a1, a2, a3, a4]
    exact (Cert.Reference4Ideal.Norm.dtoken_value h0 h1 h2 h3 h4).trans
      (Cert.Kernel4Ideal.Norm.dtoken_array m c h0 h1 h2 h3 h4).symm
  · rw [Cert.Reference4Ideal.Read.val_main_v21_eq, a0, a1, a2]
    exact (Cert.Reference4Ideal.Norm.dweight_value h0 h1 h2).trans
      (Cert.Kernel4Ideal.Norm.dweight_array m c h0 h1 h2).symm

end Cert.Proof

end
-- ==== Proof.WeightRun.lean ====
/- THE RUN OF THE EIGHT CALLS THAT MAKE THE WEIGHTS' GRADIENTS, with what every array holds at the end. -/
module

public import proofs.«01_k».proof.Proof.Gen.Kernel3Ideal.Frame

@[expose] public section

set_option maxRecDepth 16384

noncomputable section

namespace Cert.Kernel3Ideal.Weights

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution from zero counters terminates, with each of the eight results at the contents that the last call's
    boundary `W11` gives it, and each argument as launched. -/
theorem run : θ_run defs (onTc (τ := τ) (main (F := F))) ⟨m, fun _ => 0, ρ⟩ (fun r => ∀ c : Dev nD,
      r.2.mem ((c.tc : Thread nD τ).loc main_v0) = W11 m ρ c (Proc.devRef .tc main_v0)
      ∧ r.2.mem ((c.tc : Thread nD τ).loc main_v1) = W11 m ρ c (Proc.devRef .tc main_v1)
      ∧ r.2.mem ((c.tc : Thread nD τ).loc main_v2) = W11 m ρ c (Proc.devRef .tc main_v2)
      ∧ r.2.mem ((c.tc : Thread nD τ).loc main_v3) = W11 m ρ c (Proc.devRef .tc main_v3)
      ∧ r.2.mem ((c.tc : Thread nD τ).loc main_v5) = W11 m ρ c (Proc.devRef .tc main_v5)
      ∧ r.2.mem ((c.tc : Thread nD τ).loc main_v7) = W11 m ρ c (Proc.devRef .tc main_v7)
      ∧ r.2.mem ((c.tc : Thread nD τ).loc main_v9) = W11 m ρ c (Proc.devRef .tc main_v9)
      ∧ r.2.mem ((c.tc : Thread nD τ).loc main_v10) = W11 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h hz c =>
      ⟨h c _ (mem_uc main_v0 (by decide)),
       h c _ (mem_uc main_v1 (by decide)),
       h c _ (mem_uc main_v2 (by decide)),
       h c _ (mem_uc main_v3 (by decide)),
       h c _ (mem_uc main_v5 (by decide)),
       h c _ (mem_uc main_v7 (by decide)),
       h c _ (mem_uc main_v9 (by decide)),
       h c _ (mem_uc main_v10 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c)⟩)

end Cert.Kernel3Ideal.Weights

end
-- ==== Proof.WeightSpec.lean ====
/- THE GRADIENT OF A WEIGHT: over all tokens, the sum of the products of the layer's input and the gradient of its output, and
   how a sum that runs over blocks of 1024 tokens comes to it. -/
module

public import proofs.«01_k».proof.Proof.Grids
public import Idealize.ShloMosaic.Lib.Pipeline.ValueKit

@[expose] public section

noncomputable section

namespace Cert.Weights

open Idealize.ShloMosaic

/-- The gradient of the weight `w` in `x w` at row `i` and column `j`, for the gradient `d` of the product. -/
def grad (x d : ℕ → ℕ → EReal) (i j : ℕ) : EReal := ∑ n : Fin 8192, x n i * d n j

/-- The part of it that block `s` of the tokens gives. -/
def part (x d : ℕ → ℕ → EReal) (s i j : ℕ) : EReal := ∑ r : Fin 1024, x (s * 1024 + r) i * d (s * 1024 + r) j

theorem sum_part (x d : ℕ → ℕ → EReal) (i j : ℕ) : ∑ s : Fin 8, part x d s i j = grad x d i j := by
  have h := Finset.sum_range_range_mul_add 8 1024 fun n => x n i * d n j
  simp only [Finset.sum_range] at h
  exact h

/-- A block of the output that is started at the first of eight points and added to at the seven others holds the gradient:
    the points of tile `a` are `8 a` to `8 a + 7`, and the tile's entry `i`, `j` is the gradient's entry `I a i`, `J a j`. -/
theorem grad_of_steps {N n0 n1 : ℕ} (out : (n : ℕ) → n < N → (⟨2, ![n0, n1]⟩ : Shape).Idx → EReal) {x d : ℕ → ℕ → EReal}
    (I J : ℕ → ℕ → ℕ)
    (first : ∀ t : Fin N, t.val % 8 = 0 → ∀ (i : Fin n0) (j : Fin n1),
      out t.val t.isLt (ix2 i j) = 0 + part x d (t.val % 8) (I (t.val / 8) i) (J (t.val / 8) j))
    (step : ∀ t : Fin N, ¬t.val % 8 = 0 → ∀ (i : Fin n0) (j : Fin n1),
      out t.val t.isLt (ix2 i j) = out (t.val - 1) (Nat.lt_of_le_of_lt (Nat.sub_le _ _) t.isLt) (ix2 i j)
        + part x d (t.val % 8) (I (t.val / 8) i) (J (t.val / 8) j))
    (t : Fin N) (ht : t.val % 8 = 7) (y : (⟨2, ![n0, n1]⟩ : Shape).Idx) :
    out t.val t.isLt y = grad x d (I (t.val / 8) (y 0).val) (J (t.val / 8) (y 1).val) := by
  have h := Pipeline.eq_sum_of_reset_step_apply_divmod out 8 (fun _ => 0)
    (fun a s (y : (⟨2, ![n0, n1]⟩ : Shape).Idx) => part x d s (I a (y 0).val) (J a (y 1).val))
    (fun t h y => by rw [eq_ix2 y]; exact first t h _ _) (fun t h y => by rw [eq_ix2 y]; exact step t h _ _) t y
  refine h.trans ?_
  rw [ht, zero_add]
  exact sum_part _ _ _ _

end Cert.Weights

end
-- ==== Proof.WeightKernel.lean ====
/- THE EIGHT CALLS THAT MAKE THE WEIGHTS' GRADIENTS: what each leaves in its result. In every call point `t` works on block
   `t % 8` of 1024 tokens and on tile `t / 8` of the weight, whose block of the output is started at the first block of tokens
   and added to at the others. -/
module

public import proofs.«01_k».proof.Proof.Gen.Kernel3Ideal.Frame
public import proofs.«01_k».proof.Proof.WeightSpec

@[expose] public section

set_option maxRecDepth 16384

noncomputable section

namespace Cert.Kernel3Ideal.Weights

open Idealize.ShloMosaic Idealize.ShloMosaic.TcCoe Cert.Kernel3Ideal.Gen Cert.Grid Cert.Weights
open Idealize.SL.Sem

variable (V : (c : Dev nD) → (b : Ref sig .tc) → Buf (Elt Ideal) ((c : Thread nD τ).loc b)) (c : Dev nD)
  {x d : ℕ → ℕ → EReal}

/-! ## What a point adds: the product of the two blocks, added to what is there -/

theorem pay0_apply (z : Vec Ideal S1024x1408 .f32) (u : Vec Ideal S1024x1024 .bf16) (v : Vec Ideal S1024x1408 .bf16) (i : Fin 1024)
    (j : Fin 1408) : k0_pay2 z u v (ix2 i j) = z (ix2 i j) + ∑ r : Fin 1024, u (ix2 r i) * v (ix2 r j) := by
  pointwise [k0_pay2]

theorem pay2_apply (z : Vec Ideal S1408x1024 .f32) (u : Vec Ideal S1024x1408 .bf16) (v : Vec Ideal S1024x1024 .f32) (i : Fin 1408)
    (j : Fin 1024) : k2_pay2 z u v (ix2 i j) = z (ix2 i j) + ∑ r : Fin 1024, u (ix2 r i) * v (ix2 r j) := by
  pointwise [k2_pay2]

theorem pay3_apply (z : Vec Ideal S1024x1024 .f32) (u : Vec Ideal S1024x1024 .bf16) (v : Vec Ideal S1024x1024 .f32) (i : Fin 1024)
    (j : Fin 1024) : k3_pay2 z u v (ix2 i j) = z (ix2 i j) + ∑ r : Fin 1024, u (ix2 r i) * v (ix2 r j) := by
  pointwise [k3_pay2]

theorem pay4_apply (z : Vec Ideal S512x1024 .f32) (u : Vec Ideal S1024x512 .f32) (v : Vec Ideal S1024x1024 .bf16) (i : Fin 512)
    (j : Fin 1024) : k4_pay2 z u v (ix2 i j) = z (ix2 i j) + ∑ r : Fin 1024, u (ix2 r i) * v (ix2 r j) := by
  pointwise [k4_pay2]

theorem pay7_apply (z : Vec Ideal S1024x1024 .f32) (u : Vec Ideal S1024x1024 .bf16) (v : Vec Ideal S1024x1024 .bf16) (i : Fin 1024)
    (j : Fin 1024) : k7_pay2 z u v (ix2 i j) = z (ix2 i j) + ∑ r : Fin 1024, u (ix2 r i) * v (ix2 r j) := by
  pointwise [k7_pay2]

/-- A sum of products of two blocks is a part of the gradient. -/
theorem part_of_blocks {s i j : ℕ} {u : Fin 1024 → EReal} {v : Fin 1024 → EReal}
    (hu : ∀ r, u r = x (s * 1024 + r) i) (hv : ∀ r, v r = d (s * 1024 + r) j) : ∑ r : Fin 1024, u r * v r = part x d s i j :=
  Finset.sum_congr rfl fun r _ => by rw [hu, hv]

/-! ## The calls -/

theorem index0 : ∀ t : Fin cfg0.N, (cfg0.win 0).index t = ![t.val % 8, 0] ∧ (cfg0.win 1).index t = ![t.val % 8, t.val / 8]
    ∧ (cfg0.win 2).index t = ![0, t.val / 8] := by decide +kernel

/-- The gradient of the channel mixer's gate weight. -/
theorem gate_array (hx : Holds2 (V c main_arg0) x) (hd : Holds2 (V c main_arg1) d) :
    (dat0 V c).arrAt 2 cfg0.N = fun i => grad x d (i 0).val (i 1).val := by
  have hu (t : Fin cfg0.N) (r : Fin 1024) (i : Fin 1024) : iblk0 V c 0 t (ix2 r i) = x (t.val % 8 * 1024 + r) (i) := by
    unfold iblk0; refine (hx _).trans ?_; blk_simp [index0 t]
  have hv (t : Fin cfg0.N) (r : Fin 1024) (j : Fin 1408) : iblk0 V c 1 t (ix2 r j) = d (t.val % 8 * 1024 + r) (t.val / 8 * 1408 + j) := by
    unfold iblk0; refine (hd _).trans ?_; blk_simp [index0 t]
  refine (dat0 V c).arrAt_eq_of_covers 2 _ (by decide +kernel) fun t hf y => ?_
  have hm := (flush0_2 t).mp hf
  blk_simp [index0 t]
  rw [after0_2]
  refine grad_of_steps (outsAt0 V c) (fun _ i => i) (fun a j => a * 1408 + j) (fun t h i j => ?_) (fun t h i j => ?_) t hm y
  · rw [outsAt0_A V c t h]
    frame_out
    exact (pay0_apply _ _ _ i j).trans
      (congrArg₂ (· + ·) Ideal.ofBits_zero_f32 (part_of_blocks (fun r => hu t r i) (fun r => hv t r j)))
  · rw [outsAt0_B V c t h]
    frame_out
    exact (pay0_apply _ _ _ i j).trans (congrArg _ (part_of_blocks (fun r => hu t r i) (fun r => hv t r j)))

theorem index1 : ∀ t : Fin cfg1.N, (cfg1.win 0).index t = ![t.val % 8, 0] ∧ (cfg1.win 1).index t = ![t.val % 8, t.val / 8]
    ∧ (cfg1.win 2).index t = ![0, t.val / 8] := by decide +kernel

/-- The gradient of the channel mixer's up weight. -/
theorem up_array (hx : Holds2 (V c main_arg0) x) (hd : Holds2 (V c main_arg2) d) :
    (dat1 V c).arrAt 2 cfg1.N = fun i => grad x d (i 0).val (i 1).val := by
  have hu (t : Fin cfg1.N) (r : Fin 1024) (i : Fin 1024) : iblk1 V c 0 t (ix2 r i) = x (t.val % 8 * 1024 + r) (i) := by
    unfold iblk1; refine (hx _).trans ?_; blk_simp [index1 t]
  have hv (t : Fin cfg1.N) (r : Fin 1024) (j : Fin 1408) : iblk1 V c 1 t (ix2 r j) = d (t.val % 8 * 1024 + r) (t.val / 8 * 1408 + j) := by
    unfold iblk1; refine (hd _).trans ?_; blk_simp [index1 t]
  refine (dat1 V c).arrAt_eq_of_covers 2 _ (by decide +kernel) fun t hf y => ?_
  have hm := (flush1_2 t).mp hf
  blk_simp [index1 t]
  rw [after1_2]
  refine grad_of_steps (outsAt1 V c) (fun _ i => i) (fun a j => a * 1408 + j) (fun t h i j => ?_) (fun t h i j => ?_) t hm y
  · rw [outsAt1_A V c t h]
    frame_out
    exact (pay0_apply _ _ _ i j).trans
      (congrArg₂ (· + ·) Ideal.ofBits_zero_f32 (part_of_blocks (fun r => hu t r i) (fun r => hv t r j)))
  · rw [outsAt1_B V c t h]
    frame_out
    exact (pay0_apply _ _ _ i j).trans (congrArg _ (part_of_blocks (fun r => hu t r i) (fun r => hv t r j)))

theorem index2 : ∀ t : Fin cfg2.N, (cfg2.win 0).index t = ![t.val % 8, t.val / 8] ∧ (cfg2.win 1).index t = ![t.val % 8, 0]
    ∧ (cfg2.win 2).index t = ![t.val / 8, 0] := by decide +kernel

/-- The gradient of the channel mixer's down weight. -/
theorem down_array (hx : Holds2 (V c main_arg3) x) (hd : Holds2 (V c main_arg4) d) :
    (dat2 V c).arrAt 2 cfg2.N = fun i => grad x d (i 0).val (i 1).val := by
  have hu (t : Fin cfg2.N) (r : Fin 1024) (i : Fin 1408) : iblk2 V c 0 t (ix2 r i) = x (t.val % 8 * 1024 + r) (t.val / 8 * 1408 + i) := by
    unfold iblk2; refine (hx _).trans ?_; blk_simp [index2 t]
  have hv (t : Fin cfg2.N) (r : Fin 1024) (j : Fin 1024) : iblk2 V c 1 t (ix2 r j) = d (t.val % 8 * 1024 + r) (j) := by
    unfold iblk2; refine (hd _).trans ?_; blk_simp [index2 t]
  refine (dat2 V c).arrAt_eq_of_covers 2 _ (by decide +kernel) fun t hf y => ?_
  have hm := (flush2_2 t).mp hf
  blk_simp [index2 t]
  rw [after2_2]
  refine grad_of_steps (outsAt2 V c) (fun a i => a * 1408 + i) (fun _ j => j) (fun t h i j => ?_) (fun t h i j => ?_) t hm y
  · rw [outsAt2_A V c t h]
    frame_out
    exact (pay2_apply _ _ _ i j).trans
      (congrArg₂ (· + ·) Ideal.ofBits_zero_f32 (part_of_blocks (fun r => hu t r i) (fun r => hv t r j)))
  · rw [outsAt2_B V c t h]
    frame_out
    exact (pay2_apply _ _ _ i j).trans (congrArg _ (part_of_blocks (fun r => hu t r i) (fun r => hv t r j)))

theorem index3 : ∀ t : Fin cfg3.N, (cfg3.win 0).index t = ![t.val % 8, 0] ∧ (cfg3.win 1).index t = ![t.val % 8, 0]
    ∧ (cfg3.win 2).index t = ![0, 0] := by decide +kernel

/-- The gradient of the merge's output weight. -/
theorem out_array (hx : Holds2 (V c main_arg5) x) (hd : Holds2 (V c main_arg6) d) :
    (dat3 V c).arrAt 2 cfg3.N = fun i => grad x d (i 0).val (i 1).val := by
  have hu (t : Fin cfg3.N) (r : Fin 1024) (i : Fin 1024) : iblk3 V c 0 t (ix2 r i) = x (t.val % 8 * 1024 + r) (i) := by
    unfold iblk3; refine (hx _).trans ?_; blk_simp [index3 t]
  have hv (t : Fin cfg3.N) (r : Fin 1024) (j : Fin 1024) : iblk3 V c 1 t (ix2 r j) = d (t.val % 8 * 1024 + r) (j) := by
    unfold iblk3; refine (hd _).trans ?_; blk_simp [index3 t]
  refine (dat3 V c).arrAt_eq_of_covers 2 _ (by decide +kernel) fun t hf y => ?_
  have hm := (flush3_2 t).mp hf
  blk_simp [index3 t]
  rw [after3_2]
  refine grad_of_steps (outsAt3 V c) (fun _ i => i) (fun _ j => j) (fun t h i j => ?_) (fun t h i j => ?_) t hm y
  · rw [outsAt3_A V c t h]
    frame_out
    exact (pay3_apply _ _ _ i j).trans
      (congrArg₂ (· + ·) Ideal.ofBits_zero_f32 (part_of_blocks (fun r => hu t r i) (fun r => hv t r j)))
  · rw [outsAt3_B V c t h]
    frame_out
    exact (pay3_apply _ _ _ i j).trans (congrArg _ (part_of_blocks (fun r => hu t r i) (fun r => hv t r j)))

theorem index4 : ∀ t : Fin cfg4.N, (cfg4.win 0).index t = ![t.val % 8, 0] ∧ (cfg4.win 1).index t = ![t.val % 8, 0]
    ∧ (cfg4.win 2).index t = ![0, 0] := by decide +kernel

/-- The gradient of the first branch's weight. -/
theorem branch0_array (hx : Holds2 (V c main_arg7) x) (hd : Holds2 (V c main_v4) d) :
    (dat4 V c).arrAt 2 cfg4.N = fun i => grad x d (i 0).val (i 1).val := by
  have hu (t : Fin cfg4.N) (r : Fin 1024) (i : Fin 512) : iblk4 V c 0 t (ix2 r i) = x (t.val % 8 * 1024 + r) (i) := by
    unfold iblk4; refine (hx _).trans ?_; blk_simp [index4 t]
  have hv (t : Fin cfg4.N) (r : Fin 1024) (j : Fin 1024) : iblk4 V c 1 t (ix2 r j) = d (t.val % 8 * 1024 + r) (j) := by
    unfold iblk4; refine (hd _).trans ?_; blk_simp [index4 t]
  refine (dat4 V c).arrAt_eq_of_covers 2 _ (by decide +kernel) fun t hf y => ?_
  have hm := (flush4_2 t).mp hf
  blk_simp [index4 t]
  rw [after4_2]
  refine grad_of_steps (outsAt4 V c) (fun _ i => i) (fun _ j => j) (fun t h i j => ?_) (fun t h i j => ?_) t hm y
  · rw [outsAt4_A V c t h]
    frame_out
    exact (pay4_apply _ _ _ i j).trans
      (congrArg₂ (· + ·) Ideal.ofBits_zero_f32 (part_of_blocks (fun r => hu t r i) (fun r => hv t r j)))
  · rw [outsAt4_B V c t h]
    frame_out
    exact (pay4_apply _ _ _ i j).trans (congrArg _ (part_of_blocks (fun r => hu t r i) (fun r => hv t r j)))

theorem index5 : ∀ t : Fin cfg5.N, (cfg5.win 0).index t = ![t.val % 8, 0] ∧ (cfg5.win 1).index t = ![t.val % 8, 0]
    ∧ (cfg5.win 2).index t = ![0, 0] := by decide +kernel

/-- The gradient of the second branch's weight. -/
theorem branch1_array (hx : Holds2 (V c main_arg8) x) (hd : Holds2 (V c main_v6) d) :
    (dat5 V c).arrAt 2 cfg5.N = fun i => grad x d (i 0).val (i 1).val := by
  have hu (t : Fin cfg5.N) (r : Fin 1024) (i : Fin 512) : iblk5 V c 0 t (ix2 r i) = x (t.val % 8 * 1024 + r) (i) := by
    unfold iblk5; refine (hx _).trans ?_; blk_simp [index5 t]
  have hv (t : Fin cfg5.N) (r : Fin 1024) (j : Fin 1024) : iblk5 V c 1 t (ix2 r j) = d (t.val % 8 * 1024 + r) (j) := by
    unfold iblk5; refine (hd _).trans ?_; blk_simp [index5 t]
  refine (dat5 V c).arrAt_eq_of_covers 2 _ (by decide +kernel) fun t hf y => ?_
  have hm := (flush5_2 t).mp hf
  blk_simp [index5 t]
  rw [after5_2]
  refine grad_of_steps (outsAt5 V c) (fun _ i => i) (fun _ j => j) (fun t h i j => ?_) (fun t h i j => ?_) t hm y
  · rw [outsAt5_A V c t h]
    frame_out
    exact (pay4_apply _ _ _ i j).trans
      (congrArg₂ (· + ·) Ideal.ofBits_zero_f32 (part_of_blocks (fun r => hu t r i) (fun r => hv t r j)))
  · rw [outsAt5_B V c t h]
    frame_out
    exact (pay4_apply _ _ _ i j).trans (congrArg _ (part_of_blocks (fun r => hu t r i) (fun r => hv t r j)))

theorem index6 : ∀ t : Fin cfg6.N, (cfg6.win 0).index t = ![t.val % 8, 0] ∧ (cfg6.win 1).index t = ![t.val % 8, 0]
    ∧ (cfg6.win 2).index t = ![0, 0] := by decide +kernel

/-- The gradient of the third branch's weight. -/
theorem branch2_array (hx : Holds2 (V c main_arg9) x) (hd : Holds2 (V c main_v8) d) :
    (dat6 V c).arrAt 2 cfg6.N = fun i => grad x d (i 0).val (i 1).val := by
  have hu (t : Fin cfg6.N) (r : Fin 1024) (i : Fin 512) : iblk6 V c 0 t (ix2 r i) = x (t.val % 8 * 1024 + r) (i) := by
    unfold iblk6; refine (hx _).trans ?_; blk_simp [index6 t]
  have hv (t : Fin cfg6.N) (r : Fin 1024) (j : Fin 1024) : iblk6 V c 1 t (ix2 r j) = d (t.val % 8 * 1024 + r) (j) := by
    unfold iblk6; refine (hd _).trans ?_; blk_simp [index6 t]
  refine (dat6 V c).arrAt_eq_of_covers 2 _ (by decide +kernel) fun t hf y => ?_
  have hm := (flush6_2 t).mp hf
  blk_simp [index6 t]
  rw [after6_2]
  refine grad_of_steps (outsAt6 V c) (fun _ i => i) (fun _ j => j) (fun t h i j => ?_) (fun t h i j => ?_) t hm y
  · rw [outsAt6_A V c t h]
    frame_out
    exact (pay4_apply _ _ _ i j).trans
      (congrArg₂ (· + ·) Ideal.ofBits_zero_f32 (part_of_blocks (fun r => hu t r i) (fun r => hv t r j)))
  · rw [outsAt6_B V c t h]
    frame_out
    exact (pay4_apply _ _ _ i j).trans (congrArg _ (part_of_blocks (fun r => hu t r i) (fun r => hv t r j)))

theorem index7 : ∀ t : Fin cfg7.N, (cfg7.win 0).index t = ![t.val % 8, 0] ∧ (cfg7.win 1).index t = ![t.val % 8, t.val / 8]
    ∧ (cfg7.win 2).index t = ![0, t.val / 8] := by decide +kernel

/-- The gradient of the input projection's weight. -/
theorem input_array (hx : Holds2 (V c main_arg11) x) (hd : Holds2 (V c main_arg12) d) :
    (dat7 V c).arrAt 2 cfg7.N = fun i => grad x d (i 0).val (i 1).val := by
  have hu (t : Fin cfg7.N) (r : Fin 1024) (i : Fin 1024) : iblk7 V c 0 t (ix2 r i) = x (t.val % 8 * 1024 + r) (i) := by
    unfold iblk7; refine (hx _).trans ?_; blk_simp [index7 t]
  have hv (t : Fin cfg7.N) (r : Fin 1024) (j : Fin 1024) : iblk7 V c 1 t (ix2 r j) = d (t.val % 8 * 1024 + r) (t.val / 8 * 1024 + j) := by
    unfold iblk7; refine (hd _).trans ?_; blk_simp [index7 t]
  refine (dat7 V c).arrAt_eq_of_covers 2 _ (by decide +kernel) fun t hf y => ?_
  have hm := (flush7_2 t).mp hf
  blk_simp [index7 t]
  rw [after7_2]
  refine grad_of_steps (outsAt7 V c) (fun _ i => i) (fun a j => a * 1024 + j) (fun t h i j => ?_) (fun t h i j => ?_) t hm y
  · rw [outsAt7_A V c t h]
    frame_out
    exact (pay7_apply _ _ _ i j).trans
      (congrArg₂ (· + ·) Ideal.ofBits_zero_f32 (part_of_blocks (fun r => hu t r i) (fun r => hv t r j)))
  · rw [outsAt7_B V c t h]
    frame_out
    exact (pay7_apply _ _ _ i j).trans (congrArg _ (part_of_blocks (fun r => hu t r i) (fun r => hv t r j)))

end Cert.Kernel3Ideal.Weights

end
-- ==== Proof.WeightResults.lean ====
/- THE WEIGHTS' GRADIENTS AFTER THE EIGHT CALLS: every result at the end, in terms of what the arguments hold at launch. -/
module

public import proofs.«01_k».proof.Proof.WeightKernel

@[expose] public section

set_option maxRecDepth 16384

noncomputable section

namespace Cert.Kernel3Ideal.Weights

open Idealize.ShloMosaic Idealize.ShloMosaic.TcCoe Cert.Kernel3Ideal Cert.Kernel3Ideal.Gen Cert.Grid Cert.Weights
open Idealize.SL.Sem

variable (m : (ℓ : Loc nD τ sig) → Buf (Elt Ideal) ℓ) (ρ : Dev nD → PrngReg) (c : Dev nD) {x d : ℕ → ℕ → EReal}

/-- What an array holds, an equal one holds. -/
theorem holds_after {n0 n1 : ℕ} {x y : (⟨2, ![n0, n1]⟩ : Shape).Idx → EReal} {f : ℕ → ℕ → EReal} (e : y = x) (h : Holds2 x f) :
    Holds2 y f := e ▸ h

/-- The first of the three arrays side by side in the eleventh argument. -/
theorem slice0 (h : Holds2 (m ((c : Thread nD τ).loc main_arg10)) d) :
    Holds2 (V5 m ρ c main_v4) fun n j => d n j := by
  intro y
  have e : V5 m ρ c main_v4 = extractStridedSlice S8192x1024 ![0, 0] (V4 m ρ c main_arg10) slices_S8192x3072_S8192x1024_0_0 := by
    show StableHlo.after hostOps4 (W4 m ρ c) (Proc.devRef .tc main_v4) = _
    rw [hostOps4, StableHlo.after_cons, StableHlo.after_nil, StableHlo.unary_result]
  rw [e]
  pointwise []
  exact holds_after (W4_args m ρ c main_arg10 (by decide)) h _

/-- The second of the three arrays side by side in the eleventh argument. -/
theorem slice1 (h : Holds2 (m ((c : Thread nD τ).loc main_arg10)) d) :
    Holds2 (V7 m ρ c main_v6) fun n j => d n (1024 + j) := by
  intro y
  have e : V7 m ρ c main_v6 = extractStridedSlice S8192x1024 ![0, 1024] (V6 m ρ c main_arg10) slices_S8192x3072_S8192x1024_0_1024 := by
    show StableHlo.after hostOps5 (W6 m ρ c) (Proc.devRef .tc main_v6) = _
    rw [hostOps5, StableHlo.after_cons, StableHlo.after_nil, StableHlo.unary_result]
  rw [e]
  pointwise []
  exact holds_after (W6_args m ρ c main_arg10 (by decide)) h _

/-- The third of the three arrays side by side in the eleventh argument. -/
theorem slice2 (h : Holds2 (m ((c : Thread nD τ).loc main_arg10)) d) :
    Holds2 (V9 m ρ c main_v8) fun n j => d n (2048 + j) := by
  intro y
  have e : V9 m ρ c main_v8 = extractStridedSlice S8192x1024 ![0, 2048] (V8 m ρ c main_arg10) slices_S8192x3072_S8192x1024_0_2048 := by
    show StableHlo.after hostOps6 (W8 m ρ c) (Proc.devRef .tc main_v8) = _
    rw [hostOps6, StableHlo.after_cons, StableHlo.after_nil, StableHlo.unary_result]
  rw [e]
  pointwise []
  exact holds_after (W8_args m ρ c main_arg10 (by decide)) h _

theorem gate_result (hx : Holds2 (m ((c : Thread nD τ).loc main_arg0)) x) (hd : Holds2 (m ((c : Thread nD τ).loc main_arg1)) d) :
    W11 m ρ c (Proc.devRef .tc main_v0) = fun i => grad x d (i 0).val (i 1).val :=
  (W11_of m ρ c main_v0 (by decide)).trans <| (W10_of m ρ c main_v0 (by decide)).trans <|
  (W9_of m ρ c main_v0 (by decide)).trans <| (W8_of m ρ c main_v0 (by decide)).trans <|
  (W7_of m ρ c main_v0 (by decide)).trans <| (W6_of m ρ c main_v0 (by decide)).trans <|
  (W5_of m ρ c main_v0 (by decide)).trans <| (W4_of m ρ c main_v0 (by decide)).trans <|
  (W3_of m ρ c main_v0 (by decide)).trans <| (W2_of m ρ c main_v0 (by decide)).trans <|
  (W1_arr m ρ c 2).trans (gate_array (V0 m ρ) c hx hd)

theorem up_result (hx : Holds2 (m ((c : Thread nD τ).loc main_arg0)) x) (hd : Holds2 (m ((c : Thread nD τ).loc main_arg2)) d) :
    W11 m ρ c (Proc.devRef .tc main_v1) = fun i => grad x d (i 0).val (i 1).val :=
  (W11_of m ρ c main_v1 (by decide)).trans <| (W10_of m ρ c main_v1 (by decide)).trans <|
  (W9_of m ρ c main_v1 (by decide)).trans <| (W8_of m ρ c main_v1 (by decide)).trans <|
  (W7_of m ρ c main_v1 (by decide)).trans <| (W6_of m ρ c main_v1 (by decide)).trans <|
  (W5_of m ρ c main_v1 (by decide)).trans <| (W4_of m ρ c main_v1 (by decide)).trans <|
  (W3_of m ρ c main_v1 (by decide)).trans <|
  (W2_arr m ρ c 2).trans (up_array (V1 m ρ) c (holds_after (W1_args m ρ c main_arg0 (by decide)) hx) (holds_after (W1_args m ρ c main_arg2 (by decide)) hd))

theorem down_result (hx : Holds2 (m ((c : Thread nD τ).loc main_arg3)) x) (hd : Holds2 (m ((c : Thread nD τ).loc main_arg4)) d) :
    W11 m ρ c (Proc.devRef .tc main_v2) = fun i => grad x d (i 0).val (i 1).val :=
  (W11_of m ρ c main_v2 (by decide)).trans <| (W10_of m ρ c main_v2 (by decide)).trans <|
  (W9_of m ρ c main_v2 (by decide)).trans <| (W8_of m ρ c main_v2 (by decide)).trans <|
  (W7_of m ρ c main_v2 (by decide)).trans <| (W6_of m ρ c main_v2 (by decide)).trans <|
  (W5_of m ρ c main_v2 (by decide)).trans <| (W4_of m ρ c main_v2 (by decide)).trans <|
  (W3_arr m ρ c 2).trans (down_array (V2 m ρ) c (holds_after (W2_args m ρ c main_arg3 (by decide)) hx) (holds_after (W2_args m ρ c main_arg4 (by decide)) hd))

theorem out_result (hx : Holds2 (m ((c : Thread nD τ).loc main_arg5)) x) (hd : Holds2 (m ((c : Thread nD τ).loc main_arg6)) d) :
    W11 m ρ c (Proc.devRef .tc main_v3) = fun i => grad x d (i 0).val (i 1).val :=
  (W11_of m ρ c main_v3 (by decide)).trans <| (W10_of m ρ c main_v3 (by decide)).trans <|
  (W9_of m ρ c main_v3 (by decide)).trans <| (W8_of m ρ c main_v3 (by decide)).trans <|
  (W7_of m ρ c main_v3 (by decide)).trans <| (W6_of m ρ c main_v3 (by decide)).trans <|
  (W5_of m ρ c main_v3 (by decide)).trans <|
  (W4_arr m ρ c 2).trans (out_array (V3 m ρ) c (holds_after (W3_args m ρ c main_arg5 (by decide)) hx) (holds_after (W3_args m ρ c main_arg6 (by decide)) hd))

theorem branch0_result (hx : Holds2 (m ((c : Thread nD τ).loc main_arg7)) x) (hd : Holds2 (m ((c : Thread nD τ).loc main_arg10)) d) :
    W11 m ρ c (Proc.devRef .tc main_v5) = fun i => grad x (fun n j => d n j) (i 0).val (i 1).val :=
  (W11_of m ρ c main_v5 (by decide)).trans <| (W10_of m ρ c main_v5 (by decide)).trans <|
  (W9_of m ρ c main_v5 (by decide)).trans <| (W8_of m ρ c main_v5 (by decide)).trans <|
  (W7_of m ρ c main_v5 (by decide)).trans <|
  (W6_arr m ρ c 2).trans (branch0_array (V5 m ρ) c (holds_after (W5_args m ρ c main_arg7 (by decide)) hx) (slice0 m ρ c hd))

theorem branch1_result (hx : Holds2 (m ((c : Thread nD τ).loc main_arg8)) x) (hd : Holds2 (m ((c : Thread nD τ).loc main_arg10)) d) :
    W11 m ρ c (Proc.devRef .tc main_v7) = fun i => grad x (fun n j => d n (1024 + j)) (i 0).val (i 1).val :=
  (W11_of m ρ c main_v7 (by decide)).trans <| (W10_of m ρ c main_v7 (by decide)).trans <|
  (W9_of m ρ c main_v7 (by decide)).trans <|
  (W8_arr m ρ c 2).trans (branch1_array (V7 m ρ) c (holds_after (W7_args m ρ c main_arg8 (by decide)) hx) (slice1 m ρ c hd))

theorem branch2_result (hx : Holds2 (m ((c : Thread nD τ).loc main_arg9)) x) (hd : Holds2 (m ((c : Thread nD τ).loc main_arg10)) d) :
    W11 m ρ c (Proc.devRef .tc main_v9) = fun i => grad x (fun n j => d n (2048 + j)) (i 0).val (i 1).val :=
  (W11_of m ρ c main_v9 (by decide)).trans <|
  (W10_arr m ρ c 2).trans (branch2_array (V9 m ρ) c (holds_after (W9_args m ρ c main_arg9 (by decide)) hx) (slice2 m ρ c hd))

theorem input_result (hx : Holds2 (m ((c : Thread nD τ).loc main_arg11)) x) (hd : Holds2 (m ((c : Thread nD τ).loc main_arg12)) d) :
    W11 m ρ c (Proc.devRef .tc main_v10) = fun i => grad x d (i 0).val (i 1).val :=
  (W11_arr m ρ c 2).trans (input_array (V10 m ρ) c (holds_after (W10_args m ρ c main_arg11 (by decide)) hx) (holds_after (W10_args m ρ c main_arg12 (by decide)) hd))

end Cert.Kernel3Ideal.Weights

end
-- ==== Proof.WeightReference.lean ====
/- THE REFERENCE'S GRADIENTS OF THE WEIGHTS, each the sum over the tokens that `grad` states. -/
module

public import proofs.«01_k».proof.Proof.Gen.Reference3Ideal.Read
public import proofs.«01_k».proof.Proof.WeightSpec
public import Idealize.ShloMosaic.Lib.Pointwise
public import Idealize.ShloMosaic.Lib.Pipeline.ValueKit

@[expose] public section

set_option maxRecDepth 16384

noncomputable section

namespace Cert.Reference3Ideal.Weights

open Idealize.ShloMosaic Idealize.ShloMosaic.TcCoe Cert.Reference3Ideal Cert.Reference3Ideal.Gen Cert.Reference3Ideal.Read Cert.Grid
open Cert.Weights Idealize.SL.Sem

variable {x0 : (⟨S8192x1024, .bf16⟩ : BufTy).Contents (Elt Ideal)} {x1 : (⟨S8192x2816, .bf16⟩ : BufTy).Contents (Elt Ideal)}
  {x2 : (⟨S8192x2816, .bf16⟩ : BufTy).Contents (Elt Ideal)} {x3 : (⟨S8192x2816, .bf16⟩ : BufTy).Contents (Elt Ideal)}
  {x4 : (⟨S8192x1024, .f32⟩ : BufTy).Contents (Elt Ideal)} {x5 : (⟨S8192x1024, .bf16⟩ : BufTy).Contents (Elt Ideal)}
  {x6 : (⟨S8192x1024, .f32⟩ : BufTy).Contents (Elt Ideal)} {x7 : (⟨S8192x512, .f32⟩ : BufTy).Contents (Elt Ideal)}
  {x8 : (⟨S8192x512, .f32⟩ : BufTy).Contents (Elt Ideal)} {x9 : (⟨S8192x512, .f32⟩ : BufTy).Contents (Elt Ideal)}
  {x10 : (⟨S8192x3072, .bf16⟩ : BufTy).Contents (Elt Ideal)} {x11 : (⟨S8192x1024, .bf16⟩ : BufTy).Contents (Elt Ideal)}
  {x12 : (⟨S8192x7168, .bf16⟩ : BufTy).Contents (Elt Ideal)}
  {x d : ℕ → ℕ → EReal}

/-- A sum over the tokens with the factors the other way round. -/
theorem grad_of_swapped {i j : ℕ} {u v : Fin 8192 → EReal} (hu : ∀ n, u n = d n j) (hv : ∀ n, v n = x n i) :
    ∑ n, u n * v n = grad x d i j :=
  Finset.sum_congr rfl fun n _ => by rw [hu, hv, mul_comm]

theorem gate_value (hx : Holds2 x0 x) (hd : Holds2 x1 d) :
    val_main_v8 x0 x1 = fun i => grad x d (i 0).val (i 1).val := by
  funext i
  rw [eq_ix2 i]
  pointwise [val_main_v8, val_main_v7, val_main_v6, val_main_v4]
  exact grad_of_swapped (fun n => hd _) (fun n => hx _)

theorem up_value (hx : Holds2 x0 x) (hd : Holds2 x2 d) :
    val_main_v14 x0 x2 = fun i => grad x d (i 0).val (i 1).val := by
  funext i
  rw [eq_ix2 i]
  pointwise [val_main_v14, val_main_v13, val_main_v12, val_main_v10]
  exact grad_of_swapped (fun n => hd _) (fun n => hx _)

theorem down_value (hx : Holds2 x3 x) (hd : Holds2 x4 d) :
    val_main_v19 x3 x4 = fun i => grad x d (i 0).val (i 1).val := by
  funext i
  rw [eq_ix2 i]
  pointwise [val_main_v19, val_main_v18, val_main_v16]
  exact grad_of_swapped (fun n => hd _) (fun n => hx _)

theorem out_value (hx : Holds2 x5 x) (hd : Holds2 x6 d) :
    val_main_v24 x5 x6 = fun i => grad x d (i 0).val (i 1).val := by
  funext i
  rw [eq_ix2 i]
  pointwise [val_main_v24, val_main_v23, val_main_v21]
  exact grad_of_swapped (fun n => hd _) (fun n => hx _)

theorem branch0_value (hx : Holds2 x7 x) (hd : Holds2 x10 d) :
    val_main_v29 x7 x10 = fun i => grad x (fun n j => d n (j)) (i 0).val (i 1).val := by
  funext i
  rw [eq_ix2 i]
  pointwise [val_main_v29, val_main_v28, val_main_v27, val_main_v0]
  exact grad_of_swapped (fun n => hd _) (fun n => hx _)

theorem branch1_value (hx : Holds2 x8 x) (hd : Holds2 x10 d) :
    val_main_v34 x8 x10 = fun i => grad x (fun n j => d n (1024 + j)) (i 0).val (i 1).val := by
  funext i
  rw [eq_ix2 i]
  pointwise [val_main_v34, val_main_v33, val_main_v32, val_main_v1]
  exact grad_of_swapped (fun n => hd _) (fun n => hx _)

theorem branch2_value (hx : Holds2 x9 x) (hd : Holds2 x10 d) :
    val_main_v39 x9 x10 = fun i => grad x (fun n j => d n (2048 + j)) (i 0).val (i 1).val := by
  funext i
  rw [eq_ix2 i]
  pointwise [val_main_v39, val_main_v38, val_main_v37, val_main_v2]
  exact grad_of_swapped (fun n => hd _) (fun n => hx _)

theorem input_value (hx : Holds2 x11 x) (hd : Holds2 x12 d) :
    val_main_v45 x11 x12 = fun i => grad x d (i 0).val (i 1).val := by
  funext i
  rw [eq_ix2 i]
  pointwise [val_main_v45, val_main_v44, val_main_v43, val_main_v41]
  exact grad_of_swapped (fun n => hd _) (fun n => hx _)

end Cert.Reference3Ideal.Weights

end
-- ==== Proof.WeightClaims.lean ====
/- THE VALUE CLAIM OF THE WEIGHTS' GRADIENTS: the eight results are the reference's. -/
module

public import proofs.«01_k».proof.Defs
public import proofs.«01_k».proof.Proof.Gen.Reference3Ideal.Run
public import proofs.«01_k».proof.Proof.WeightRun
public import proofs.«01_k».proof.Proof.WeightResults
public import proofs.«01_k».proof.Proof.WeightReference

@[expose] public section

set_option maxRecDepth 16384

noncomputable section

namespace Cert.Proof

open Idealize.ShloMosaic Idealize.ShloMosaic.TcCoe Idealize.SL.Sem Cert.Grid

/-- The reference of the weights' gradients runs, with its arguments unchanged and no counter. -/
theorem reference_frame3 : Cert.quiescent_Reference3Ideal := fun m g _ =>
  (θ_run (Cert.Reference3Ideal.defs (F := Ideal)) _ _).mono
    (fun r h => ⟨fun c => (h c).2.2.2.2.2.2.2.2, sem_eq_zero_of_no_sems (by decide) r.2⟩) (Cert.Reference3Ideal.Value.run m g)

/-- The eight gradients are the reference's. -/
theorem algebraic3 : Cert.algebraic_Kernel3Ideal_Reference3Ideal := by
  intro m g m' g' _ hargs
  refine ⟨_, _, _, _, _, _, _, _, Cert.Kernel3Ideal.Weights.run m g, ?_⟩
  refine (θ_run (Cert.Reference3Ideal.defs (F := Ideal)) _ _).mono (fun r h c => ?_) (Cert.Reference3Ideal.Value.run m' g')
  obtain ⟨a0, a1, a2, a3, a4, a5, a6, a7, a8, a9, a10, a11, a12⟩ := hargs c
  obtain ⟨r0, r1, r2, r3, r4, r5, r6, r7, rest⟩ := h c
  have h0 := holds2 (m ((c.tc : Thread Cert.Kernel3Ideal.nD Cert.Kernel3Ideal.τ).loc Cert.Kernel3Ideal.main_arg0))
  have h1 := holds2 (m ((c.tc : Thread Cert.Kernel3Ideal.nD Cert.Kernel3Ideal.τ).loc Cert.Kernel3Ideal.main_arg1))
  have h2 := holds2 (m ((c.tc : Thread Cert.Kernel3Ideal.nD Cert.Kernel3Ideal.τ).loc Cert.Kernel3Ideal.main_arg2))
  have h3 := holds2 (m ((c.tc : Thread Cert.Kernel3Ideal.nD Cert.Kernel3Ideal.τ).loc Cert.Kernel3Ideal.main_arg3))
  have h4 := holds2 (m ((c.tc : Thread Cert.Kernel3Ideal.nD Cert.Kernel3Ideal.τ).loc Cert.Kernel3Ideal.main_arg4))
  have h5 := holds2 (m ((c.tc : Thread Cert.Kernel3Ideal.nD Cert.Kernel3Ideal.τ).loc Cert.Kernel3Ideal.main_arg5))
  have h6 := holds2 (m ((c.tc : Thread Cert.Kernel3Ideal.nD Cert.Kernel3Ideal.τ).loc Cert.Kernel3Ideal.main_arg6))
  have h7 := holds2 (m ((c.tc : Thread Cert.Kernel3Ideal.nD Cert.Kernel3Ideal.τ).loc Cert.Kernel3Ideal.main_arg7))
  have h8 := holds2 (m ((c.tc : Thread Cert.Kernel3Ideal.nD Cert.Kernel3Ideal.τ).loc Cert.Kernel3Ideal.main_arg8))
  have h9 := holds2 (m ((c.tc : Thread Cert.Kernel3Ideal.nD Cert.Kernel3Ideal.τ).loc Cert.Kernel3Ideal.main_arg9))
  have h10 := holds2 (m ((c.tc : Thread Cert.Kernel3Ideal.nD Cert.Kernel3Ideal.τ).loc Cert.Kernel3Ideal.main_arg10))
  have h11 := holds2 (m ((c.tc : Thread Cert.Kernel3Ideal.nD Cert.Kernel3Ideal.τ).loc Cert.Kernel3Ideal.main_arg11))
  have h12 := holds2 (m ((c.tc : Thread Cert.Kernel3Ideal.nD Cert.Kernel3Ideal.τ).loc Cert.Kernel3Ideal.main_arg12))
  refine ⟨r0.trans ?_, r1.trans ?_, r2.trans ?_, r3.trans ?_, r4.trans ?_, r5.trans ?_, r6.trans ?_, r7.trans ?_, rest⟩
  · rw [Cert.Reference3Ideal.Read.val_main_v8_eq, a0, a1]
    exact (Cert.Reference3Ideal.Weights.gate_value h0 h1).trans (Cert.Kernel3Ideal.Weights.gate_result m g c h0 h1).symm
  · rw [Cert.Reference3Ideal.Read.val_main_v14_eq, a0, a2]
    exact (Cert.Reference3Ideal.Weights.up_value h0 h2).trans (Cert.Kernel3Ideal.Weights.up_result m g c h0 h2).symm
  · rw [Cert.Reference3Ideal.Read.val_main_v19_eq, a3, a4]
    exact (Cert.Reference3Ideal.Weights.down_value h3 h4).trans (Cert.Kernel3Ideal.Weights.down_result m g c h3 h4).symm
  · rw [Cert.Reference3Ideal.Read.val_main_v24_eq, a5, a6]
    exact (Cert.Reference3Ideal.Weights.out_value h5 h6).trans (Cert.Kernel3Ideal.Weights.out_result m g c h5 h6).symm
  · rw [Cert.Reference3Ideal.Read.val_main_v29_eq, a7, a10]
    exact (Cert.Reference3Ideal.Weights.branch0_value h7 h10).trans (Cert.Kernel3Ideal.Weights.branch0_result m g c h7 h10).symm
  · rw [Cert.Reference3Ideal.Read.val_main_v34_eq, a8, a10]
    exact (Cert.Reference3Ideal.Weights.branch1_value h8 h10).trans (Cert.Kernel3Ideal.Weights.branch1_result m g c h8 h10).symm
  · rw [Cert.Reference3Ideal.Read.val_main_v39_eq, a9, a10]
    exact (Cert.Reference3Ideal.Weights.branch2_value h9 h10).trans (Cert.Kernel3Ideal.Weights.branch2_result m g c h9 h10).symm
  · rw [Cert.Reference3Ideal.Read.val_main_v45_eq, a11, a12]
    exact (Cert.Reference3Ideal.Weights.input_value h11 h12).trans (Cert.Kernel3Ideal.Weights.input_result m g c h11 h12).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.AttnKernel
public import proofs.«01_k».proof.Proof.AttnReference
public import proofs.«01_k».proof.Proof.AttnFinite
public import proofs.«01_k».proof.Proof.MergeClaims
public import proofs.«01_k».proof.Proof.MixerBackClaims
public import proofs.«01_k».proof.Proof.ProjClaims
public import proofs.«01_k».proof.Proof.MixerClaims
public import proofs.«01_k».proof.Proof.NormClaims
public import proofs.«01_k».proof.Proof.WeightClaims
public import Idealize.ShloMosaic.Adequacy
public import Idealize.ShloMosaic.Init

@[expose] public section

noncomputable section

namespace Cert.Proof

open Idealize.ShloMosaic Idealize.SL.Sem Cert.KernelIdeal.Gen Cert.KernelIdeal.Attn Cert.Attn

/-- The reference runs, with its arguments unchanged and no counter. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
          = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3)
          = m ((c.tc : Thread Cert.ReferenceIdeal.nD Cert.ReferenceIdeal.τ).loc Cert.ReferenceIdeal.main_arg3))
        ∧ r.2.sem = fun _ => 0) :=
  (θ_run (Cert.ReferenceIdeal.defs (F := Ideal)) _ _).mono
    (fun r h => ⟨fun c => (h c).2.2.2.2, sem_eq_zero_of_no_sems (by decide) r.2⟩) (Cert.ReferenceIdeal.Value.run m g)

/-- The kernel's results are the reference's: both are the attention's output and its gradients. -/
theorem algebraic : Cert.algebraic_KernelIdeal_ReferenceIdeal_pre_all_finite := by
  intro m g m' g' hpre hargs
  have H := fun c => holds_args m hpre c
  refine ⟨fun c => W2 m g c (Proc.devRef .tc Cert.KernelIdeal.main_v0_0), fun c => W2 m g c (Proc.devRef .tc Cert.KernelIdeal.main_v1_0),
    fun c => W2 m g c (Proc.devRef .tc Cert.KernelIdeal.main_v1_1), fun c => W2 m g c (Proc.devRef .tc Cert.KernelIdeal.main_v1_2),
    Cert.KernelIdeal.Attn.run m g, ?_⟩
  refine (θ_run (Cert.ReferenceIdeal.defs (F := Ideal)) _ _).mono (fun r h c => ?_) (Cert.ReferenceIdeal.Value.run m' g')
  obtain ⟨a0, a1, a2, a3⟩ := hargs c
  obtain ⟨hq, hk, hv, hd⟩ := H c
  obtain ⟨r0, r1, r2, r3, rest⟩ := h c
  obtain ⟨k1, k2, k3⟩ := grad_results m g c hq hk hv hd
  have k0 := out_result m g c hq hk hv
  refine ⟨r0.trans ?_, r1.trans ?_, r2.trans ?_, r3.trans ?_, rest⟩
  · rw [Cert.ReferenceIdeal.Read.val_main_v39_eq, a0, a1, a2]
    refine Eq.trans (funext fun i => ?_) k0.symm
    exact (congrArg _ (eq_ix2 i)).trans (Cert.ReferenceIdeal.Attn.o_apply hq hk hv _ _)
  · rw [Cert.ReferenceIdeal.Read.val_main_v65_eq, a0, a1, a2, a3]
    refine Eq.trans (funext fun i => ?_) k1.symm
    exact (congrArg _ (eq_ix2 i)).trans (Cert.ReferenceIdeal.Attn.dq_apply hq hk hv hd _ _)
  · rw [Cert.ReferenceIdeal.Read.val_main_v64_eq, a0, a1, a2, a3]
    refine Eq.trans (funext fun i => ?_) k2.symm
    exact (congrArg _ (eq_ix2 i)).trans (Cert.ReferenceIdeal.Attn.dk_apply hq hk hv hd _ _)
  · rw [Cert.ReferenceIdeal.Read.val_main_v63_eq, a0, a1, a3]
    refine Eq.trans (funext fun i => ?_) k3.symm
    exact (congrArg _ (eq_ix2 i)).trans (Cert.ReferenceIdeal.Attn.dv_apply hq hk hd _ _)

/-- Every claim of the certificate. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts,
    Cert.Kernel6Ideal.Gen.facts, Cert.Reference6Ideal.Gen.facts, Cert.Kernel7.Gen.facts, Cert.Kernel7Ideal.Gen.facts,
    Cert.Reference7Ideal.Gen.facts, Cert.Kernel8.Gen.facts, Cert.Kernel8Ideal.Gen.facts, Cert.Reference8Ideal.Gen.facts,
    Cert.Pre_all_finite.Gen.facts,
    fun m ρ _ => Cert.Kernel.Gen.frame m ρ, fun m ρ _ => Cert.KernelIdeal.Gen.frame m ρ,
    fun m ρ _ => Cert.KernelIdeal.Gen.frame m ρ, fun m ρ _ => reference_frame m ρ, fun m ρ _ => reference_frame m ρ,
    fun m ρ _ => Cert.Kernel2.Gen.frame m ρ, fun m ρ _ => Cert.Kernel2Ideal.Gen.frame m ρ, reference_frame2,
    fun m ρ _ => Cert.Kernel3.Gen.frame m ρ, fun m ρ _ => Cert.Kernel3Ideal.Gen.frame m ρ, reference_frame3,
    fun m ρ _ => Cert.Kernel4.Gen.frame m ρ, fun m ρ _ => Cert.Kernel4Ideal.Gen.frame m ρ, reference_frame4,
    fun m ρ _ => Cert.Kernel5.Gen.frame m ρ, fun m ρ _ => Cert.Kernel5Ideal.Gen.frame m ρ, reference_frame5,
    fun m ρ _ => Cert.Kernel6.Gen.frame m ρ, fun m ρ _ => Cert.Kernel6Ideal.Gen.frame m ρ, reference_frame6, kernel_frame7,
    kernel_frame7_ideal, reference_frame7, kernel_frame8, kernel_frame8_ideal, reference_frame8,
    trivial, algebraic, trivial, algebraic2, trivial, algebraic3, trivial, algebraic4, trivial, algebraic5, trivial,
    algebraic6, trivial, algebraic7, trivial, algebraic8⟩

end Cert.Proof

end
